-- ==== Defs.lean ====
def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Xquant (m : (ℓ : Loc Cert.Xquant.nD Cert.Xquant.τ Cert.Xquant.sig) → Buf (Elt Bits) ℓ) : Prop :=
  True

def Pre_XquantIdeal (m : (ℓ : Loc Cert.XquantIdeal.nD Cert.XquantIdeal.τ Cert.XquantIdeal.sig) → Buf (Elt Ideal) ℓ) : Prop :=
  True

def Pre_XquantRefIdeal (m : (ℓ : Loc Cert.XquantRefIdeal.nD Cert.XquantRefIdeal.τ Cert.XquantRefIdeal.sig) → Buf (Elt Ideal) ℓ) : Prop :=
  True

def Pre_Wquant (m : (ℓ : Loc Cert.Wquant.nD Cert.Wquant.τ Cert.Wquant.sig) → Buf (Elt Bits) ℓ) : Prop :=
  True

def Pre_WquantIdeal (m : (ℓ : Loc Cert.WquantIdeal.nD Cert.WquantIdeal.τ Cert.WquantIdeal.sig) → Buf (Elt Ideal) ℓ) : Prop :=
  True

def Pre_WquantIdeal_positive_scales [hPre_positive_scales : Cert.Pre_positive_scales.Facts] (m : (ℓ : Loc Cert.WquantIdeal.nD Cert.WquantIdeal.τ Cert.WquantIdeal.sig) → Buf (Elt Ideal) ℓ) : Prop :=
  ∀ c : Dev Cert.WquantIdeal.nD,
    (Cert.Pre_positive_scales.fn (F := Ideal) (m ((c.tc : Thread Cert.WquantIdeal.nD Cert.WquantIdeal.τ).loc Cert.WquantIdeal.main_arg0)) (m ((c.tc : Thread Cert.WquantIdeal.nD Cert.WquantIdeal.τ).loc Cert.WquantIdeal.main_arg1)) (m ((c.tc : Thread Cert.WquantIdeal.nD Cert.WquantIdeal.τ).loc Cert.WquantIdeal.main_arg2)) (m ((c.tc : Thread Cert.WquantIdeal.nD Cert.WquantIdeal.τ).loc Cert.WquantIdeal.main_arg3)) (m ((c.tc : Thread Cert.WquantIdeal.nD Cert.WquantIdeal.τ).loc Cert.WquantIdeal.main_arg4)) (m ((c.tc : Thread Cert.WquantIdeal.nD Cert.WquantIdeal.τ).loc Cert.WquantIdeal.main_arg5))) = (fun _ => 1#1)

def Pre_WquantRefIdeal (m : (ℓ : Loc Cert.WquantRefIdeal.nD Cert.WquantRefIdeal.τ Cert.WquantRefIdeal.sig) → Buf (Elt Ideal) ℓ) : Prop :=
  True

def Pre_WquantRefIdeal_positive_scales [hPre_positive_scales : Cert.Pre_positive_scales.Facts] (m : (ℓ : Loc Cert.WquantRefIdeal.nD Cert.WquantRefIdeal.τ Cert.WquantRefIdeal.sig) → Buf (Elt Ideal) ℓ) : Prop :=
  ∀ c : Dev Cert.WquantRefIdeal.nD,
    (Cert.Pre_positive_scales.fn (F := Ideal) (m ((c.tc : Thread Cert.WquantRefIdeal.nD Cert.WquantRefIdeal.τ).loc Cert.WquantRefIdeal.main_arg0)) (m ((c.tc : Thread Cert.WquantRefIdeal.nD Cert.WquantRefIdeal.τ).loc Cert.WquantRefIdeal.main_arg1)) (m ((c.tc : Thread Cert.WquantRefIdeal.nD Cert.WquantRefIdeal.τ).loc Cert.WquantRefIdeal.main_arg2)) (m ((c.tc : Thread Cert.WquantRefIdeal.nD Cert.WquantRefIdeal.τ).loc Cert.WquantRefIdeal.main_arg3)) (m ((c.tc : Thread Cert.WquantRefIdeal.nD Cert.WquantRefIdeal.τ).loc Cert.WquantRefIdeal.main_arg4)) (m ((c.tc : Thread Cert.WquantRefIdeal.nD Cert.WquantRefIdeal.τ).loc Cert.WquantRefIdeal.main_arg5))) = (fun _ => 1#1)

def Pre_Wscale (m : (ℓ : Loc Cert.Wscale.nD Cert.Wscale.τ Cert.Wscale.sig) → Buf (Elt Bits) ℓ) : Prop :=
  True

def Pre_WscaleIdeal (m : (ℓ : Loc Cert.WscaleIdeal.nD Cert.WscaleIdeal.τ Cert.WscaleIdeal.sig) → Buf (Elt Ideal) ℓ) : Prop :=
  True

def Pre_WscaleRefIdeal (m : (ℓ : Loc Cert.WscaleRefIdeal.nD Cert.WscaleRefIdeal.τ Cert.WscaleRefIdeal.sig) → Buf (Elt Ideal) ℓ) : Prop :=
  True

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2)
      ∧ r.2.mem ((c.tc : Thread Cert.Dw.nD Cert.Dw.τ).loc Cert.Dw.main_arg3) = m ((c.tc : Thread Cert.Dw.nD Cert.Dw.τ).loc Cert.Dw.main_arg3)
      ∧ r.2.mem ((c.tc : Thread Cert.Dw.nD Cert.Dw.τ).loc Cert.Dw.main_arg4) = m ((c.tc : Thread Cert.Dw.nD Cert.Dw.τ).loc Cert.Dw.main_arg4)
      ∧ r.2.mem ((c.tc : Thread Cert.Dw.nD Cert.Dw.τ).loc Cert.Dw.main_arg5) = m ((c.tc : Thread Cert.Dw.nD Cert.Dw.τ).loc Cert.Dw.main_arg5)
      ∧ r.2.mem ((c.tc : Thread Cert.Dw.nD Cert.Dw.τ).loc Cert.Dw.main_arg6) = m ((c.tc : Thread Cert.Dw.nD Cert.Dw.τ).loc Cert.Dw.main_arg6))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
      ∧ r.2.mem ((c.tc : Thread Cert.DwIdeal.nD Cert.DwIdeal.τ).loc Cert.DwIdeal.main_arg3) = m ((c.tc : Thread Cert.DwIdeal.nD Cert.DwIdeal.τ).loc Cert.DwIdeal.main_arg3)
      ∧ r.2.mem ((c.tc : Thread Cert.DwIdeal.nD Cert.DwIdeal.τ).loc Cert.DwIdeal.main_arg4) = m ((c.tc : Thread Cert.DwIdeal.nD Cert.DwIdeal.τ).loc Cert.DwIdeal.main_arg4)
      ∧ r.2.mem ((c.tc : Thread Cert.DwIdeal.nD Cert.DwIdeal.τ).loc Cert.DwIdeal.main_arg5) = m ((c.tc : Thread Cert.DwIdeal.nD Cert.DwIdeal.τ).loc Cert.DwIdeal.main_arg5)
      ∧ r.2.mem ((c.tc : Thread Cert.DwIdeal.nD Cert.DwIdeal.τ).loc Cert.DwIdeal.main_arg6) = m ((c.tc : Thread Cert.DwIdeal.nD Cert.DwIdeal.τ).loc Cert.DwIdeal.main_arg6))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1)
      ∧ r.2.mem ((c.tc : Thread Cert.DwRefIdeal.nD Cert.DwRefIdeal.τ).loc Cert.DwRefIdeal.main_arg2) = m ((c.tc : Thread Cert.DwRefIdeal.nD Cert.DwRefIdeal.τ).loc Cert.DwRefIdeal.main_arg2)
      ∧ r.2.mem ((c.tc : Thread Cert.DwRefIdeal.nD Cert.DwRefIdeal.τ).loc Cert.DwRefIdeal.main_arg3) = m ((c.tc : Thread Cert.DwRefIdeal.nD Cert.DwRefIdeal.τ).loc Cert.DwRefIdeal.main_arg3)
      ∧ r.2.mem ((c.tc : Thread Cert.DwRefIdeal.nD Cert.DwRefIdeal.τ).loc Cert.DwRefIdeal.main_arg4) = m ((c.tc : Thread Cert.DwRefIdeal.nD Cert.DwRefIdeal.τ).loc Cert.DwRefIdeal.main_arg4)
      ∧ r.2.mem ((c.tc : Thread Cert.DwRefIdeal.nD Cert.DwRefIdeal.τ).loc Cert.DwRefIdeal.main_arg5) = m ((c.tc : Thread Cert.DwRefIdeal.nD Cert.DwRefIdeal.τ).loc Cert.DwRefIdeal.main_arg5)
      ∧ r.2.mem ((c.tc : Thread Cert.DwRefIdeal.nD Cert.DwRefIdeal.τ).loc Cert.DwRefIdeal.main_arg6) = m ((c.tc : Thread Cert.DwRefIdeal.nD Cert.DwRefIdeal.τ).loc Cert.DwRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9))
      ∧ r.2.sem = fun _ => 0)

def quiescent_Xquant [hXquant : Cert.Xquant.Facts] : Prop :=
  ∀ (m : (ℓ : Loc Cert.Xquant.nD Cert.Xquant.τ Cert.Xquant.sig) → Buf (Elt Bits) ℓ) (g : Dev Cert.Xquant.nD → PrngReg), Pre_Xquant m →
    θ_run (Cert.Xquant.defs (F := Bits)) (onTc (τ := Cert.Xquant.τ) (Cert.Xquant.main (F := Bits))) ⟨m, fun _ => 0, g⟩ (fun r => (∀ c : Dev Cert.Xquant.nD,
      r.2.mem ((c.tc : Thread Cert.Xquant.nD Cert.Xquant.τ).loc Cert.Xquant.main_arg0) = m ((c.tc : Thread Cert.Xquant.nD Cert.Xquant.τ).loc Cert.Xquant.main_arg0)
      ∧ r.2.mem ((c.tc : Thread Cert.Xquant.nD Cert.Xquant.τ).loc Cert.Xquant.main_arg1) = m ((c.tc : Thread Cert.Xquant.nD Cert.Xquant.τ).loc Cert.Xquant.main_arg1))
      ∧ r.2.sem = fun _ => 0)

def quiescent_XquantIdeal [hXquantIdeal : Cert.XquantIdeal.Facts] : Prop :=
  ∀ (m : (ℓ : Loc Cert.XquantIdeal.nD Cert.XquantIdeal.τ Cert.XquantIdeal.sig) → Buf (Elt Ideal) ℓ) (g : Dev Cert.XquantIdeal.nD → PrngReg), Pre_XquantIdeal m →
    θ_run (Cert.XquantIdeal.defs (F := Ideal)) (onTc (τ := Cert.XquantIdeal.τ) (Cert.XquantIdeal.main (F := Ideal))) ⟨m, fun _ => 0, g⟩ (fun r => (∀ c : Dev Cert.XquantIdeal.nD,
      r.2.mem ((c.tc : Thread Cert.XquantIdeal.nD Cert.XquantIdeal.τ).loc Cert.XquantIdeal.main_arg0) = m ((c.tc : Thread Cert.XquantIdeal.nD Cert.XquantIdeal.τ).loc Cert.XquantIdeal.main_arg0)
      ∧ r.2.mem ((c.tc : Thread Cert.XquantIdeal.nD Cert.XquantIdeal.τ).loc Cert.XquantIdeal.main_arg1) = m ((c.tc : Thread Cert.XquantIdeal.nD Cert.XquantIdeal.τ).loc Cert.XquantIdeal.main_arg1))
      ∧ r.2.sem = fun _ => 0)

def quiescent_XquantRefIdeal [hXquantRefIdeal : Cert.XquantRefIdeal.Facts] : Prop :=
  ∀ (m : (ℓ : Loc Cert.XquantRefIdeal.nD Cert.XquantRefIdeal.τ Cert.XquantRefIdeal.sig) → Buf (Elt Ideal) ℓ) (g : Dev Cert.XquantRefIdeal.nD → PrngReg), Pre_XquantRefIdeal m →
    θ_run (Cert.XquantRefIdeal.defs (F := Ideal)) (onTc (τ := Cert.XquantRefIdeal.τ) (Cert.XquantRefIdeal.main (F := Ideal))) ⟨m, fun _ => 0, g⟩ (fun r => (∀ c : Dev Cert.XquantRefIdeal.nD,
      r.2.mem ((c.tc : Thread Cert.XquantRefIdeal.nD Cert.XquantRefIdeal.τ).loc Cert.XquantRefIdeal.main_arg0) = m ((c.tc : Thread Cert.XquantRefIdeal.nD Cert.XquantRefIdeal.τ).loc Cert.XquantRefIdeal.main_arg0)
      ∧ r.2.mem ((c.tc : Thread Cert.XquantRefIdeal.nD Cert.XquantRefIdeal.τ).loc Cert.XquantRefIdeal.main_arg1) = m ((c.tc : Thread Cert.XquantRefIdeal.nD Cert.XquantRefIdeal.τ).loc Cert.XquantRefIdeal.main_arg1))
      ∧ r.2.sem = fun _ => 0)

def quiescent_Wquant [hWquant : Cert.Wquant.Facts] : Prop :=
  ∀ (m : (ℓ : Loc Cert.Wquant.nD Cert.Wquant.τ Cert.Wquant.sig) → Buf (Elt Bits) ℓ) (g : Dev Cert.Wquant.nD → PrngReg), Pre_Wquant m →
    θ_run (Cert.Wquant.defs (F := Bits)) (onTc (τ := Cert.Wquant.τ) (Cert.Wquant.main (F := Bits))) ⟨m, fun _ => 0, g⟩ (fun r => (∀ c : Dev Cert.Wquant.nD,
      r.2.mem ((c.tc : Thread Cert.Wquant.nD Cert.Wquant.τ).loc Cert.Wquant.main_arg0) = m ((c.tc : Thread Cert.Wquant.nD Cert.Wquant.τ).loc Cert.Wquant.main_arg0)
      ∧ r.2.mem ((c.tc : Thread Cert.Wquant.nD Cert.Wquant.τ).loc Cert.Wquant.main_arg1) = m ((c.tc : Thread Cert.Wquant.nD Cert.Wquant.τ).loc Cert.Wquant.main_arg1)
      ∧ r.2.mem ((c.tc : Thread Cert.Wquant.nD Cert.Wquant.τ).loc Cert.Wquant.main_arg2) = m ((c.tc : Thread Cert.Wquant.nD Cert.Wquant.τ).loc Cert.Wquant.main_arg2)
      ∧ r.2.mem ((c.tc : Thread Cert.Wquant.nD Cert.Wquant.τ).loc Cert.Wquant.main_arg3) = m ((c.tc : Thread Cert.Wquant.nD Cert.Wquant.τ).loc Cert.Wquant.main_arg3)
      ∧ r.2.mem ((c.tc : Thread Cert.Wquant.nD Cert.Wquant.τ).loc Cert.Wquant.main_arg4) = m ((c.tc : Thread Cert.Wquant.nD Cert.Wquant.τ).loc Cert.Wquant.main_arg4)
      ∧ r.2.mem ((c.tc : Thread Cert.Wquant.nD Cert.Wquant.τ).loc Cert.Wquant.main_arg5) = m ((c.tc : Thread Cert.Wquant.nD Cert.Wquant.τ).loc Cert.Wquant.main_arg5))
      ∧ r.2.sem = fun _ => 0)

def quiescent_WquantIdeal [hWquantIdeal : Cert.WquantIdeal.Facts] : Prop :=
  ∀ (m : (ℓ : Loc Cert.WquantIdeal.nD Cert.WquantIdeal.τ Cert.WquantIdeal.sig) → Buf (Elt Ideal) ℓ) (g : Dev Cert.WquantIdeal.nD → PrngReg), Pre_WquantIdeal m →
    θ_run (Cert.WquantIdeal.defs (F := Ideal)) (onTc (τ := Cert.WquantIdeal.τ) (Cert.WquantIdeal.main (F := Ideal))) ⟨m, fun _ => 0, g⟩ (fun r => (∀ c : Dev Cert.WquantIdeal.nD,
      r.2.mem ((c.tc : Thread Cert.WquantIdeal.nD Cert.WquantIdeal.τ).loc Cert.WquantIdeal.main_arg0) = m ((c.tc : Thread Cert.WquantIdeal.nD Cert.WquantIdeal.τ).loc Cert.WquantIdeal.main_arg0)
      ∧ r.2.mem ((c.tc : Thread Cert.WquantIdeal.nD Cert.WquantIdeal.τ).loc Cert.WquantIdeal.main_arg1) = m ((c.tc : Thread Cert.WquantIdeal.nD Cert.WquantIdeal.τ).loc Cert.WquantIdeal.main_arg1)
      ∧ r.2.mem ((c.tc : Thread Cert.WquantIdeal.nD Cert.WquantIdeal.τ).loc Cert.WquantIdeal.main_arg2) = m ((c.tc : Thread Cert.WquantIdeal.nD Cert.WquantIdeal.τ).loc Cert.WquantIdeal.main_arg2)
      ∧ r.2.mem ((c.tc : Thread Cert.WquantIdeal.nD Cert.WquantIdeal.τ).loc Cert.WquantIdeal.main_arg3) = m ((c.tc : Thread Cert.WquantIdeal.nD Cert.WquantIdeal.τ).loc Cert.WquantIdeal.main_arg3)
      ∧ r.2.mem ((c.tc : Thread Cert.WquantIdeal.nD Cert.WquantIdeal.τ).loc Cert.WquantIdeal.main_arg4) = m ((c.tc : Thread Cert.WquantIdeal.nD Cert.WquantIdeal.τ).loc Cert.WquantIdeal.main_arg4)
      ∧ r.2.mem ((c.tc : Thread Cert.WquantIdeal.nD Cert.WquantIdeal.τ).loc Cert.WquantIdeal.main_arg5) = m ((c.tc : Thread Cert.WquantIdeal.nD Cert.WquantIdeal.τ).loc Cert.WquantIdeal.main_arg5))
      ∧ r.2.sem = fun _ => 0)

def quiescent_WquantIdeal_pre_positive_scales [hWquantIdeal : Cert.WquantIdeal.Facts] [hPre_positive_scales : Cert.Pre_positive_scales.Facts] : Prop :=
  ∀ (m : (ℓ : Loc Cert.WquantIdeal.nD Cert.WquantIdeal.τ Cert.WquantIdeal.sig) → Buf (Elt Ideal) ℓ) (g : Dev Cert.WquantIdeal.nD → PrngReg), Pre_WquantIdeal_positive_scales m →
    θ_run (Cert.WquantIdeal.defs (F := Ideal)) (onTc (τ := Cert.WquantIdeal.τ) (Cert.WquantIdeal.main (F := Ideal))) ⟨m, fun _ => 0, g⟩ (fun r => (∀ c : Dev Cert.WquantIdeal.nD,
      r.2.mem ((c.tc : Thread Cert.WquantIdeal.nD Cert.WquantIdeal.τ).loc Cert.WquantIdeal.main_arg0) = m ((c.tc : Thread Cert.WquantIdeal.nD Cert.WquantIdeal.τ).loc Cert.WquantIdeal.main_arg0)
      ∧ r.2.mem ((c.tc : Thread Cert.WquantIdeal.nD Cert.WquantIdeal.τ).loc Cert.WquantIdeal.main_arg1) = m ((c.tc : Thread Cert.WquantIdeal.nD Cert.WquantIdeal.τ).loc Cert.WquantIdeal.main_arg1)
      ∧ r.2.mem ((c.tc : Thread Cert.WquantIdeal.nD Cert.WquantIdeal.τ).loc Cert.WquantIdeal.main_arg2) = m ((c.tc : Thread Cert.WquantIdeal.nD Cert.WquantIdeal.τ).loc Cert.WquantIdeal.main_arg2)
      ∧ r.2.mem ((c.tc : Thread Cert.WquantIdeal.nD Cert.WquantIdeal.τ).loc Cert.WquantIdeal.main_arg3) = m ((c.tc : Thread Cert.WquantIdeal.nD Cert.WquantIdeal.τ).loc Cert.WquantIdeal.main_arg3)
      ∧ r.2.mem ((c.tc : Thread Cert.WquantIdeal.nD Cert.WquantIdeal.τ).loc Cert.WquantIdeal.main_arg4) = m ((c.tc : Thread Cert.WquantIdeal.nD Cert.WquantIdeal.τ).loc Cert.WquantIdeal.main_arg4)
      ∧ r.2.mem ((c.tc : Thread Cert.WquantIdeal.nD Cert.WquantIdeal.τ).loc Cert.WquantIdeal.main_arg5) = m ((c.tc : Thread Cert.WquantIdeal.nD Cert.WquantIdeal.τ).loc Cert.WquantIdeal.main_arg5))
      ∧ r.2.sem = fun _ => 0)

def quiescent_WquantRefIdeal [hWquantRefIdeal : Cert.WquantRefIdeal.Facts] : Prop :=
  ∀ (m : (ℓ : Loc Cert.WquantRefIdeal.nD Cert.WquantRefIdeal.τ Cert.WquantRefIdeal.sig) → Buf (Elt Ideal) ℓ) (g : Dev Cert.WquantRefIdeal.nD → PrngReg), Pre_WquantRefIdeal m →
    θ_run (Cert.WquantRefIdeal.defs (F := Ideal)) (onTc (τ := Cert.WquantRefIdeal.τ) (Cert.WquantRefIdeal.main (F := Ideal))) ⟨m, fun _ => 0, g⟩ (fun r => (∀ c : Dev Cert.WquantRefIdeal.nD,
      r.2.mem ((c.tc : Thread Cert.WquantRefIdeal.nD Cert.WquantRefIdeal.τ).loc Cert.WquantRefIdeal.main_arg0) = m ((c.tc : Thread Cert.WquantRefIdeal.nD Cert.WquantRefIdeal.τ).loc Cert.WquantRefIdeal.main_arg0)
      ∧ r.2.mem ((c.tc : Thread Cert.WquantRefIdeal.nD Cert.WquantRefIdeal.τ).loc Cert.WquantRefIdeal.main_arg1) = m ((c.tc : Thread Cert.WquantRefIdeal.nD Cert.WquantRefIdeal.τ).loc Cert.WquantRefIdeal.main_arg1)
      ∧ r.2.mem ((c.tc : Thread Cert.WquantRefIdeal.nD Cert.WquantRefIdeal.τ).loc Cert.WquantRefIdeal.main_arg2) = m ((c.tc : Thread Cert.WquantRefIdeal.nD Cert.WquantRefIdeal.τ).loc Cert.WquantRefIdeal.main_arg2)
      ∧ r.2.mem ((c.tc : Thread Cert.WquantRefIdeal.nD Cert.WquantRefIdeal.τ).loc Cert.WquantRefIdeal.main_arg3) = m ((c.tc : Thread Cert.WquantRefIdeal.nD Cert.WquantRefIdeal.τ).loc Cert.WquantRefIdeal.main_arg3)
      ∧ r.2.mem ((c.tc : Thread Cert.WquantRefIdeal.nD Cert.WquantRefIdeal.τ).loc Cert.WquantRefIdeal.main_arg4) = m ((c.tc : Thread Cert.WquantRefIdeal.nD Cert.WquantRefIdeal.τ).loc Cert.WquantRefIdeal.main_arg4)
      ∧ r.2.mem ((c.tc : Thread Cert.WquantRefIdeal.nD Cert.WquantRefIdeal.τ).loc Cert.WquantRefIdeal.main_arg5) = m ((c.tc : Thread Cert.WquantRefIdeal.nD Cert.WquantRefIdeal.τ).loc Cert.WquantRefIdeal.main_arg5))
      ∧ r.2.sem = fun _ => 0)

def quiescent_WquantRefIdeal_pre_positive_scales [hWquantRefIdeal : Cert.WquantRefIdeal.Facts] [hPre_positive_scales : Cert.Pre_positive_scales.Facts] : Prop :=
  ∀ (m : (ℓ : Loc Cert.WquantRefIdeal.nD Cert.WquantRefIdeal.τ Cert.WquantRefIdeal.sig) → Buf (Elt Ideal) ℓ) (g : Dev Cert.WquantRefIdeal.nD → PrngReg), Pre_WquantRefIdeal_positive_scales m →
    θ_run (Cert.WquantRefIdeal.defs (F := Ideal)) (onTc (τ := Cert.WquantRefIdeal.τ) (Cert.WquantRefIdeal.main (F := Ideal))) ⟨m, fun _ => 0, g⟩ (fun r => (∀ c : Dev Cert.WquantRefIdeal.nD,
      r.2.mem ((c.tc : Thread Cert.WquantRefIdeal.nD Cert.WquantRefIdeal.τ).loc Cert.WquantRefIdeal.main_arg0) = m ((c.tc : Thread Cert.WquantRefIdeal.nD Cert.WquantRefIdeal.τ).loc Cert.WquantRefIdeal.main_arg0)
      ∧ r.2.mem ((c.tc : Thread Cert.WquantRefIdeal.nD Cert.WquantRefIdeal.τ).loc Cert.WquantRefIdeal.main_arg1) = m ((c.tc : Thread Cert.WquantRefIdeal.nD Cert.WquantRefIdeal.τ).loc Cert.WquantRefIdeal.main_arg1)
      ∧ r.2.mem ((c.tc : Thread Cert.WquantRefIdeal.nD Cert.WquantRefIdeal.τ).loc Cert.WquantRefIdeal.main_arg2) = m ((c.tc : Thread Cert.WquantRefIdeal.nD Cert.WquantRefIdeal.τ).loc Cert.WquantRefIdeal.main_arg2)
      ∧ r.2.mem ((c.tc : Thread Cert.WquantRefIdeal.nD Cert.WquantRefIdeal.τ).loc Cert.WquantRefIdeal.main_arg3) = m ((c.tc : Thread Cert.WquantRefIdeal.nD Cert.WquantRefIdeal.τ).loc Cert.WquantRefIdeal.main_arg3)
      ∧ r.2.mem ((c.tc : Thread Cert.WquantRefIdeal.nD Cert.WquantRefIdeal.τ).loc Cert.WquantRefIdeal.main_arg4) = m ((c.tc : Thread Cert.WquantRefIdeal.nD Cert.WquantRefIdeal.τ).loc Cert.WquantRefIdeal.main_arg4)
      ∧ r.2.mem ((c.tc : Thread Cert.WquantRefIdeal.nD Cert.WquantRefIdeal.τ).loc Cert.WquantRefIdeal.main_arg5) = m ((c.tc : Thread Cert.WquantRefIdeal.nD Cert.WquantRefIdeal.τ).loc Cert.WquantRefIdeal.main_arg5))
      ∧ r.2.sem = fun _ => 0)

def quiescent_Wscale [hWscale : Cert.Wscale.Facts] : Prop :=
  ∀ (m : (ℓ : Loc Cert.Wscale.nD Cert.Wscale.τ Cert.Wscale.sig) → Buf (Elt Bits) ℓ) (g : Dev Cert.Wscale.nD → PrngReg), Pre_Wscale m →
    θ_run (Cert.Wscale.defs (F := Bits)) (onTc (τ := Cert.Wscale.τ) (Cert.Wscale.main (F := Bits))) ⟨m, fun _ => 0, g⟩ (fun r => (∀ c : Dev Cert.Wscale.nD,
      r.2.mem ((c.tc : Thread Cert.Wscale.nD Cert.Wscale.τ).loc Cert.Wscale.main_arg0) = m ((c.tc : Thread Cert.Wscale.nD Cert.Wscale.τ).loc Cert.Wscale.main_arg0)
      ∧ r.2.mem ((c.tc : Thread Cert.Wscale.nD Cert.Wscale.τ).loc Cert.Wscale.main_arg1) = m ((c.tc : Thread Cert.Wscale.nD Cert.Wscale.τ).loc Cert.Wscale.main_arg1)
      ∧ r.2.mem ((c.tc : Thread Cert.Wscale.nD Cert.Wscale.τ).loc Cert.Wscale.main_arg2) = m ((c.tc : Thread Cert.Wscale.nD Cert.Wscale.τ).loc Cert.Wscale.main_arg2))
      ∧ r.2.sem = fun _ => 0)

def quiescent_WscaleIdeal [hWscaleIdeal : Cert.WscaleIdeal.Facts] : Prop :=
  ∀ (m : (ℓ : Loc Cert.WscaleIdeal.nD Cert.WscaleIdeal.τ Cert.WscaleIdeal.sig) → Buf (Elt Ideal) ℓ) (g : Dev Cert.WscaleIdeal.nD → PrngReg), Pre_WscaleIdeal m →
    θ_run (Cert.WscaleIdeal.defs (F := Ideal)) (onTc (τ := Cert.WscaleIdeal.τ) (Cert.WscaleIdeal.main (F := Ideal))) ⟨m, fun _ => 0, g⟩ (fun r => (∀ c : Dev Cert.WscaleIdeal.nD,
      r.2.mem ((c.tc : Thread Cert.WscaleIdeal.nD Cert.WscaleIdeal.τ).loc Cert.WscaleIdeal.main_arg0) = m ((c.tc : Thread Cert.WscaleIdeal.nD Cert.WscaleIdeal.τ).loc Cert.WscaleIdeal.main_arg0)
      ∧ r.2.mem ((c.tc : Thread Cert.WscaleIdeal.nD Cert.WscaleIdeal.τ).loc Cert.WscaleIdeal.main_arg1) = m ((c.tc : Thread Cert.WscaleIdeal.nD Cert.WscaleIdeal.τ).loc Cert.WscaleIdeal.main_arg1)
      ∧ r.2.mem ((c.tc : Thread Cert.WscaleIdeal.nD Cert.WscaleIdeal.τ).loc Cert.WscaleIdeal.main_arg2) = m ((c.tc : Thread Cert.WscaleIdeal.nD Cert.WscaleIdeal.τ).loc Cert.WscaleIdeal.main_arg2))
      ∧ r.2.sem = fun _ => 0)

def quiescent_WscaleRefIdeal [hWscaleRefIdeal : Cert.WscaleRefIdeal.Facts] : Prop :=
  ∀ (m : (ℓ : Loc Cert.WscaleRefIdeal.nD Cert.WscaleRefIdeal.τ Cert.WscaleRefIdeal.sig) → Buf (Elt Ideal) ℓ) (g : Dev Cert.WscaleRefIdeal.nD → PrngReg), Pre_WscaleRefIdeal m →
    θ_run (Cert.WscaleRefIdeal.defs (F := Ideal)) (onTc (τ := Cert.WscaleRefIdeal.τ) (Cert.WscaleRefIdeal.main (F := Ideal))) ⟨m, fun _ => 0, g⟩ (fun r => (∀ c : Dev Cert.WscaleRefIdeal.nD,
      r.2.mem ((c.tc : Thread Cert.WscaleRefIdeal.nD Cert.WscaleRefIdeal.τ).loc Cert.WscaleRefIdeal.main_arg0) = m ((c.tc : Thread Cert.WscaleRefIdeal.nD Cert.WscaleRefIdeal.τ).loc Cert.WscaleRefIdeal.main_arg0)
      ∧ r.2.mem ((c.tc : Thread Cert.WscaleRefIdeal.nD Cert.WscaleRefIdeal.τ).loc Cert.WscaleRefIdeal.main_arg1) = m ((c.tc : Thread Cert.WscaleRefIdeal.nD Cert.WscaleRefIdeal.τ).loc Cert.WscaleRefIdeal.main_arg1)
      ∧ r.2.mem ((c.tc : Thread Cert.WscaleRefIdeal.nD Cert.WscaleRefIdeal.τ).loc Cert.WscaleRefIdeal.main_arg2) = m ((c.tc : Thread Cert.WscaleRefIdeal.nD Cert.WscaleRefIdeal.τ).loc Cert.WscaleRefIdeal.main_arg2))
      ∧ r.2.sem = fun _ => 0)

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)
      ∧ m' ((c.tc : Thread Cert.DwRefIdeal.nD Cert.DwRefIdeal.τ).loc Cert.DwRefIdeal.main_arg2) = m ((c.tc : Thread Cert.DwIdeal.nD Cert.DwIdeal.τ).loc Cert.DwIdeal.main_arg2)
      ∧ m' ((c.tc : Thread Cert.DwRefIdeal.nD Cert.DwRefIdeal.τ).loc Cert.DwRefIdeal.main_arg3) = m ((c.tc : Thread Cert.DwIdeal.nD Cert.DwIdeal.τ).loc Cert.DwIdeal.main_arg3)
      ∧ m' ((c.tc : Thread Cert.DwRefIdeal.nD Cert.DwRefIdeal.τ).loc Cert.DwRefIdeal.main_arg4) = m ((c.tc : Thread Cert.DwIdeal.nD Cert.DwIdeal.τ).loc Cert.DwIdeal.main_arg4)
      ∧ m' ((c.tc : Thread Cert.DwRefIdeal.nD Cert.DwRefIdeal.τ).loc Cert.DwRefIdeal.main_arg5) = m ((c.tc : Thread Cert.DwIdeal.nD Cert.DwIdeal.τ).loc Cert.DwIdeal.main_arg5)
      ∧ m' ((c.tc : Thread Cert.DwRefIdeal.nD Cert.DwRefIdeal.τ).loc Cert.DwRefIdeal.main_arg6) = m ((c.tc : Thread Cert.DwIdeal.nD Cert.DwIdeal.τ).loc Cert.DwIdeal.main_arg6)) →
    ∃ (v0 : (c : Dev Cert.DwIdeal.nD) → Buf (Elt Ideal) ((c.tc : Thread Cert.DwIdeal.nD Cert.DwIdeal.τ).loc Cert.DwIdeal.main_v4_0)) (v1 : (c : Dev Cert.DwIdeal.nD) → Buf (Elt Ideal) ((c.tc : Thread Cert.DwIdeal.nD Cert.DwIdeal.τ).loc Cert.DwIdeal.main_v4_1)) (v2 : (c : Dev Cert.DwIdeal.nD) → Buf (Elt Ideal) ((c.tc : Thread Cert.DwIdeal.nD Cert.DwIdeal.τ).loc Cert.DwIdeal.main_v4_2)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v4_0) = v0 c
          ∧ r.2.mem ((c.tc : Thread Cert.DwIdeal.nD Cert.DwIdeal.τ).loc Cert.DwIdeal.main_v4_1) = v1 c
          ∧ r.2.mem ((c.tc : Thread Cert.DwIdeal.nD Cert.DwIdeal.τ).loc Cert.DwIdeal.main_v4_2) = v2 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
          ∧ r.2.mem ((c.tc : Thread Cert.DwIdeal.nD Cert.DwIdeal.τ).loc Cert.DwIdeal.main_arg3) = m ((c.tc : Thread Cert.DwIdeal.nD Cert.DwIdeal.τ).loc Cert.DwIdeal.main_arg3)
          ∧ r.2.mem ((c.tc : Thread Cert.DwIdeal.nD Cert.DwIdeal.τ).loc Cert.DwIdeal.main_arg4) = m ((c.tc : Thread Cert.DwIdeal.nD Cert.DwIdeal.τ).loc Cert.DwIdeal.main_arg4)
          ∧ r.2.mem ((c.tc : Thread Cert.DwIdeal.nD Cert.DwIdeal.τ).loc Cert.DwIdeal.main_arg5) = m ((c.tc : Thread Cert.DwIdeal.nD Cert.DwIdeal.τ).loc Cert.DwIdeal.main_arg5)
          ∧ r.2.mem ((c.tc : Thread Cert.DwIdeal.nD Cert.DwIdeal.τ).loc Cert.DwIdeal.main_arg6) = m ((c.tc : Thread Cert.DwIdeal.nD Cert.DwIdeal.τ).loc Cert.DwIdeal.main_arg6))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v15) = v0 c
          ∧ r.2.mem ((c.tc : Thread Cert.DwRefIdeal.nD Cert.DwRefIdeal.τ).loc Cert.DwRefIdeal.main_v17) = v1 c
          ∧ r.2.mem ((c.tc : Thread Cert.DwRefIdeal.nD Cert.DwRefIdeal.τ).loc Cert.DwRefIdeal.main_v19) = v2 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1)
          ∧ r.2.mem ((c.tc : Thread Cert.DwRefIdeal.nD Cert.DwRefIdeal.τ).loc Cert.DwRefIdeal.main_arg2) = m' ((c.tc : Thread Cert.DwRefIdeal.nD Cert.DwRefIdeal.τ).loc Cert.DwRefIdeal.main_arg2)
          ∧ r.2.mem ((c.tc : Thread Cert.DwRefIdeal.nD Cert.DwRefIdeal.τ).loc Cert.DwRefIdeal.main_arg3) = m' ((c.tc : Thread Cert.DwRefIdeal.nD Cert.DwRefIdeal.τ).loc Cert.DwRefIdeal.main_arg3)
          ∧ r.2.mem ((c.tc : Thread Cert.DwRefIdeal.nD Cert.DwRefIdeal.τ).loc Cert.DwRefIdeal.main_arg4) = m' ((c.tc : Thread Cert.DwRefIdeal.nD Cert.DwRefIdeal.τ).loc Cert.DwRefIdeal.main_arg4)
          ∧ r.2.mem ((c.tc : Thread Cert.DwRefIdeal.nD Cert.DwRefIdeal.τ).loc Cert.DwRefIdeal.main_arg5) = m' ((c.tc : Thread Cert.DwRefIdeal.nD Cert.DwRefIdeal.τ).loc Cert.DwRefIdeal.main_arg5)
          ∧ r.2.mem ((c.tc : Thread Cert.DwRefIdeal.nD Cert.DwRefIdeal.τ).loc Cert.DwRefIdeal.main_arg6) = m' ((c.tc : Thread Cert.DwRefIdeal.nD Cert.DwRefIdeal.τ).loc Cert.DwRefIdeal.main_arg6))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)
      ∧ m' ((c.tc : Thread Cert.ProjRefIdeal.nD Cert.ProjRefIdeal.τ).loc Cert.ProjRefIdeal.main_arg9) = m ((c.tc : Thread Cert.ProjIdeal.nD Cert.ProjIdeal.τ).loc Cert.ProjIdeal.main_arg9)) →
    ∃ (v0 : (c : Dev Cert.ProjIdeal.nD) → Buf (Elt Ideal) ((c.tc : Thread Cert.ProjIdeal.nD Cert.ProjIdeal.τ).loc Cert.ProjIdeal.main_v3_0)) (v1 : (c : Dev Cert.ProjIdeal.nD) → Buf (Elt Ideal) ((c.tc : Thread Cert.ProjIdeal.nD Cert.ProjIdeal.τ).loc Cert.ProjIdeal.main_v3_1)) (v2 : (c : Dev Cert.ProjIdeal.nD) → Buf (Elt Ideal) ((c.tc : Thread Cert.ProjIdeal.nD Cert.ProjIdeal.τ).loc Cert.ProjIdeal.main_v3_2)) (v3 : (c : Dev Cert.ProjIdeal.nD) → Buf (Elt Ideal) ((c.tc : Thread Cert.ProjIdeal.nD Cert.ProjIdeal.τ).loc Cert.ProjIdeal.main_v3_3)) (v4 : (c : Dev Cert.ProjIdeal.nD) → Buf (Elt Ideal) ((c.tc : Thread Cert.ProjIdeal.nD Cert.ProjIdeal.τ).loc Cert.ProjIdeal.main_v3_4)) (v5 : (c : Dev Cert.ProjIdeal.nD) → Buf (Elt Ideal) ((c.tc : Thread Cert.ProjIdeal.nD Cert.ProjIdeal.τ).loc Cert.ProjIdeal.main_v3_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3_0) = v0 c
          ∧ r.2.mem ((c.tc : Thread Cert.ProjIdeal.nD Cert.ProjIdeal.τ).loc Cert.ProjIdeal.main_v3_1) = v1 c
          ∧ r.2.mem ((c.tc : Thread Cert.ProjIdeal.nD Cert.ProjIdeal.τ).loc Cert.ProjIdeal.main_v3_2) = v2 c
          ∧ r.2.mem ((c.tc : Thread Cert.ProjIdeal.nD Cert.ProjIdeal.τ).loc Cert.ProjIdeal.main_v3_3) = v3 c
          ∧ r.2.mem ((c.tc : Thread Cert.ProjIdeal.nD Cert.ProjIdeal.τ).loc Cert.ProjIdeal.main_v3_4) = v4 c
          ∧ r.2.mem ((c.tc : Thread Cert.ProjIdeal.nD Cert.ProjIdeal.τ).loc Cert.ProjIdeal.main_v3_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v28) = v0 c
          ∧ r.2.mem ((c.tc : Thread Cert.ProjRefIdeal.nD Cert.ProjRefIdeal.τ).loc Cert.ProjRefIdeal.main_v26) = v1 c
          ∧ r.2.mem ((c.tc : Thread Cert.ProjRefIdeal.nD Cert.ProjRefIdeal.τ).loc Cert.ProjRefIdeal.main_v36) = v2 c
          ∧ r.2.mem ((c.tc : Thread Cert.ProjRefIdeal.nD Cert.ProjRefIdeal.τ).loc Cert.ProjRefIdeal.main_v42) = v3 c
          ∧ r.2.mem ((c.tc : Thread Cert.ProjRefIdeal.nD Cert.ProjRefIdeal.τ).loc Cert.ProjRefIdeal.main_v45) = v4 c
          ∧ r.2.mem ((c.tc : Thread Cert.ProjRefIdeal.nD Cert.ProjRefIdeal.τ).loc Cert.ProjRefIdeal.main_v48) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8)
          ∧ r.2.mem ((c.tc : Thread Cert.ProjRefIdeal.nD Cert.ProjRefIdeal.τ).loc Cert.ProjRefIdeal.main_arg9) = m' ((c.tc : Thread Cert.ProjRefIdeal.nD Cert.ProjRefIdeal.τ).loc Cert.ProjRefIdeal.main_arg9))

def preserves_Xquant_XquantIdeal : Prop :=
  True

def algebraic_XquantIdeal_XquantRefIdeal [hXquantIdeal : Cert.XquantIdeal.Facts] [hXquantRefIdeal : Cert.XquantRefIdeal.Facts] : Prop :=
  ∀ (m : (ℓ : Loc Cert.XquantIdeal.nD Cert.XquantIdeal.τ Cert.XquantIdeal.sig) → Buf (Elt Ideal) ℓ) (g : Dev Cert.XquantIdeal.nD → PrngReg)
    (m' : (ℓ : Loc Cert.XquantRefIdeal.nD Cert.XquantRefIdeal.τ Cert.XquantRefIdeal.sig) → Buf (Elt Ideal) ℓ) (g' : Dev Cert.XquantRefIdeal.nD → PrngReg), Pre_XquantIdeal m →
    (∀ c : Dev Cert.XquantIdeal.nD,
      m' ((c.tc : Thread Cert.XquantRefIdeal.nD Cert.XquantRefIdeal.τ).loc Cert.XquantRefIdeal.main_arg0) = m ((c.tc : Thread Cert.XquantIdeal.nD Cert.XquantIdeal.τ).loc Cert.XquantIdeal.main_arg0)
      ∧ m' ((c.tc : Thread Cert.XquantRefIdeal.nD Cert.XquantRefIdeal.τ).loc Cert.XquantRefIdeal.main_arg1) = m ((c.tc : Thread Cert.XquantIdeal.nD Cert.XquantIdeal.τ).loc Cert.XquantIdeal.main_arg1)) →
    ∃ (v0 : (c : Dev Cert.XquantIdeal.nD) → Buf (Elt Ideal) ((c.tc : Thread Cert.XquantIdeal.nD Cert.XquantIdeal.τ).loc Cert.XquantIdeal.main_v1_0)) (v1 : (c : Dev Cert.XquantIdeal.nD) → Buf (Elt Ideal) ((c.tc : Thread Cert.XquantIdeal.nD Cert.XquantIdeal.τ).loc Cert.XquantIdeal.main_v1_1)) (v2 : (c : Dev Cert.XquantIdeal.nD) → Buf (Elt Ideal) ((c.tc : Thread Cert.XquantIdeal.nD Cert.XquantIdeal.τ).loc Cert.XquantIdeal.main_v1_2)),
      θ_run (Cert.XquantIdeal.defs (F := Ideal)) (onTc (τ := Cert.XquantIdeal.τ) (Cert.XquantIdeal.main (F := Ideal))) ⟨m, fun _ => 0, g⟩ (fun r => ∀ c : Dev Cert.XquantIdeal.nD,
          r.2.mem ((c.tc : Thread Cert.XquantIdeal.nD Cert.XquantIdeal.τ).loc Cert.XquantIdeal.main_v1_0) = v0 c
          ∧ r.2.mem ((c.tc : Thread Cert.XquantIdeal.nD Cert.XquantIdeal.τ).loc Cert.XquantIdeal.main_v1_1) = v1 c
          ∧ r.2.mem ((c.tc : Thread Cert.XquantIdeal.nD Cert.XquantIdeal.τ).loc Cert.XquantIdeal.main_v1_2) = v2 c
          ∧ r.2.mem ((c.tc : Thread Cert.XquantIdeal.nD Cert.XquantIdeal.τ).loc Cert.XquantIdeal.main_arg0) = m ((c.tc : Thread Cert.XquantIdeal.nD Cert.XquantIdeal.τ).loc Cert.XquantIdeal.main_arg0)
          ∧ r.2.mem ((c.tc : Thread Cert.XquantIdeal.nD Cert.XquantIdeal.τ).loc Cert.XquantIdeal.main_arg1) = m ((c.tc : Thread Cert.XquantIdeal.nD Cert.XquantIdeal.τ).loc Cert.XquantIdeal.main_arg1))
      ∧ θ_run (Cert.XquantRefIdeal.defs (F := Ideal)) (onTc (τ := Cert.XquantRefIdeal.τ) (Cert.XquantRefIdeal.main (F := Ideal))) ⟨m', fun _ => 0, g'⟩ (fun r => ∀ c : Dev Cert.XquantRefIdeal.nD,
          r.2.mem ((c.tc : Thread Cert.XquantRefIdeal.nD Cert.XquantRefIdeal.τ).loc Cert.XquantRefIdeal.main_v33) = v0 c
          ∧ r.2.mem ((c.tc : Thread Cert.XquantRefIdeal.nD Cert.XquantRefIdeal.τ).loc Cert.XquantRefIdeal.main_v35) = v1 c
          ∧ r.2.mem ((c.tc : Thread Cert.XquantRefIdeal.nD Cert.XquantRefIdeal.τ).loc Cert.XquantRefIdeal.main_v38) = v2 c
          ∧ r.2.mem ((c.tc : Thread Cert.XquantRefIdeal.nD Cert.XquantRefIdeal.τ).loc Cert.XquantRefIdeal.main_arg0) = m' ((c.tc : Thread Cert.XquantRefIdeal.nD Cert.XquantRefIdeal.τ).loc Cert.XquantRefIdeal.main_arg0)
          ∧ r.2.mem ((c.tc : Thread Cert.XquantRefIdeal.nD Cert.XquantRefIdeal.τ).loc Cert.XquantRefIdeal.main_arg1) = m' ((c.tc : Thread Cert.XquantRefIdeal.nD Cert.XquantRefIdeal.τ).loc Cert.XquantRefIdeal.main_arg1))

def preserves_Wquant_WquantIdeal : Prop :=
  True

def algebraic_WquantIdeal_WquantRefIdeal_pre_positive_scales [hWquantIdeal : Cert.WquantIdeal.Facts] [hWquantRefIdeal : Cert.WquantRefIdeal.Facts] [hPre_positive_scales : Cert.Pre_positive_scales.Facts] : Prop :=
  ∀ (m : (ℓ : Loc Cert.WquantIdeal.nD Cert.WquantIdeal.τ Cert.WquantIdeal.sig) → Buf (Elt Ideal) ℓ) (g : Dev Cert.WquantIdeal.nD → PrngReg)
    (m' : (ℓ : Loc Cert.WquantRefIdeal.nD Cert.WquantRefIdeal.τ Cert.WquantRefIdeal.sig) → Buf (Elt Ideal) ℓ) (g' : Dev Cert.WquantRefIdeal.nD → PrngReg), Pre_WquantIdeal_positive_scales m →
    (∀ c : Dev Cert.WquantIdeal.nD,
      m' ((c.tc : Thread Cert.WquantRefIdeal.nD Cert.WquantRefIdeal.τ).loc Cert.WquantRefIdeal.main_arg0) = m ((c.tc : Thread Cert.WquantIdeal.nD Cert.WquantIdeal.τ).loc Cert.WquantIdeal.main_arg0)
      ∧ m' ((c.tc : Thread Cert.WquantRefIdeal.nD Cert.WquantRefIdeal.τ).loc Cert.WquantRefIdeal.main_arg1) = m ((c.tc : Thread Cert.WquantIdeal.nD Cert.WquantIdeal.τ).loc Cert.WquantIdeal.main_arg1)
      ∧ m' ((c.tc : Thread Cert.WquantRefIdeal.nD Cert.WquantRefIdeal.τ).loc Cert.WquantRefIdeal.main_arg2) = m ((c.tc : Thread Cert.WquantIdeal.nD Cert.WquantIdeal.τ).loc Cert.WquantIdeal.main_arg2)
      ∧ m' ((c.tc : Thread Cert.WquantRefIdeal.nD Cert.WquantRefIdeal.τ).loc Cert.WquantRefIdeal.main_arg3) = m ((c.tc : Thread Cert.WquantIdeal.nD Cert.WquantIdeal.τ).loc Cert.WquantIdeal.main_arg3)
      ∧ m' ((c.tc : Thread Cert.WquantRefIdeal.nD Cert.WquantRefIdeal.τ).loc Cert.WquantRefIdeal.main_arg4) = m ((c.tc : Thread Cert.WquantIdeal.nD Cert.WquantIdeal.τ).loc Cert.WquantIdeal.main_arg4)
      ∧ m' ((c.tc : Thread Cert.WquantRefIdeal.nD Cert.WquantRefIdeal.τ).loc Cert.WquantRefIdeal.main_arg5) = m ((c.tc : Thread Cert.WquantIdeal.nD Cert.WquantIdeal.τ).loc Cert.WquantIdeal.main_arg5)) →
    ∃ (v0 : (c : Dev Cert.WquantIdeal.nD) → Buf (Elt Ideal) ((c.tc : Thread Cert.WquantIdeal.nD Cert.WquantIdeal.τ).loc Cert.WquantIdeal.main_v0_0)) (v1 : (c : Dev Cert.WquantIdeal.nD) → Buf (Elt Ideal) ((c.tc : Thread Cert.WquantIdeal.nD Cert.WquantIdeal.τ).loc Cert.WquantIdeal.main_v0_1)) (v2 : (c : Dev Cert.WquantIdeal.nD) → Buf (Elt Ideal) ((c.tc : Thread Cert.WquantIdeal.nD Cert.WquantIdeal.τ).loc Cert.WquantIdeal.main_v0_2)) (v3 : (c : Dev Cert.WquantIdeal.nD) → Buf (Elt Ideal) ((c.tc : Thread Cert.WquantIdeal.nD Cert.WquantIdeal.τ).loc Cert.WquantIdeal.main_v0_3)) (v4 : (c : Dev Cert.WquantIdeal.nD) → Buf (Elt Ideal) ((c.tc : Thread Cert.WquantIdeal.nD Cert.WquantIdeal.τ).loc Cert.WquantIdeal.main_v0_4)) (v5 : (c : Dev Cert.WquantIdeal.nD) → Buf (Elt Ideal) ((c.tc : Thread Cert.WquantIdeal.nD Cert.WquantIdeal.τ).loc Cert.WquantIdeal.main_v0_5)),
      θ_run (Cert.WquantIdeal.defs (F := Ideal)) (onTc (τ := Cert.WquantIdeal.τ) (Cert.WquantIdeal.main (F := Ideal))) ⟨m, fun _ => 0, g⟩ (fun r => ∀ c : Dev Cert.WquantIdeal.nD,
          r.2.mem ((c.tc : Thread Cert.WquantIdeal.nD Cert.WquantIdeal.τ).loc Cert.WquantIdeal.main_v0_0) = v0 c
          ∧ r.2.mem ((c.tc : Thread Cert.WquantIdeal.nD Cert.WquantIdeal.τ).loc Cert.WquantIdeal.main_v0_1) = v1 c
          ∧ r.2.mem ((c.tc : Thread Cert.WquantIdeal.nD Cert.WquantIdeal.τ).loc Cert.WquantIdeal.main_v0_2) = v2 c
          ∧ r.2.mem ((c.tc : Thread Cert.WquantIdeal.nD Cert.WquantIdeal.τ).loc Cert.WquantIdeal.main_v0_3) = v3 c
          ∧ r.2.mem ((c.tc : Thread Cert.WquantIdeal.nD Cert.WquantIdeal.τ).loc Cert.WquantIdeal.main_v0_4) = v4 c
          ∧ r.2.mem ((c.tc : Thread Cert.WquantIdeal.nD Cert.WquantIdeal.τ).loc Cert.WquantIdeal.main_v0_5) = v5 c
          ∧ r.2.mem ((c.tc : Thread Cert.WquantIdeal.nD Cert.WquantIdeal.τ).loc Cert.WquantIdeal.main_arg0) = m ((c.tc : Thread Cert.WquantIdeal.nD Cert.WquantIdeal.τ).loc Cert.WquantIdeal.main_arg0)
          ∧ r.2.mem ((c.tc : Thread Cert.WquantIdeal.nD Cert.WquantIdeal.τ).loc Cert.WquantIdeal.main_arg1) = m ((c.tc : Thread Cert.WquantIdeal.nD Cert.WquantIdeal.τ).loc Cert.WquantIdeal.main_arg1)
          ∧ r.2.mem ((c.tc : Thread Cert.WquantIdeal.nD Cert.WquantIdeal.τ).loc Cert.WquantIdeal.main_arg2) = m ((c.tc : Thread Cert.WquantIdeal.nD Cert.WquantIdeal.τ).loc Cert.WquantIdeal.main_arg2)
          ∧ r.2.mem ((c.tc : Thread Cert.WquantIdeal.nD Cert.WquantIdeal.τ).loc Cert.WquantIdeal.main_arg3) = m ((c.tc : Thread Cert.WquantIdeal.nD Cert.WquantIdeal.τ).loc Cert.WquantIdeal.main_arg3)
          ∧ r.2.mem ((c.tc : Thread Cert.WquantIdeal.nD Cert.WquantIdeal.τ).loc Cert.WquantIdeal.main_arg4) = m ((c.tc : Thread Cert.WquantIdeal.nD Cert.WquantIdeal.τ).loc Cert.WquantIdeal.main_arg4)
          ∧ r.2.mem ((c.tc : Thread Cert.WquantIdeal.nD Cert.WquantIdeal.τ).loc Cert.WquantIdeal.main_arg5) = m ((c.tc : Thread Cert.WquantIdeal.nD Cert.WquantIdeal.τ).loc Cert.WquantIdeal.main_arg5))
      ∧ θ_run (Cert.WquantRefIdeal.defs (F := Ideal)) (onTc (τ := Cert.WquantRefIdeal.τ) (Cert.WquantRefIdeal.main (F := Ideal))) ⟨m', fun _ => 0, g'⟩ (fun r => ∀ c : Dev Cert.WquantRefIdeal.nD,
          r.2.mem ((c.tc : Thread Cert.WquantRefIdeal.nD Cert.WquantRefIdeal.τ).loc Cert.WquantRefIdeal.main_v30) = v0 c
          ∧ r.2.mem ((c.tc : Thread Cert.WquantRefIdeal.nD Cert.WquantRefIdeal.τ).loc Cert.WquantRefIdeal.main_v31) = v1 c
          ∧ r.2.mem ((c.tc : Thread Cert.WquantRefIdeal.nD Cert.WquantRefIdeal.τ).loc Cert.WquantRefIdeal.main_v32) = v2 c
          ∧ r.2.mem ((c.tc : Thread Cert.WquantRefIdeal.nD Cert.WquantRefIdeal.τ).loc Cert.WquantRefIdeal.main_v53) = v3 c
          ∧ r.2.mem ((c.tc : Thread Cert.WquantRefIdeal.nD Cert.WquantRefIdeal.τ).loc Cert.WquantRefIdeal.main_v74) = v4 c
          ∧ r.2.mem ((c.tc : Thread Cert.WquantRefIdeal.nD Cert.WquantRefIdeal.τ).loc Cert.WquantRefIdeal.main_v95) = v5 c
          ∧ r.2.mem ((c.tc : Thread Cert.WquantRefIdeal.nD Cert.WquantRefIdeal.τ).loc Cert.WquantRefIdeal.main_arg0) = m' ((c.tc : Thread Cert.WquantRefIdeal.nD Cert.WquantRefIdeal.τ).loc Cert.WquantRefIdeal.main_arg0)
          ∧ r.2.mem ((c.tc : Thread Cert.WquantRefIdeal.nD Cert.WquantRefIdeal.τ).loc Cert.WquantRefIdeal.main_arg1) = m' ((c.tc : Thread Cert.WquantRefIdeal.nD Cert.WquantRefIdeal.τ).loc Cert.WquantRefIdeal.main_arg1)
          ∧ r.2.mem ((c.tc : Thread Cert.WquantRefIdeal.nD Cert.WquantRefIdeal.τ).loc Cert.WquantRefIdeal.main_arg2) = m' ((c.tc : Thread Cert.WquantRefIdeal.nD Cert.WquantRefIdeal.τ).loc Cert.WquantRefIdeal.main_arg2)
          ∧ r.2.mem ((c.tc : Thread Cert.WquantRefIdeal.nD Cert.WquantRefIdeal.τ).loc Cert.WquantRefIdeal.main_arg3) = m' ((c.tc : Thread Cert.WquantRefIdeal.nD Cert.WquantRefIdeal.τ).loc Cert.WquantRefIdeal.main_arg3)
          ∧ r.2.mem ((c.tc : Thread Cert.WquantRefIdeal.nD Cert.WquantRefIdeal.τ).loc Cert.WquantRefIdeal.main_arg4) = m' ((c.tc : Thread Cert.WquantRefIdeal.nD Cert.WquantRefIdeal.τ).loc Cert.WquantRefIdeal.main_arg4)
          ∧ r.2.mem ((c.tc : Thread Cert.WquantRefIdeal.nD Cert.WquantRefIdeal.τ).loc Cert.WquantRefIdeal.main_arg5) = m' ((c.tc : Thread Cert.WquantRefIdeal.nD Cert.WquantRefIdeal.τ).loc Cert.WquantRefIdeal.main_arg5))

def preserves_Wscale_WscaleIdeal : Prop :=
  True

def algebraic_WscaleIdeal_WscaleRefIdeal [hWscaleIdeal : Cert.WscaleIdeal.Facts] [hWscaleRefIdeal : Cert.WscaleRefIdeal.Facts] : Prop :=
  ∀ (m : (ℓ : Loc Cert.WscaleIdeal.nD Cert.WscaleIdeal.τ Cert.WscaleIdeal.sig) → Buf (Elt Ideal) ℓ) (g : Dev Cert.WscaleIdeal.nD → PrngReg)
    (m' : (ℓ : Loc Cert.WscaleRefIdeal.nD Cert.WscaleRefIdeal.τ Cert.WscaleRefIdeal.sig) → Buf (Elt Ideal) ℓ) (g' : Dev Cert.WscaleRefIdeal.nD → PrngReg), Pre_WscaleIdeal m →
    (∀ c : Dev Cert.WscaleIdeal.nD,
      m' ((c.tc : Thread Cert.WscaleRefIdeal.nD Cert.WscaleRefIdeal.τ).loc Cert.WscaleRefIdeal.main_arg0) = m ((c.tc : Thread Cert.WscaleIdeal.nD Cert.WscaleIdeal.τ).loc Cert.WscaleIdeal.main_arg0)
      ∧ m' ((c.tc : Thread Cert.WscaleRefIdeal.nD Cert.WscaleRefIdeal.τ).loc Cert.WscaleRefIdeal.main_arg1) = m ((c.tc : Thread Cert.WscaleIdeal.nD Cert.WscaleIdeal.τ).loc Cert.WscaleIdeal.main_arg1)
      ∧ m' ((c.tc : Thread Cert.WscaleRefIdeal.nD Cert.WscaleRefIdeal.τ).loc Cert.WscaleRefIdeal.main_arg2) = m ((c.tc : Thread Cert.WscaleIdeal.nD Cert.WscaleIdeal.τ).loc Cert.WscaleIdeal.main_arg2)) →
    ∃ (v0 : (c : Dev Cert.WscaleIdeal.nD) → Buf (Elt Ideal) ((c.tc : Thread Cert.WscaleIdeal.nD Cert.WscaleIdeal.τ).loc Cert.WscaleIdeal.main_v0_0)) (v1 : (c : Dev Cert.WscaleIdeal.nD) → Buf (Elt Ideal) ((c.tc : Thread Cert.WscaleIdeal.nD Cert.WscaleIdeal.τ).loc Cert.WscaleIdeal.main_v0_1)) (v2 : (c : Dev Cert.WscaleIdeal.nD) → Buf (Elt Ideal) ((c.tc : Thread Cert.WscaleIdeal.nD Cert.WscaleIdeal.τ).loc Cert.WscaleIdeal.main_v0_2)),
      θ_run (Cert.WscaleIdeal.defs (F := Ideal)) (onTc (τ := Cert.WscaleIdeal.τ) (Cert.WscaleIdeal.main (F := Ideal))) ⟨m, fun _ => 0, g⟩ (fun r => ∀ c : Dev Cert.WscaleIdeal.nD,
          r.2.mem ((c.tc : Thread Cert.WscaleIdeal.nD Cert.WscaleIdeal.τ).loc Cert.WscaleIdeal.main_v0_0) = v0 c
          ∧ r.2.mem ((c.tc : Thread Cert.WscaleIdeal.nD Cert.WscaleIdeal.τ).loc Cert.WscaleIdeal.main_v0_1) = v1 c
          ∧ r.2.mem ((c.tc : Thread Cert.WscaleIdeal.nD Cert.WscaleIdeal.τ).loc Cert.WscaleIdeal.main_v0_2) = v2 c
          ∧ r.2.mem ((c.tc : Thread Cert.WscaleIdeal.nD Cert.WscaleIdeal.τ).loc Cert.WscaleIdeal.main_arg0) = m ((c.tc : Thread Cert.WscaleIdeal.nD Cert.WscaleIdeal.τ).loc Cert.WscaleIdeal.main_arg0)
          ∧ r.2.mem ((c.tc : Thread Cert.WscaleIdeal.nD Cert.WscaleIdeal.τ).loc Cert.WscaleIdeal.main_arg1) = m ((c.tc : Thread Cert.WscaleIdeal.nD Cert.WscaleIdeal.τ).loc Cert.WscaleIdeal.main_arg1)
          ∧ r.2.mem ((c.tc : Thread Cert.WscaleIdeal.nD Cert.WscaleIdeal.τ).loc Cert.WscaleIdeal.main_arg2) = m ((c.tc : Thread Cert.WscaleIdeal.nD Cert.WscaleIdeal.τ).loc Cert.WscaleIdeal.main_arg2))
      ∧ θ_run (Cert.WscaleRefIdeal.defs (F := Ideal)) (onTc (τ := Cert.WscaleRefIdeal.τ) (Cert.WscaleRefIdeal.main (F := Ideal))) ⟨m', fun _ => 0, g'⟩ (fun r => ∀ c : Dev Cert.WscaleRefIdeal.nD,
          r.2.mem ((c.tc : Thread Cert.WscaleRefIdeal.nD Cert.WscaleRefIdeal.τ).loc Cert.WscaleRefIdeal.main_v8) = v0 c
          ∧ r.2.mem ((c.tc : Thread Cert.WscaleRefIdeal.nD Cert.WscaleRefIdeal.τ).loc Cert.WscaleRefIdeal.main_v17) = v1 c
          ∧ r.2.mem ((c.tc : Thread Cert.WscaleRefIdeal.nD Cert.WscaleRefIdeal.τ).loc Cert.WscaleRefIdeal.main_v26) = v2 c
          ∧ r.2.mem ((c.tc : Thread Cert.WscaleRefIdeal.nD Cert.WscaleRefIdeal.τ).loc Cert.WscaleRefIdeal.main_arg0) = m' ((c.tc : Thread Cert.WscaleRefIdeal.nD Cert.WscaleRefIdeal.τ).loc Cert.WscaleRefIdeal.main_arg0)
          ∧ r.2.mem ((c.tc : Thread Cert.WscaleRefIdeal.nD Cert.WscaleRefIdeal.τ).loc Cert.WscaleRefIdeal.main_arg1) = m' ((c.tc : Thread Cert.WscaleRefIdeal.nD Cert.WscaleRefIdeal.τ).loc Cert.WscaleRefIdeal.main_arg1)
          ∧ r.2.mem ((c.tc : Thread Cert.WscaleRefIdeal.nD Cert.WscaleRefIdeal.τ).loc Cert.WscaleRefIdeal.main_arg2) = m' ((c.tc : Thread Cert.WscaleRefIdeal.nD Cert.WscaleRefIdeal.τ).loc Cert.WscaleRefIdeal.main_arg2))

def Claim : Prop :=
  ∃ (hDw : Cert.Dw.Facts) (hDwIdeal : Cert.DwIdeal.Facts) (hDwRefIdeal : Cert.DwRefIdeal.Facts) (hProj : Cert.Proj.Facts) (hProjIdeal : Cert.ProjIdeal.Facts) (hProjRefIdeal : Cert.ProjRefIdeal.Facts) (hXquant : Cert.Xquant.Facts) (hXquantIdeal : Cert.XquantIdeal.Facts) (hXquantRefIdeal : Cert.XquantRefIdeal.Facts) (hWquant : Cert.Wquant.Facts) (hWquantIdeal : Cert.WquantIdeal.Facts) (hWquantRefIdeal : Cert.WquantRefIdeal.Facts) (hWscale : Cert.Wscale.Facts) (hWscaleIdeal : Cert.WscaleIdeal.Facts) (hWscaleRefIdeal : Cert.WscaleRefIdeal.Facts) (hPre_positive_scales : Cert.Pre_positive_scales.Facts),
    quiescent_Dw (hDw := hDw)
    ∧ quiescent_DwIdeal (hDwIdeal := hDwIdeal)
    ∧ quiescent_DwRefIdeal (hDwRefIdeal := hDwRefIdeal)
    ∧ quiescent_Proj (hProj := hProj)
    ∧ quiescent_ProjIdeal (hProjIdeal := hProjIdeal)
    ∧ quiescent_ProjRefIdeal (hProjRefIdeal := hProjRefIdeal)
    ∧ quiescent_Xquant (hXquant := hXquant)
    ∧ quiescent_XquantIdeal (hXquantIdeal := hXquantIdeal)
    ∧ quiescent_XquantRefIdeal (hXquantRefIdeal := hXquantRefIdeal)
    ∧ quiescent_Wquant (hWquant := hWquant)
    ∧ quiescent_WquantIdeal (hWquantIdeal := hWquantIdeal)
    ∧ quiescent_WquantIdeal_pre_positive_scales (hWquantIdeal := hWquantIdeal) (hPre_positive_scales := hPre_positive_scales)
    ∧ quiescent_WquantRefIdeal (hWquantRefIdeal := hWquantRefIdeal)
    ∧ quiescent_WquantRefIdeal_pre_positive_scales (hWquantRefIdeal := hWquantRefIdeal) (hPre_positive_scales := hPre_positive_scales)
    ∧ quiescent_Wscale (hWscale := hWscale)
    ∧ quiescent_WscaleIdeal (hWscaleIdeal := hWscaleIdeal)
    ∧ quiescent_WscaleRefIdeal (hWscaleRefIdeal := hWscaleRefIdeal)
    ∧ preserves_Dw_DwIdeal
    ∧ algebraic_DwIdeal_DwRefIdeal (hDwIdeal := hDwIdeal) (hDwRefIdeal := hDwRefIdeal)
    ∧ preserves_Proj_ProjIdeal
    ∧ algebraic_ProjIdeal_ProjRefIdeal (hProjIdeal := hProjIdeal) (hProjRefIdeal := hProjRefIdeal)
    ∧ preserves_Xquant_XquantIdeal
    ∧ algebraic_XquantIdeal_XquantRefIdeal (hXquantIdeal := hXquantIdeal) (hXquantRefIdeal := hXquantRefIdeal)
    ∧ preserves_Wquant_WquantIdeal
    ∧ algebraic_WquantIdeal_WquantRefIdeal_pre_positive_scales (hWquantIdeal := hWquantIdeal) (hWquantRefIdeal := hWquantRefIdeal) (hPre_positive_scales := hPre_positive_scales)
    ∧ preserves_Wscale_WscaleIdeal
    ∧ algebraic_WscaleIdeal_WscaleRefIdeal (hWscaleIdeal := hWscaleIdeal) (hWscaleRefIdeal := hWscaleRefIdeal)
-- ==== Pre_positive_scales.lean ====
abbrev S1x1 : Shape := ⟨2, ![1, 1]⟩
abbrev S2048x5632 : Shape := ⟨2, ![2048, 5632]⟩
abbrev S5632x2048 : Shape := ⟨2, ![5632, 2048]⟩
abbrev S_ : Shape := ⟨0, ![]⟩

class Facts : Prop where
  bcast_S_S1x1 : S_.BroadcastsInDim S1x1 (![] : Fin 0 → Fin S1x1.rank)

variable [Facts]

def fn {F : FTy → Type} [FloatOps F] (main_arg0 : FVec F S1x1 .f32) (main_arg1 : FVec F S1x1 .f32) (main_arg2 : FVec F S1x1 .f32) (main_arg3 : FVec F S2048x5632 .bf16) (main_arg4 : FVec F S2048x5632 .bf16) (main_arg5 : FVec F S5632x2048 .bf16) : IVec S1x1 1 :=
  let main_cst : FVec F S_ .f32 := constant S_ .f32 0x00000000#32
  let main_v0 : FVec F S1x1 .f32 := broadcastInDim S1x1 ![] bcast_S_S1x1 main_cst
  let main_v1 : IVec S1x1 1 := cmpf .ogt main_arg0 main_v0
  let main_cst_0 : FVec F S_ .f32 := constant S_ .f32 0x00000000#32
  let main_v2 : FVec F S1x1 .f32 := broadcastInDim S1x1 ![] bcast_S_S1x1 main_cst_0
  let main_v3 : IVec S1x1 1 := cmpf .ogt main_arg1 main_v2
  let main_v4 : IVec S1x1 1 := andi main_v1 main_v3
  let main_cst_1 : FVec F S_ .f32 := constant S_ .f32 0x00000000#32
  let main_v5 : FVec F S1x1 .f32 := broadcastInDim S1x1 ![] bcast_S_S1x1 main_cst_1
  let main_v6 : IVec S1x1 1 := cmpf .ogt main_arg2 main_v5
  let main_v7 : IVec S1x1 1 := andi main_v4 main_v6
  main_v7
-- ==== Dw.lean ====
abbrev S8192x2048 : Shape := ⟨2, ![8192, 2048]⟩
abbrev S8192 : Shape := ⟨1, ![8192]⟩
abbrev S8192x5632 : Shape := ⟨2, ![8192, 5632]⟩
abbrev S8192x1 : Shape := ⟨2, ![8192, 1]⟩
abbrev S8192x128 : Shape := ⟨2, ![8192, 128]⟩
abbrev S2048x5632 : Shape := ⟨2, ![2048, 5632]⟩
abbrev S5632x2048 : Shape := ⟨2, ![5632, 2048]⟩
abbrev S1024x2048 : Shape := ⟨2, ![1024, 2048]⟩
abbrev S1024x128 : Shape := ⟨2, ![1024, 128]⟩
abbrev S1024x512 : Shape := ⟨2, ![1024, 512]⟩
abbrev S2048x512 : Shape := ⟨2, ![2048, 512]⟩
abbrev S512x2048 : Shape := ⟨2, ![512, 2048]⟩

abbrev nBuf : Space → Nat
  | .hbm => 14
  | .vmem => 23
  | .smem => 0
  | _ => 0

abbrev bufTy : (tb : Table) → Fin (tcTables nBuf tb) → BufTy
  | .hbm, ⟨0, _⟩ => ⟨S8192x2048, .i8⟩
  | .hbm, ⟨1, _⟩ => ⟨S8192, .f32⟩
  | .hbm, ⟨2, _⟩ => ⟨S8192x5632, .bf16⟩
  | .hbm, ⟨3, _⟩ => ⟨S8192x5632, .bf16⟩
  | .hbm, ⟨4, _⟩ => ⟨S8192x5632, .i8⟩
  | .hbm, ⟨5, _⟩ => ⟨S8192, .f32⟩
  | .hbm, ⟨6, _⟩ => ⟨S8192x2048, .bf16⟩
  | .hbm, ⟨7, _⟩ => ⟨S8192x1, .f32⟩
  | .hbm, ⟨8, _⟩ => ⟨S8192x128, .f32⟩
  | .hbm, ⟨9, _⟩ => ⟨S8192x1, .f32⟩
  | .hbm, ⟨10, _⟩ => ⟨S8192x128, .f32⟩
  | .hbm, ⟨11, _⟩ => ⟨S2048x5632, .bf16⟩
  | .hbm, ⟨12, _⟩ => ⟨S2048x5632, .bf16⟩
  | .hbm, ⟨13, _⟩ => ⟨S5632x2048, .bf16⟩
  | .local _ .vmem, ⟨0, _⟩ => ⟨S1024x2048, .i8⟩
  | .local _ .vmem, ⟨1, _⟩ => ⟨S1024x2048, .i8⟩
  | .local _ .vmem, ⟨2, _⟩ => ⟨S1024x128, .f32⟩
  | .local _ .vmem, ⟨3, _⟩ => ⟨S1024x128, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .i8⟩
  | .local _ .vmem, ⟨9, _⟩ => ⟨S1024x512, .i8⟩
  | .local _ .vmem, ⟨10, _⟩ => ⟨S1024x128, .f32⟩
  | .local _ .vmem, ⟨11, _⟩ => ⟨S1024x128, .f32⟩
  | .local _ .vmem, ⟨12, _⟩ => ⟨S1024x2048, .bf16⟩
  | .local _ .vmem, ⟨13, _⟩ => ⟨S1024x2048, .bf16⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | .local _ .vmem, ⟨17, _⟩ => ⟨S2048x512, .bf16⟩
  | .local _ .vmem, ⟨18, _⟩ => ⟨S512x2048, .bf16⟩
  | .local _ .vmem, ⟨19, _⟩ => ⟨S512x2048, .bf16⟩
  | .local _ .vmem, ⟨20, _⟩ => ⟨S2048x512, .f32⟩
  | .local _ .vmem, ⟨21, _⟩ => ⟨S2048x512, .f32⟩
  | .local _ .vmem, ⟨22, _⟩ => ⟨S512x2048, .f32⟩
  | _, _ => ⟨S8192x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![11, 8], ![false, false]⟩

def k0_cond2 (i : grid0.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_28 : BitVec 32 := 0#32
  let v40 : BitVec 1 := Scalar.cmpi .ne v39 c0_i32_28
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== DwRefIdeal.lean ====
abbrev S8192x2048 : Shape := ⟨2, ![8192, 2048]⟩
abbrev S8192 : Shape := ⟨1, ![8192]⟩
abbrev S8192x5632 : Shape := ⟨2, ![8192, 5632]⟩
abbrev S8192x1 : Shape := ⟨2, ![8192, 1]⟩
abbrev S2048x5632 : Shape := ⟨2, ![2048, 5632]⟩
abbrev S5632x2048 : Shape := ⟨2, ![5632, 2048]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .i8⟩
  | .hbm, ⟨1, _⟩ => ⟨S8192, .f32⟩
  | .hbm, ⟨2, _⟩ => ⟨S8192x5632, .bf16⟩
  | .hbm, ⟨3, _⟩ => ⟨S8192x5632, .bf16⟩
  | .hbm, ⟨4, _⟩ => ⟨S8192x5632, .i8⟩
  | .hbm, ⟨5, _⟩ => ⟨S8192, .f32⟩
  | .hbm, ⟨6, _⟩ => ⟨S8192x2048, .bf16⟩
  | .hbm, ⟨7, _⟩ => ⟨S8192x2048, .i32⟩
  | .hbm, ⟨8, _⟩ => ⟨S8192x2048, .f32⟩
  | .hbm, ⟨9, _⟩ => ⟨S8192x2048, .bf16⟩
  | .hbm, ⟨10, _⟩ => ⟨S8192, .bf16⟩
  | .hbm, ⟨11, _⟩ => ⟨S8192x1, .bf16⟩
  | .hbm, ⟨12, _⟩ => ⟨S8192x2048, .bf16⟩
  | .hbm, ⟨13, _⟩ => ⟨S8192x2048, .bf16⟩
  | .hbm, ⟨14, _⟩ => ⟨S8192x5632, .i32⟩
  | .hbm, ⟨15, _⟩ => ⟨S8192x5632, .f32⟩
  | .hbm, ⟨16, _⟩ => ⟨S8192x5632, .bf16⟩
  | .hbm, ⟨17, _⟩ => ⟨S8192, .bf16⟩
  | .hbm, ⟨18, _⟩ => ⟨S8192x1, .bf16⟩
  | .hbm, ⟨19, _⟩ => ⟨S8192x5632, .bf16⟩
  | .hbm, ⟨20, _⟩ => ⟨S8192x5632, .bf16⟩
  | .hbm, ⟨21, _⟩ => ⟨S2048x5632, .f32⟩
  | .hbm, ⟨22, _⟩ => ⟨S2048x5632, .bf16⟩
  | .hbm, ⟨23, _⟩ => ⟨S2048x5632, .f32⟩
  | .hbm, ⟨24, _⟩ => ⟨S2048x5632, .bf16⟩
  | .hbm, ⟨25, _⟩ => ⟨S5632x2048, .f32⟩
  | .hbm, ⟨26, _⟩ => ⟨S5632x2048, .bf16⟩
  | _, _ => ⟨S8192x2048, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Proj.lean ====
abbrev S1x1 : Shape := ⟨2, ![1, 1]⟩
abbrev S8192x2048 : Shape := ⟨2, ![8192, 2048]⟩
abbrev S8192 : Shape := ⟨1, ![8192]⟩
abbrev S2048x5632 : Shape := ⟨2, ![2048, 5632]⟩
abbrev S5632x2048 : Shape := ⟨2, ![5632, 2048]⟩
abbrev S5632 : Shape := ⟨1, ![5632]⟩
abbrev S8192x1 : Shape := ⟨2, ![8192, 1]⟩
abbrev S8192x128 : Shape := ⟨2, ![8192, 128]⟩
abbrev S1x5632 : Shape := ⟨2, ![1, 5632]⟩
abbrev S8192x5632 : Shape := ⟨2, ![8192, 5632]⟩
abbrev S1024x2048 : Shape := ⟨2, ![1024, 2048]⟩
abbrev S1024x128 : Shape := ⟨2, ![1024, 128]⟩
abbrev S2048x512 : Shape := ⟨2, ![2048, 512]⟩
abbrev S512x2048 : Shape := ⟨2, ![512, 2048]⟩
abbrev S1x512 : Shape := ⟨2, ![1, 512]⟩
abbrev S1024x512 : Shape := ⟨2, ![1024, 512]⟩
abbrev S256x128 : Shape := ⟨2, ![256, 128]⟩
abbrev S256x512 : Shape := ⟨2, ![256, 512]⟩
abbrev S256x2048 : Shape := ⟨2, ![256, 2048]⟩

abbrev nBuf : Space → Nat
  | .hbm => 19
  | .vmem => 26
  | .smem => 3
  | _ => 0

abbrev bufTy : (tb : Table) → Fin (tcTables nBuf tb) → BufTy
  | .hbm, ⟨0, _⟩ => ⟨S1x1, .f32⟩
  | .hbm, ⟨1, _⟩ => ⟨S1x1, .f32⟩
  | .hbm, ⟨2, _⟩ => ⟨S1x1, .f32⟩
  | .hbm, ⟨3, _⟩ => ⟨S8192x2048, .i8⟩
  | .hbm, ⟨4, _⟩ => ⟨S8192, .f32⟩
  | .hbm, ⟨5, _⟩ => ⟨S8192x2048, .bf16⟩
  | .hbm, ⟨6, _⟩ => ⟨S2048x5632, .i8⟩
  | .hbm, ⟨7, _⟩ => ⟨S2048x5632, .i8⟩
  | .hbm, ⟨8, _⟩ => ⟨S5632x2048, .i8⟩
  | .hbm, ⟨9, _⟩ => ⟨S5632, .f32⟩
  | .hbm, ⟨10, _⟩ => ⟨S8192x1, .f32⟩
  | .hbm, ⟨11, _⟩ => ⟨S8192x128, .f32⟩
  | .hbm, ⟨12, _⟩ => ⟨S1x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x128, .f32⟩
  | .hbm, ⟨17, _⟩ => ⟨S8192x128, .f32⟩
  | .hbm, ⟨18, _⟩ => ⟨S8192x128, .f32⟩
  | .local _ .vmem, ⟨0, _⟩ => ⟨S1024x2048, .i8⟩
  | .local _ .vmem, ⟨1, _⟩ => ⟨S1024x2048, .i8⟩
  | .local _ .vmem, ⟨2, _⟩ => ⟨S1024x128, .f32⟩
  | .local _ .vmem, ⟨3, _⟩ => ⟨S1024x128, .f32⟩
  | .local _ .vmem, ⟨4, _⟩ => ⟨S1024x2048, .bf16⟩
  | .local _ .vmem, ⟨5, _⟩ => ⟨S1024x2048, .bf16⟩
  | .local _ .vmem, ⟨6, _⟩ => ⟨S2048x512, .i8⟩
  | .local _ .vmem, ⟨7, _⟩ => ⟨S2048x512, .i8⟩
  | .local _ .vmem, ⟨8, _⟩ => ⟨S2048x512, .i8⟩
  | .local _ .vmem, ⟨9, _⟩ => ⟨S2048x512, .i8⟩
  | .local _ .vmem, ⟨10, _⟩ => ⟨S512x2048, .i8⟩
  | .local _ .vmem, ⟨11, _⟩ => ⟨S512x2048, .i8⟩
  | .local _ .vmem, ⟨12, _⟩ => ⟨S1x512, .f32⟩
  | .local _ .vmem, ⟨13, _⟩ => ⟨S1x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S1024x128, .f32⟩
  | .local _ .vmem, ⟨25, _⟩ => ⟨S1024x128, .f32⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v3_4 : Ref sig .tc := ⟨.hbm, 17, rfl⟩
abbrev main_v3_5 : Ref sig .tc := ⟨.hbm, 18, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2048 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== ProjRefIdeal.lean ====
abbrev S1x1 : Shape := ⟨2, ![1, 1]⟩
abbrev S8192x2048 : Shape := ⟨2, ![8192, 2048]⟩
abbrev S8192 : Shape := ⟨1, ![8192]⟩
abbrev S2048x5632 : Shape := ⟨2, ![2048, 5632]⟩
abbrev S5632x2048 : Shape := ⟨2, ![5632, 2048]⟩
abbrev S5632 : Shape := ⟨1, ![5632]⟩
abbrev S_ : Shape := ⟨0, ![]⟩
abbrev S8192x5632 : Shape := ⟨2, ![8192, 5632]⟩
abbrev S8192x1 : Shape := ⟨2, ![8192, 1]⟩
abbrev S1x5632 : Shape := ⟨2, ![1, 5632]⟩
abbrev S8192x44x128 : Shape := ⟨3, ![8192, 44, 128]⟩
abbrev S8192x128 : Shape := ⟨2, ![8192, 128]⟩

abbrev nBuf : Space → Nat
  | .hbm => 63
  | .vmem => 0
  | .smem => 0
  | _ => 0

abbrev bufTy : (tb : Table) → Fin (tcTables nBuf tb) → BufTy
  | .hbm, ⟨0, _⟩ => ⟨S1x1, .f32⟩
  | .hbm, ⟨1, _⟩ => ⟨S1x1, .f32⟩
  | .hbm, ⟨2, _⟩ => ⟨S1x1, .f32⟩
  | .hbm, ⟨3, _⟩ => ⟨S8192x2048, .i8⟩
  | .hbm, ⟨4, _⟩ => ⟨S8192, .f32⟩
  | .hbm, ⟨5, _⟩ => ⟨S8192x2048, .bf16⟩
  | .hbm, ⟨6, _⟩ => ⟨S2048x5632, .i8⟩
  | .hbm, ⟨7, _⟩ => ⟨S2048x5632, .i8⟩
  | .hbm, ⟨8, _⟩ => ⟨S5632x2048, .i8⟩
  | .hbm, ⟨9, _⟩ => ⟨S5632, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192x2048, .i32⟩
  | .hbm, ⟨14, _⟩ => ⟨S8192x2048, .f32⟩
  | .hbm, ⟨15, _⟩ => ⟨S8192x2048, .bf16⟩
  | .hbm, ⟨16, _⟩ => ⟨S2048x5632, .i32⟩
  | .hbm, ⟨17, _⟩ => ⟨S2048x5632, .f32⟩
  | .hbm, ⟨18, _⟩ => ⟨S2048x5632, .bf16⟩
  | .hbm, ⟨19, _⟩ => ⟨S8192x5632, .f32⟩
  | .hbm, ⟨20, _⟩ => ⟨S8192x1, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x2048, .i32⟩
  | .hbm, ⟨26, _⟩ => ⟨S8192x2048, .f32⟩
  | .hbm, ⟨27, _⟩ => ⟨S8192x2048, .bf16⟩
  | .hbm, ⟨28, _⟩ => ⟨S2048x5632, .i32⟩
  | .hbm, ⟨29, _⟩ => ⟨S2048x5632, .f32⟩
  | .hbm, ⟨30, _⟩ => ⟨S2048x5632, .bf16⟩
  | .hbm, ⟨31, _⟩ => ⟨S8192x5632, .f32⟩
  | .hbm, ⟨32, _⟩ => ⟨S8192x1, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S_, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S8192x5632, .f32⟩
  | .hbm, ⟨42, _⟩ => ⟨S5632x2048, .i32⟩
  | .hbm, ⟨43, _⟩ => ⟨S5632x2048, .f32⟩
  | .hbm, ⟨44, _⟩ => ⟨S5632x2048, .bf16⟩
  | .hbm, ⟨45, _⟩ => ⟨S8192x5632, .f32⟩
  | .hbm, ⟨46, _⟩ => ⟨S8192x5632, .f32⟩
  | .hbm, ⟨47, _⟩ => ⟨S8192x5632, .f32⟩
  | .hbm, ⟨48, _⟩ => ⟨S1x5632, .f32⟩
  | .hbm, ⟨49, _⟩ => ⟨S8192x5632, .f32⟩
  | .hbm, ⟨50, _⟩ => ⟨S8192x5632, .f32⟩
  | .hbm, ⟨51, _⟩ => ⟨S8192x5632, .f32⟩
  | .hbm, ⟨52, _⟩ => ⟨S8192x44x128, .f32⟩
  | .hbm, ⟨53, _⟩ => ⟨S_, .f32⟩
  | .hbm, ⟨54, _⟩ => ⟨S8192x128, .f32⟩
  | .hbm, ⟨55, _⟩ => ⟨S8192x5632, .f32⟩
  | .hbm, ⟨56, _⟩ => ⟨S8192x44x128, .f32⟩
  | .hbm, ⟨57, _⟩ => ⟨S_, .f32⟩
  | .hbm, ⟨58, _⟩ => ⟨S8192x128, .f32⟩
  | .hbm, ⟨59, _⟩ => ⟨S8192x5632, .f32⟩
  | .hbm, ⟨60, _⟩ => ⟨S8192x44x128, .f32⟩
  | .hbm, ⟨61, _⟩ => ⟨S_, .f32⟩
  | .hbm, ⟨62, _⟩ => ⟨S8192x128, .f32⟩
  | _, _ => ⟨S1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_0 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_1 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_2 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== Xquant.lean ====
abbrev S8192x2048 : Shape := ⟨2, ![8192, 2048]⟩
abbrev S2048 : Shape := ⟨1, ![2048]⟩
abbrev S1x2048 : Shape := ⟨2, ![1, 2048]⟩
abbrev S8192x128 : Shape := ⟨2, ![8192, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048, .f32⟩
  | .hbm, ⟨2, _⟩ => ⟨S1x2048, .f32⟩
  | .hbm, ⟨3, _⟩ => ⟨S8192x2048, .i8⟩
  | .hbm, ⟨4, _⟩ => ⟨S8192x128, .f32⟩
  | .hbm, ⟨5, _⟩ => ⟨S8192x128, .f32⟩
  | .local _ .vmem, ⟨0, _⟩ => ⟨S512x2048, .bf16⟩
  | .local _ .vmem, ⟨1, _⟩ => ⟨S512x2048, .bf16⟩
  | .local _ .vmem, ⟨2, _⟩ => ⟨S1x2048, .f32⟩
  | .local _ .vmem, ⟨3, _⟩ => ⟨S512x2048, .i8⟩
  | .local _ .vmem, ⟨4, _⟩ => ⟨S512x2048, .i8⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== XquantRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x128 : Shape := ⟨2, ![8192, 128]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .i1⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S8192x2048, .i32⟩
  | .hbm, ⟨45, _⟩ => ⟨S8192x2048, .i8⟩
  | .hbm, ⟨46, _⟩ => ⟨S8192x1, .f32⟩
  | .hbm, ⟨47, _⟩ => ⟨S8192x128, .f32⟩
  | .hbm, ⟨48, _⟩ => ⟨S8192, .f32⟩
  | .hbm, ⟨49, _⟩ => ⟨S8192x1, .f32⟩
  | .hbm, ⟨50, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_v29 : Ref sig .tc := ⟨.hbm, 40, rfl⟩
abbrev main_cst_8 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Wquant.lean ====
abbrev S1x1 : Shape := ⟨2, ![1, 1]⟩
abbrev S2048x5632 : Shape := ⟨2, ![2048, 5632]⟩
abbrev S5632x2048 : Shape := ⟨2, ![5632, 2048]⟩
abbrev S512x5632 : Shape := ⟨2, ![512, 5632]⟩
abbrev S1408x2048 : Shape := ⟨2, ![1408, 2048]⟩
abbrev S128x5632 : Shape := ⟨2, ![128, 5632]⟩
abbrev S352x2048 : Shape := ⟨2, ![352, 2048]⟩
abbrev S32x5632 : Shape := ⟨2, ![32, 5632]⟩
abbrev S88x2048 : Shape := ⟨2, ![88, 2048]⟩

abbrev nBuf : Space → Nat
  | .hbm => 12
  | .vmem => 18
  | .smem => 3
  | _ => 0

abbrev bufTy : (tb : Table) → Fin (tcTables nBuf tb) → BufTy
  | .hbm, ⟨0, _⟩ => ⟨S1x1, .f32⟩
  | .hbm, ⟨1, _⟩ => ⟨S1x1, .f32⟩
  | .hbm, ⟨2, _⟩ => ⟨S1x1, .f32⟩
  | .hbm, ⟨3, _⟩ => ⟨S2048x5632, .bf16⟩
  | .hbm, ⟨4, _⟩ => ⟨S2048x5632, .bf16⟩
  | .hbm, ⟨5, _⟩ => ⟨S5632x2048, .bf16⟩
  | .hbm, ⟨6, _⟩ => ⟨S2048x5632, .i8⟩
  | .hbm, ⟨7, _⟩ => ⟨S2048x5632, .i8⟩
  | .hbm, ⟨8, _⟩ => ⟨S5632x2048, .i8⟩
  | .hbm, ⟨9, _⟩ => ⟨S512x5632, .i8⟩
  | .hbm, ⟨10, _⟩ => ⟨S512x5632, .i8⟩
  | .hbm, ⟨11, _⟩ => ⟨S1408x2048, .i8⟩
  | .local _ .vmem, ⟨0, _⟩ => ⟨S128x5632, .bf16⟩
  | .local _ .vmem, ⟨1, _⟩ => ⟨S128x5632, .bf16⟩
  | .local _ .vmem, ⟨2, _⟩ => ⟨S128x5632, .bf16⟩
  | .local _ .vmem, ⟨3, _⟩ => ⟨S128x5632, .bf16⟩
  | .local _ .vmem, ⟨4, _⟩ => ⟨S352x2048, .bf16⟩
  | .local _ .vmem, ⟨5, _⟩ => ⟨S352x2048, .bf16⟩
  | .local _ .vmem, ⟨6, _⟩ => ⟨S128x5632, .i8⟩
  | .local _ .vmem, ⟨7, _⟩ => ⟨S128x5632, .i8⟩
  | .local _ .vmem, ⟨8, _⟩ => ⟨S128x5632, .i8⟩
  | .local _ .vmem, ⟨9, _⟩ => ⟨S128x5632, .i8⟩
  | .local _ .vmem, ⟨10, _⟩ => ⟨S352x2048, .i8⟩
  | .local _ .vmem, ⟨11, _⟩ => ⟨S352x2048, .i8⟩
  | .local _ .vmem, ⟨12, _⟩ => ⟨S32x5632, .i8⟩
  | .local _ .vmem, ⟨13, _⟩ => ⟨S32x5632, .i8⟩
  | .local _ .vmem, ⟨14, _⟩ => ⟨S32x5632, .i8⟩
  | .local _ .vmem, ⟨15, _⟩ => ⟨S32x5632, .i8⟩
  | .local _ .vmem, ⟨16, _⟩ => ⟨S88x2048, .i8⟩
  | .local _ .vmem, ⟨17, _⟩ => ⟨S88x2048, .i8⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x5632 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x5632 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x2048 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x5632 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x5632 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S88x2048 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== WquantRefIdeal.lean ====
abbrev S1x1 : Shape := ⟨2, ![1, 1]⟩
abbrev S2048x5632 : Shape := ⟨2, ![2048, 5632]⟩
abbrev S5632x2048 : Shape := ⟨2, ![5632, 2048]⟩
abbrev S_ : Shape := ⟨0, ![]⟩
abbrev S512x4x5632 : Shape := ⟨3, ![512, 4, 5632]⟩
abbrev S512x1x5632 : Shape := ⟨3, ![512, 1, 5632]⟩
abbrev S512x5632 : Shape := ⟨2, ![512, 5632]⟩
abbrev S1408x4x2048 : Shape := ⟨3, ![1408, 4, 2048]⟩
abbrev S1408x1x2048 : Shape := ⟨3, ![1408, 1, 2048]⟩
abbrev S1408x2048 : Shape := ⟨2, ![1408, 2048]⟩

abbrev nBuf : Space → Nat
  | .hbm => 120
  | .vmem => 0
  | .smem => 0
  | _ => 0

abbrev bufTy : (tb : Table) → Fin (tcTables nBuf tb) → BufTy
  | .hbm, ⟨0, _⟩ => ⟨S1x1, .f32⟩
  | .hbm, ⟨1, _⟩ => ⟨S1x1, .f32⟩
  | .hbm, ⟨2, _⟩ => ⟨S1x1, .f32⟩
  | .hbm, ⟨3, _⟩ => ⟨S2048x5632, .bf16⟩
  | .hbm, ⟨4, _⟩ => ⟨S2048x5632, .bf16⟩
  | .hbm, ⟨5, _⟩ => ⟨S5632x2048, .bf16⟩
  | .hbm, ⟨6, _⟩ => ⟨S2048x5632, .f32⟩
  | .hbm, ⟨7, _⟩ => ⟨S_, .f32⟩
  | .hbm, ⟨8, _⟩ => ⟨S2048x5632, .f32⟩
  | .hbm, ⟨9, _⟩ => ⟨S2048x5632, .f32⟩
  | .hbm, ⟨10, _⟩ => ⟨S2048x5632, .f32⟩
  | .hbm, ⟨11, _⟩ => ⟨S_, .f32⟩
  | .hbm, ⟨12, _⟩ => ⟨S2048x5632, .f32⟩
  | .hbm, ⟨13, _⟩ => ⟨S2048x5632, .f32⟩
  | .hbm, ⟨14, _⟩ => ⟨S_, .f32⟩
  | .hbm, ⟨15, _⟩ => ⟨S2048x5632, .f32⟩
  | .hbm, ⟨16, _⟩ => ⟨S2048x5632, .f32⟩
  | .hbm, ⟨17, _⟩ => ⟨S2048x5632, .i32⟩
  | .hbm, ⟨18, _⟩ => ⟨S2048x5632, .f32⟩
  | .hbm, ⟨19, _⟩ => ⟨S_, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S_, .f32⟩
  | .hbm, ⟨24, _⟩ => ⟨S2048x5632, .f32⟩
  | .hbm, ⟨25, _⟩ => ⟨S2048x5632, .f32⟩
  | .hbm, ⟨26, _⟩ => ⟨S_, .f32⟩
  | .hbm, ⟨27, _⟩ => ⟨S2048x5632, .f32⟩
  | .hbm, ⟨28, _⟩ => ⟨S2048x5632, .f32⟩
  | .hbm, ⟨29, _⟩ => ⟨S2048x5632, .i32⟩
  | .hbm, ⟨30, _⟩ => ⟨S5632x2048, .f32⟩
  | .hbm, ⟨31, _⟩ => ⟨S_, .f32⟩
  | .hbm, ⟨32, _⟩ => ⟨S5632x2048, .f32⟩
  | .hbm, ⟨33, _⟩ => ⟨S5632x2048, .f32⟩
  | .hbm, ⟨34, _⟩ => ⟨S5632x2048, .f32⟩
  | .hbm, ⟨35, _⟩ => ⟨S_, .f32⟩
  | .hbm, ⟨36, _⟩ => ⟨S5632x2048, .f32⟩
  | .hbm, ⟨37, _⟩ => ⟨S5632x2048, .f32⟩
  | .hbm, ⟨38, _⟩ => ⟨S_, .f32⟩
  | .hbm, ⟨39, _⟩ => ⟨S5632x2048, .f32⟩
  | .hbm, ⟨40, _⟩ => ⟨S5632x2048, .f32⟩
  | .hbm, ⟨41, _⟩ => ⟨S5632x2048, .i32⟩
  | .hbm, ⟨42, _⟩ => ⟨S2048x5632, .i8⟩
  | .hbm, ⟨43, _⟩ => ⟨S2048x5632, .i8⟩
  | .hbm, ⟨44, _⟩ => ⟨S5632x2048, .i8⟩
  | .hbm, ⟨45, _⟩ => ⟨S_, .i32⟩
  | .hbm, ⟨46, _⟩ => ⟨S2048x5632, .i32⟩
  | .hbm, ⟨47, _⟩ => ⟨S2048x5632, .i32⟩
  | .hbm, ⟨48, _⟩ => ⟨S512x4x5632, .i32⟩
  | .hbm, ⟨49, _⟩ => ⟨S512x1x5632, .i32⟩
  | .hbm, ⟨50, _⟩ => ⟨S512x5632, .i32⟩
  | .hbm, ⟨51, _⟩ => ⟨S512x1x5632, .i32⟩
  | .hbm, ⟨52, _⟩ => ⟨S512x5632, .i32⟩
  | .hbm, ⟨53, _⟩ => ⟨S_, .i32⟩
  | .hbm, ⟨54, _⟩ => ⟨S512x5632, .i32⟩
  | .hbm, ⟨55, _⟩ => ⟨S512x5632, .i32⟩
  | .hbm, ⟨56, _⟩ => ⟨S512x5632, .i32⟩
  | .hbm, ⟨57, _⟩ => ⟨S512x1x5632, .i32⟩
  | .hbm, ⟨58, _⟩ => ⟨S512x5632, .i32⟩
  | .hbm, ⟨59, _⟩ => ⟨S_, .i32⟩
  | .hbm, ⟨60, _⟩ => ⟨S512x5632, .i32⟩
  | .hbm, ⟨61, _⟩ => ⟨S512x5632, .i32⟩
  | .hbm, ⟨62, _⟩ => ⟨S512x5632, .i32⟩
  | .hbm, ⟨63, _⟩ => ⟨S512x1x5632, .i32⟩
  | .hbm, ⟨64, _⟩ => ⟨S512x5632, .i32⟩
  | .hbm, ⟨65, _⟩ => ⟨S_, .i32⟩
  | .hbm, ⟨66, _⟩ => ⟨S512x5632, .i32⟩
  | .hbm, ⟨67, _⟩ => ⟨S512x5632, .i32⟩
  | .hbm, ⟨68, _⟩ => ⟨S512x5632, .i32⟩
  | .hbm, ⟨69, _⟩ => ⟨S512x5632, .i8⟩
  | .hbm, ⟨70, _⟩ => ⟨S_, .i32⟩
  | .hbm, ⟨71, _⟩ => ⟨S2048x5632, .i32⟩
  | .hbm, ⟨72, _⟩ => ⟨S2048x5632, .i32⟩
  | .hbm, ⟨73, _⟩ => ⟨S512x4x5632, .i32⟩
  | .hbm, ⟨74, _⟩ => ⟨S512x1x5632, .i32⟩
  | .hbm, ⟨75, _⟩ => ⟨S512x5632, .i32⟩
  | .hbm, ⟨76, _⟩ => ⟨S512x1x5632, .i32⟩
  | .hbm, ⟨77, _⟩ => ⟨S512x5632, .i32⟩
  | .hbm, ⟨78, _⟩ => ⟨S_, .i32⟩
  | .hbm, ⟨79, _⟩ => ⟨S512x5632, .i32⟩
  | .hbm, ⟨80, _⟩ => ⟨S512x5632, .i32⟩
  | .hbm, ⟨81, _⟩ => ⟨S512x5632, .i32⟩
  | .hbm, ⟨82, _⟩ => ⟨S512x1x5632, .i32⟩
  | .hbm, ⟨83, _⟩ => ⟨S512x5632, .i32⟩
  | .hbm, ⟨84, _⟩ => ⟨S_, .i32⟩
  | .hbm, ⟨85, _⟩ => ⟨S512x5632, .i32⟩
  | .hbm, ⟨86, _⟩ => ⟨S512x5632, .i32⟩
  | .hbm, ⟨87, _⟩ => ⟨S512x5632, .i32⟩
  | .hbm, ⟨88, _⟩ => ⟨S512x1x5632, .i32⟩
  | .hbm, ⟨89, _⟩ => ⟨S512x5632, .i32⟩
  | .hbm, ⟨90, _⟩ => ⟨S_, .i32⟩
  | .hbm, ⟨91, _⟩ => ⟨S512x5632, .i32⟩
  | .hbm, ⟨92, _⟩ => ⟨S512x5632, .i32⟩
  | .hbm, ⟨93, _⟩ => ⟨S512x5632, .i32⟩
  | .hbm, ⟨94, _⟩ => ⟨S512x5632, .i8⟩
  | .hbm, ⟨95, _⟩ => ⟨S_, .i32⟩
  | .hbm, ⟨96, _⟩ => ⟨S5632x2048, .i32⟩
  | .hbm, ⟨97, _⟩ => ⟨S5632x2048, .i32⟩
  | .hbm, ⟨98, _⟩ => ⟨S1408x4x2048, .i32⟩
  | .hbm, ⟨99, _⟩ => ⟨S1408x1x2048, .i32⟩
  | .hbm, ⟨100, _⟩ => ⟨S1408x2048, .i32⟩
  | .hbm, ⟨101, _⟩ => ⟨S1408x1x2048, .i32⟩
  | .hbm, ⟨102, _⟩ => ⟨S1408x2048, .i32⟩
  | .hbm, ⟨103, _⟩ => ⟨S_, .i32⟩
  | .hbm, ⟨104, _⟩ => ⟨S1408x2048, .i32⟩
  | .hbm, ⟨105, _⟩ => ⟨S1408x2048, .i32⟩
  | .hbm, ⟨106, _⟩ => ⟨S1408x2048, .i32⟩
  | .hbm, ⟨107, _⟩ => ⟨S1408x1x2048, .i32⟩
  | .hbm, ⟨108, _⟩ => ⟨S1408x2048, .i32⟩
  | .hbm, ⟨109, _⟩ => ⟨S_, .i32⟩
  | .hbm, ⟨110, _⟩ => ⟨S1408x2048, .i32⟩
  | .hbm, ⟨111, _⟩ => ⟨S1408x2048, .i32⟩
  | .hbm, ⟨112, _⟩ => ⟨S1408x2048, .i32⟩
  | .hbm, ⟨113, _⟩ => ⟨S1408x1x2048, .i32⟩
  | .hbm, ⟨114, _⟩ => ⟨S1408x2048, .i32⟩
  | .hbm, ⟨115, _⟩ => ⟨S_, .i32⟩
  | .hbm, ⟨116, _⟩ => ⟨S1408x2048, .i32⟩
  | .hbm, ⟨117, _⟩ => ⟨S1408x2048, .i32⟩
  | .hbm, ⟨118, _⟩ => ⟨S1408x2048, .i32⟩
  | .hbm, ⟨119, _⟩ => ⟨S1408x2048, .i8⟩
  | _, _ => ⟨S1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_7 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_c_9 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_c_10 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_c_11 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_c_12 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_c_13 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_c_14 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_c_15 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩

abbrev nD : Nat := 1
abbrev τ : Topo := Topo.v7x

variable {F : FTy → Type} [FloatOps F]
-- ==== Wscale.lean ====
abbrev S2048x5632 : Shape := ⟨2, ![2048, 5632]⟩
abbrev S5632x2048 : Shape := ⟨2, ![5632, 2048]⟩
abbrev S1x1 : Shape := ⟨2, ![1, 1]⟩
abbrev S256x5632 : Shape := ⟨2, ![256, 5632]⟩
abbrev S704x2048 : Shape := ⟨2, ![704, 2048]⟩
abbrev S8x5632 : Shape := ⟨2, ![8, 5632]⟩
abbrev S8x2048 : Shape := ⟨2, ![8, 2048]⟩
abbrev S32x8x5632 : Shape := ⟨3, ![32, 8, 5632]⟩
abbrev S88x8x2048 : Shape := ⟨3, ![88, 8, 2048]⟩
abbrev S5632 : Shape := ⟨1, ![5632]⟩
abbrev S1x5632 : Shape := ⟨2, ![1, 5632]⟩
abbrev S1x1x5632 : Shape := ⟨3, ![1, 1, 5632]⟩
abbrev S1 : Shape := ⟨1, ![1]⟩
abbrev S1x1x1 : Shape := ⟨3, ![1, 1, 1]⟩
abbrev S2048 : Shape := ⟨1, ![2048]⟩
abbrev S1x2048 : Shape := ⟨2, ![1, 2048]⟩
abbrev S1x1x2048 : Shape := ⟨3, ![1, 1, 2048]⟩

abbrev nBuf : Space → Nat
  | .hbm => 6
  | .vmem => 9
  | .smem => 3
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S5632x2048, .bf16⟩
  | .hbm, ⟨3, _⟩ => ⟨S1x1, .f32⟩
  | .hbm, ⟨4, _⟩ => ⟨S1x1, .f32⟩
  | .hbm, ⟨5, _⟩ => ⟨S1x1, .f32⟩
  | .local _ .vmem, ⟨0, _⟩ => ⟨S256x5632, .bf16⟩
  | .local _ .vmem, ⟨1, _⟩ => ⟨S256x5632, .bf16⟩
  | .local _ .vmem, ⟨2, _⟩ => ⟨S256x5632, .bf16⟩
  | .local _ .vmem, ⟨3, _⟩ => ⟨S256x5632, .bf16⟩
  | .local _ .vmem, ⟨4, _⟩ => ⟨S704x2048, .bf16⟩
  | .local _ .vmem, ⟨5, _⟩ => ⟨S704x2048, .bf16⟩
  | .local _ .vmem, ⟨6, _⟩ => ⟨S8x5632, .f32⟩
  | .local _ .vmem, ⟨7, _⟩ => ⟨S8x5632, .f32⟩
  | .local _ .vmem, ⟨8, _⟩ => ⟨S8x2048, .f32⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_stg3_0 : Ref sig .tc := ⟨.smem, 0, rfl⟩
abbrev cc0_stg4_0 : Ref sig .tc := ⟨.smem, 1, rfl⟩
abbrev cc0_stg5_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c7_i32 : BitVec 32 := 7#32
  let v36 : BitVec 1 := Scalar.cmpi .eq arg0 c7_i32
  let v37 : BitVec 32 := Scalar.extui v36
  let c0_i32_21 : BitVec 32 := 0#32
  let v38 : BitVec 1 := Scalar.cmpi .ne v37 c0_i32_21
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== WscaleRefIdeal.lean ====
abbrev S2048x5632 : Shape := ⟨2, ![2048, 5632]⟩
abbrev S5632x2048 : Shape := ⟨2, ![5632, 2048]⟩
abbrev S_ : Shape := ⟨0, ![]⟩
abbrev S5632 : Shape := ⟨1, ![5632]⟩
abbrev S1x1 : Shape := ⟨2, ![1, 1]⟩
abbrev S2048 : Shape := ⟨1, ![2048]⟩

abbrev nBuf : Space → Nat
  | .hbm => 45
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S5632x2048, .bf16⟩
  | .hbm, ⟨3, _⟩ => ⟨S2048x5632, .f32⟩
  | .hbm, ⟨4, _⟩ => ⟨S2048x5632, .f32⟩
  | .hbm, ⟨5, _⟩ => ⟨S_, .f32⟩
  | .hbm, ⟨6, _⟩ => ⟨S5632, .f32⟩
  | .hbm, ⟨7, _⟩ => ⟨S_, .f32⟩
  | .hbm, ⟨8, _⟩ => ⟨S5632, .f32⟩
  | .hbm, ⟨9, _⟩ => ⟨S5632, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x1, .f32⟩
  | .hbm, ⟨17, _⟩ => ⟨S2048x5632, .f32⟩
  | .hbm, ⟨18, _⟩ => ⟨S2048x5632, .f32⟩
  | .hbm, ⟨19, _⟩ => ⟨S_, .f32⟩
  | .hbm, ⟨20, _⟩ => ⟨S5632, .f32⟩
  | .hbm, ⟨21, _⟩ => ⟨S_, .f32⟩
  | .hbm, ⟨22, _⟩ => ⟨S5632, .f32⟩
  | .hbm, ⟨23, _⟩ => ⟨S5632, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1x1, .f32⟩
  | .hbm, ⟨31, _⟩ => ⟨S5632x2048, .f32⟩
  | .hbm, ⟨32, _⟩ => ⟨S5632x2048, .f32⟩
  | .hbm, ⟨33, _⟩ => ⟨S_, .f32⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S1x1, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_cst_5 : Ref sig .tc := ⟨.hbm, 21, rfl⟩
abbrev main_v12 : Ref sig .tc := ⟨.hbm, 22, rfl⟩
abbrev main_v13 : Ref sig .tc := ⟨.hbm, 23, rfl⟩
abbrev main_cst_6 : Ref sig .tc := ⟨.hbm, 24, rfl⟩
abbrev main_v14 : Ref sig .tc := ⟨.hbm, 25, rfl⟩
abbrev main_cst_7 : Ref sig .tc := ⟨.hbm, 26, rfl⟩
abbrev main_v15 : Ref sig .tc := ⟨.hbm, 27, rfl⟩
abbrev main_cst_8 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_9 : Ref sig .tc := ⟨.hbm, 33, rfl⟩
abbrev main_v20 : Ref sig .tc := ⟨.hbm, 34, rfl⟩
abbrev main_cst_10 : Ref sig .tc := ⟨.hbm, 35, rfl⟩
abbrev main_v21 : Ref sig .tc := ⟨.hbm, 36, rfl⟩
abbrev main_v22 : Ref sig .tc := ⟨.hbm, 37, rfl⟩
abbrev main_cst_11 : Ref sig .tc := ⟨.hbm, 38, rfl⟩
abbrev main_v23 : Ref sig .tc := ⟨.hbm, 39, rfl⟩
abbrev main_cst_12 : Ref sig .tc := ⟨.hbm, 40, rfl⟩
abbrev main_v24 : Ref sig .tc := ⟨.hbm, 41, rfl⟩
abbrev main_cst_13 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]
-- ==== Proof.Dw.Body.lean ====
/- What one grid point of the weight-gradient kernel leaves in its three running sums and its three output blocks,
   read back from the stores as values: each point adds one block of 1024 tokens to the sums, the first point of a
   column of blocks starts them from zero, and the last one stores them. -/
module

public import proofs.«01_k».proof.Proof.Gen.DwIdeal.Value
public import Idealize.ShloMosaic.Lib.Pipeline.Value
public import Idealize.ShloMosaic.Lib.Tactic

@[expose] public section

set_option maxRecDepth 16384

noncomputable section

namespace Cert.DwIdeal.Body

open Idealize.ShloMosaic Idealize.ShloMosaic.TcCoe Idealize.SL.Sem
open Cert.DwIdeal Cert.DwIdeal.Gen

variable {F : FTy → Type} [FloatOps F]

theorem hz : (![0, 0] : Fin 2 → Nat) = fun _ => 0 := funext fun a => by fin_cases a <;> rfl

variable (c : Dev nD) (i : grid0.Coords) (arg2 : Memref sig .tc .vmem S1024x2048 .i8) (harg2 : arg2.IsWhole) (arg3 : Memref sig .tc .vmem S1024x128 .f32) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .i8) (harg6 : arg6.IsWhole) (arg7 : Memref sig .tc .vmem S1024x128 .f32) (harg7 : arg7.IsWhole) (arg8 : Memref sig .tc .vmem S1024x2048 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S512x2048 .bf16) (harg11 : arg11.IsWhole) (arg12 : Memref sig .tc .vmem S2048x512 .f32) (harg12 : arg12.IsWhole) (arg13 : Memref sig .tc .vmem S2048x512 .f32) (harg13 : arg13.IsWhole) (arg14 : Memref sig .tc .vmem S512x2048 .f32) (harg14 : arg14.IsWhole)
variable (x0 : Vec F S1024x2048 .i8) (x1 : Vec F S1024x128 .f32) (x2 : Vec F S1024x512 .bf16) (x3 : Vec F S1024x512 .bf16) (x4 : Vec F S1024x512 .i8) (x5 : Vec F S1024x128 .f32) (x6 : Vec F S1024x2048 .bf16)
variable (xs0 : Vec F S2048x512 .f32) (xs1 : Vec F S2048x512 .f32) (xs2 : Vec F S512x2048 .f32)

/-- The first point of a column: the running sum 0 (gradient of the gate weights) starts from zero and takes this block of tokens. -/
theorem sout_A_0 (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = k0_pay9 x0 x1 k0_pay5 x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  sl_unfold_words
  rw [View.canon_cons_unit_zero (S := S2048x512) hz, View.readCov_unit_zero (S := S2048x512) _ hz]
  simp only [View.readAt_eq_ld, harg2.read_unread, harg3.read_unread, harg4.read_unread, harg5.read_unread, harg6.read_unread, harg7.read_unread, harg8.read_unread, harg12.read_unread, harg13.read_unread, harg14.read_unread, View.ld_unit_zero (S := S1024x2048) hz, View.ld_unit_zero (S := S1024x128) hz, View.ld_unit_zero (S := S1024x512) hz, View.ld_unit_zero (S := S2048x512) hz, View.ld_unit_zero (S := S512x2048) hz]

/-- The first point of a column: the running sum 1 (gradient of the up weights) starts from zero and takes this block of tokens. -/
theorem sout_A_1 (hc0 : cond0_0 i) (hc1 : ¬cond0_1 i) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = k0_pay10 x0 x1 k0_pay6 x3 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  sl_unfold_words
  rw [View.canon_cons_unit_zero (S := S2048x512) hz, View.readCov_unit_zero (S := S2048x512) _ hz]
  simp only [View.readAt_eq_ld, harg2.read_unread, harg3.read_unread, harg4.read_unread, harg5.read_unread, harg6.read_unread, harg7.read_unread, harg8.read_unread, harg12.read_unread, harg13.read_unread, harg14.read_unread, View.ld_unit_zero (S := S1024x2048) hz, View.ld_unit_zero (S := S1024x128) hz, View.ld_unit_zero (S := S1024x512) hz, View.ld_unit_zero (S := S2048x512) hz, View.ld_unit_zero (S := S512x2048) hz]

/-- The first point of a column: the running sum 2 (gradient of the down weights) starts from zero and takes this block of tokens. -/
theorem sout_A_2 (hc0 : cond0_0 i) (hc1 : ¬cond0_1 i) :
    sout0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = k0_pay1 (k0_pay11 x4 x5) k0_pay7 x6 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  sl_unfold_words
  rw [View.canon_cons_unit_zero (S := S512x2048) hz, View.readCov_unit_zero (S := S512x2048) _ hz]
  simp only [View.readAt_eq_ld, harg2.read_unread, harg3.read_unread, harg4.read_unread, harg5.read_unread, harg6.read_unread, harg7.read_unread, harg8.read_unread, harg12.read_unread, harg13.read_unread, harg14.read_unread, View.ld_unit_zero (S := S1024x2048) hz, View.ld_unit_zero (S := S1024x128) hz, View.ld_unit_zero (S := S1024x512) hz, View.ld_unit_zero (S := S2048x512) hz, View.ld_unit_zero (S := S512x2048) hz]

/-- A middle point: the running sum 0 (gradient of the gate weights) takes this block of tokens. -/
theorem sout_B_0 (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 = k0_pay9 x0 x1 xs0 x2 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg12.read_unread, harg13.read_unread, harg14.read_unread, View.ld_unit_zero (S := S1024x2048) hz, View.ld_unit_zero (S := S1024x128) hz, View.ld_unit_zero (S := S1024x512) hz, View.ld_unit_zero (S := S2048x512) hz, View.ld_unit_zero (S := S512x2048) hz]

/-- A middle point: the running sum 1 (gradient of the up weights) takes this block of tokens. -/
theorem sout_B_1 (hc0 : ¬cond0_0 i) (hc1 : ¬cond0_1 i) :
    sout0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 = k0_pay10 x0 x1 xs1 x3 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg12.read_unread, harg13.read_unread, harg14.read_unread, View.ld_unit_zero (S := S1024x2048) hz, View.ld_unit_zero (S := S1024x128) hz, View.ld_unit_zero (S := S1024x512) hz, View.ld_unit_zero (S := S2048x512) hz, View.ld_unit_zero (S := S512x2048) hz]

/-- A middle point: the running sum 2 (gradient of the down weights) takes this block of tokens. -/
theorem sout_B_2 (hc0 : ¬cond0_0 i) (hc1 : ¬cond0_1 i) :
    sout0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 = k0_pay1 (k0_pay11 x4 x5) xs2 x6 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg12.read_unread, harg13.read_unread, harg14.read_unread, View.ld_unit_zero (S := S1024x2048) hz, View.ld_unit_zero (S := S1024x128) hz, View.ld_unit_zero (S := S1024x512) hz, View.ld_unit_zero (S := S2048x512) hz, View.ld_unit_zero (S := S512x2048) hz]

/-- The last point: the running sum 0 (gradient of the gate weights) takes this block of tokens. -/
theorem sout_C_0 (hc0 : ¬cond0_0 i) (hc1 : cond0_1 i) :
    sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 = k0_pay9 x0 x1 xs0 x2 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg12.read_unread, harg13.read_unread, harg14.read_unread, View.ld_unit_zero (S := S1024x2048) hz, View.ld_unit_zero (S := S1024x128) hz, View.ld_unit_zero (S := S1024x512) hz, View.ld_unit_zero (S := S2048x512) hz, View.ld_unit_zero (S := S512x2048) hz]

/-- The last point: the running sum 1 (gradient of the up weights) takes this block of tokens. -/
theorem sout_C_1 (hc0 : ¬cond0_0 i) (hc1 : cond0_1 i) :
    sout0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 = k0_pay10 x0 x1 xs1 x3 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg12.read_unread, harg13.read_unread, harg14.read_unread, View.ld_unit_zero (S := S1024x2048) hz, View.ld_unit_zero (S := S1024x128) hz, View.ld_unit_zero (S := S1024x512) hz, View.ld_unit_zero (S := S2048x512) hz, View.ld_unit_zero (S := S512x2048) hz]

/-- The last point: the running sum 2 (gradient of the down weights) takes this block of tokens. -/
theorem sout_C_2 (hc0 : ¬cond0_0 i) (hc1 : cond0_1 i) :
    sout0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 = k0_pay1 (k0_pay11 x4 x5) xs2 x6 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg12.read_unread, harg13.read_unread, harg14.read_unread, View.ld_unit_zero (S := S1024x2048) hz, View.ld_unit_zero (S := S1024x128) hz, View.ld_unit_zero (S := S1024x512) hz, View.ld_unit_zero (S := S2048x512) hz, View.ld_unit_zero (S := S512x2048) hz]

/-- The last point stores the running sum 0 (gradient of the gate weights), with this block of tokens added. -/
theorem out_C_7 (hc0 : ¬cond0_0 i) (hc1 : cond0_1 i) :
    out0_C_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 = truncf .bf16 (k0_pay9 x0 x1 xs0 x2) bitsLt_bf16_f32 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2)]
  unfold kernelRun0_C
  dsimp only
  sl_unfold_words
  rw [View.canon_unit_zero hz, View.readCov_unit_zero (S := S2048x512) _ hz]
  unfold k0_pay2
  simp only [View.readAt_eq_ld, harg2.read_unread, harg3.read_unread, harg4.read_unread, harg5.read_unread, harg6.read_unread, harg7.read_unread, harg8.read_unread, harg12.read_unread, harg13.read_unread, harg14.read_unread, View.ld_unit_zero (S := S1024x2048) hz, View.ld_unit_zero (S := S1024x128) hz, View.ld_unit_zero (S := S1024x512) hz, View.ld_unit_zero (S := S2048x512) hz, View.ld_unit_zero (S := S512x2048) hz]

/-- The last point stores the running sum 1 (gradient of the up weights), with this block of tokens added. -/
theorem out_C_8 (hc0 : ¬cond0_0 i) (hc1 : cond0_1 i) :
    out0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 = truncf .bf16 (k0_pay10 x0 x1 xs1 x3) bitsLt_bf16_f32 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2)]
  unfold kernelRun0_C
  dsimp only
  sl_unfold_words
  rw [View.canon_unit_zero hz, View.readCov_unit_zero (S := S2048x512) _ hz]
  unfold k0_pay3
  simp only [View.readAt_eq_ld, harg2.read_unread, harg3.read_unread, harg4.read_unread, harg5.read_unread, harg6.read_unread, harg7.read_unread, harg8.read_unread, harg12.read_unread, harg13.read_unread, harg14.read_unread, View.ld_unit_zero (S := S1024x2048) hz, View.ld_unit_zero (S := S1024x128) hz, View.ld_unit_zero (S := S1024x512) hz, View.ld_unit_zero (S := S2048x512) hz, View.ld_unit_zero (S := S512x2048) hz]

/-- The last point stores the running sum 2 (gradient of the down weights), with this block of tokens added. -/
theorem out_C_9 (hc0 : ¬cond0_0 i) (hc1 : cond0_1 i) :
    out0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 = truncf .bf16 (k0_pay1 (k0_pay11 x4 x5) xs2 x6) bitsLt_bf16_f32 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2)]
  unfold kernelRun0_C
  dsimp only
  sl_unfold_words
  rw [View.canon_unit_zero hz, View.readCov_unit_zero (S := S512x2048) _ hz]
  unfold k0_pay4
  simp only [View.readAt_eq_ld, harg2.read_unread, harg3.read_unread, harg4.read_unread, harg5.read_unread, harg6.read_unread, harg7.read_unread, harg8.read_unread, harg12.read_unread, harg13.read_unread, harg14.read_unread, View.ld_unit_zero (S := S1024x2048) hz, View.ld_unit_zero (S := S1024x128) hz, View.ld_unit_zero (S := S1024x512) hz, View.ld_unit_zero (S := S2048x512) hz, View.ld_unit_zero (S := S512x2048) hz]

end Cert.DwIdeal.Body

end
-- ==== Proof.Common.lean ====
/- Facts used for every call of the kernel: a matrix read at natural-number coordinates, a sum over rows split into
   equal blocks, and a matrix product read at one element. -/
module

public import Idealize.ShloMosaic.Lib.ValueIdx
public import Idealize.ShloMosaic.Lib.Pipeline.Value
public import Idealize.ShloMosaic.PureOps.Ideal.Laws

@[expose] public section

noncomputable section

namespace Cert.Common

open Idealize.ShloMosaic Idealize.ShloMosaic.ValueIdx
open scoped BigOperators

/-- A matrix read at two natural numbers (taken modulo the extents, so that every pair names an element). -/
def at2 {α : Type} {n0 n1 : Nat} [NeZero n0] [NeZero n1] (x : (⟨2, ![n0, n1]⟩ : Shape).Idx → α) (a b : Nat) : α :=
  x (ix2 (Fin.ofNat n0 a) (Fin.ofNat n1 b))

/-- A vector read at a natural number. -/
def at1 {α : Type} {n : Nat} [NeZero n] (x : (⟨1, ![n]⟩ : Shape).Idx → α) (a : Nat) : α := x (ix1 (Fin.ofNat n a))

/-- An element of a matrix is the matrix read at the element's coordinates. -/
theorem eq_at2 {α : Type} {n0 n1 : Nat} [NeZero n0] [NeZero n1] (x : (⟨2, ![n0, n1]⟩ : Shape).Idx → α)
    (j : (⟨2, ![n0, n1]⟩ : Shape).Idx) (a b : Nat) (ha : (j 0).val = a) (hb : (j 1).val = b) : x j = at2 x a b := by
  subst ha hb
  unfold at2
  congr 1
  funext d
  apply Fin.ext
  match d with
  | ⟨0, _⟩ => exact (Nat.mod_eq_of_lt (j 0).isLt).symm
  | ⟨1, _⟩ => exact (Nat.mod_eq_of_lt (j 1).isLt).symm

/-- An element of a vector is the vector read at the element's coordinate. -/
theorem eq_at1 {α : Type} {n : Nat} [NeZero n] (x : (⟨1, ![n]⟩ : Shape).Idx → α)
    (j : (⟨1, ![n]⟩ : Shape).Idx) (a : Nat) (ha : (j 0).val = a) : x j = at1 x a := by
  subst ha
  unfold at1
  congr 1
  funext d
  apply Fin.ext
  match d with
  | ⟨0, _⟩ => exact (Nat.mod_eq_of_lt (j 0).isLt).symm

/-- A sum over `B * n` places is the sum, over `n` blocks, of each block's sum over its `B` places. -/
theorem sum_range_blocks {M : Type*} [AddCommMonoid M] (B : Nat) (F : Nat → M) :
    ∀ n : Nat, ∑ t ∈ Finset.range (B * n), F t = ∑ s ∈ Finset.range n, ∑ k ∈ Finset.range B, F (B * s + k)
  | 0 => by simp
  | n + 1 => by rw [Nat.mul_succ, Finset.sum_range_add, sum_range_blocks B F n, Finset.sum_range_succ]

/-- The same, with the sums over bounded indices. -/
theorem sum_fin_blocks {M : Type*} [AddCommMonoid M] (B n N : Nat) (h : B * n = N) (F : Nat → M) :
    ∑ t : Fin N, F t.val = ∑ s ∈ Finset.range n, ∑ k : Fin B, F (B * s + k.val) := by
  subst h
  rw [Fin.sum_univ_eq_sum_range F, sum_range_blocks]
  exact Finset.sum_congr rfl fun s _ => (Fin.sum_univ_eq_sum_range (fun k => F (B * s + k)) B).symm

/-- A matrix product with one summed axis, into a zero accumulator, read at an element: the sum of the products of the
    operands' elements, whose places `L` and `R` are given. -/
theorem matmul_zero_sum {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hL : ∀ (k : Fin n) (q : D.contr.Idx), (q ⟨0, by omega⟩).val = k.val → D.lhsIdx j q = L k)
    (hR : ∀ (k : Fin n) (q : D.contr.Idx), (q ⟨0, by omega⟩).val = k.val → D.rhsIdx j q = R k) :
    matmul D prec lhs rhs (constant so .f32 0x00000000#32) j = ∑ k : Fin n, lhs (L k) * rhs (R k) := by
  refine (Ideal.matmul_constant_zero_apply D prec lhs rhs j).trans ?_
  rw [← Equiv.sum_comp (contrEquiv1 D n hr hs).symm]
  refine Finset.sum_congr rfl fun k _ => ?_
  have hk := contrEquiv1_symm_val D n hr hs k
  rw [hL k _ hk, hR k _ hk]

/-! ## Matrix products of two matrices -/

/-- The left operand's coordinate on its one kept axis is the result's first coordinate. -/
theorem lhsIdx_kept {sl sr so : Shape} (D : DotDims sl sr so) {a : Fin sl.rank} (hb : D.lhsBatch = [])
    (hn : D.lhsNonContracting = [a]) (j : so.Idx) (q : D.contr.Idx) (h0 : 0 < so.rank) :
    (D.lhsIdx j q a).val = (j ⟨0, h0⟩).val := by
  unfold DotDims.lhsIdx
  rw [dif_neg (by rw [hb]; exact List.not_mem_nil), dif_pos (by rw [hn]; exact List.mem_singleton.mpr rfl)]
  simp only [Fin.val_cast]
  have key : ∀ (p p' : Nat) (hp : p < so.rank) (hp' : p' < so.rank), p = p' → (j ⟨p, hp⟩).val = (j ⟨p', hp'⟩).val :=
    fun p p' hp hp' h => by subst h; rfl
  exact key _ _ _ _ (by simp [hb, hn])

/-- The right operand's coordinate on its one kept axis is the result's second coordinate. -/
theorem rhsIdx_kept {sl sr so : Shape} (D : DotDims sl sr so) {b : Fin sl.rank} {a : Fin sr.rank} (hlb : D.lhsBatch = [])
    (hb : D.rhsBatch = []) (hl : D.lhsNonContracting = [b])
    (hn : D.rhsNonContracting = [a]) (j : so.Idx) (q : D.contr.Idx) (h1 : 1 < so.rank) :
    (D.rhsIdx j q a).val = (j ⟨1, h1⟩).val := by
  unfold DotDims.rhsIdx
  rw [dif_neg (by rw [hb]; exact List.not_mem_nil), dif_pos (by rw [hn]; exact List.mem_singleton.mpr rfl)]
  simp only [Fin.val_cast]
  have key : ∀ (p p' : Nat) (hp : p < so.rank) (hp' : p' < so.rank), p = p' → (j ⟨p, hp⟩).val = (j ⟨p', hp'⟩).val :=
    fun p p' hp hp' h => by subst h; rfl
  exact key _ _ _ _ (by simp [hlb, hl, hn])

section Matrices
variable {m n K l0 l1 r0 r1 : Nat} {φ₁ φ₂ : FTy}

/-- `lhsᵀ · rhs`: both operands summed over their rows. -/
theorem matmul_tn (D : DotDims ⟨2, ![K, m]⟩ ⟨2, ![K, n]⟩ ⟨2, ![m, n]⟩) (prec : Option ContractPrecision)
    (hlc : D.lhsContracting = [0]) (hrc : D.rhsContracting = [0]) (hlk : D.lhsNonContracting = [1]) (hrk : D.rhsNonContracting = [1])
    (hlb : D.lhsBatch = []) (hrb : D.rhsBatch = []) (hr : D.contr.rank = 1) (hs : D.contr.size ⟨0, by omega⟩ = K)
    (lhs : FVec Ideal ⟨2, ![K, m]⟩ φ₁) (rhs : FVec Ideal ⟨2, ![K, n]⟩ φ₂) (j : (⟨2, ![m, n]⟩ : Shape).Idx) :
    matmul D prec lhs rhs (constant ⟨2, ![m, n]⟩ .f32 0x00000000#32) j = ∑ k : Fin K, lhs (ix2 k (j 0)) * rhs (ix2 k (j 1)) :=
  matmul_zero_sum D prec K hr hs lhs rhs j _ _
    (fun k q hq => funext fun a => Fin.ext (match a with
      | ⟨0, _⟩ => (D.lhsIdx_val_of_single hlc j q).trans hq
      | ⟨1, _⟩ => lhsIdx_kept D hlb hlk j q Nat.two_pos))
    (fun k q hq => funext fun a => Fin.ext (match a with
      | ⟨0, _⟩ => (D.rhsIdx_val_of_single hrc j q).trans hq
      | ⟨1, _⟩ => rhsIdx_kept D hlb hrb hlk hrk j q Nat.one_lt_two))

/-- `lhs · rhs`: the ordinary product of two matrices. -/
theorem matmul_nn (D : DotDims ⟨2, ![m, K]⟩ ⟨2, ![K, n]⟩ ⟨2, ![m, n]⟩) (prec : Option ContractPrecision)
    (hlc : D.lhsContracting = [1]) (hrc : D.rhsContracting = [0]) (hlk : D.lhsNonContracting = [0]) (hrk : D.rhsNonContracting = [1])
    (hlb : D.lhsBatch = []) (hrb : D.rhsBatch = []) (hr : D.contr.rank = 1) (hs : D.contr.size ⟨0, by omega⟩ = K)
    (lhs : FVec Ideal ⟨2, ![m, K]⟩ φ₁) (rhs : FVec Ideal ⟨2, ![K, n]⟩ φ₂) (j : (⟨2, ![m, n]⟩ : Shape).Idx) :
    matmul D prec lhs rhs (constant ⟨2, ![m, n]⟩ .f32 0x00000000#32) j = ∑ k : Fin K, lhs (ix2 (j 0) k) * rhs (ix2 k (j 1)) :=
  matmul_zero_sum D prec K hr hs lhs rhs j _ _
    (fun k q hq => funext fun a => Fin.ext (match a with
      | ⟨1, _⟩ => (D.lhsIdx_val_of_single hlc j q).trans hq
      | ⟨0, _⟩ => lhsIdx_kept D hlb hlk j q Nat.two_pos))
    (fun k q hq => funext fun a => Fin.ext (match a with
      | ⟨0, _⟩ => (D.rhsIdx_val_of_single hrc j q).trans hq
      | ⟨1, _⟩ => rhsIdx_kept D hlb hrb hlk hrk j q Nat.one_lt_two))

/-- `lhs · rhsᵀ`: both operands summed along their rows. -/
theorem matmul_nt (D : DotDims ⟨2, ![m, K]⟩ ⟨2, ![n, K]⟩ ⟨2, ![m, n]⟩) (prec : Option ContractPrecision)
    (hlc : D.lhsContracting = [1]) (hrc : D.rhsContracting = [1]) (hlk : D.lhsNonContracting = [0]) (hrk : D.rhsNonContracting = [0])
    (hlb : D.lhsBatch = []) (hrb : D.rhsBatch = []) (hr : D.contr.rank = 1) (hs : D.contr.size ⟨0, by omega⟩ = K)
    (lhs : FVec Ideal ⟨2, ![m, K]⟩ φ₁) (rhs : FVec Ideal ⟨2, ![n, K]⟩ φ₂) (j : (⟨2, ![m, n]⟩ : Shape).Idx) :
    matmul D prec lhs rhs (constant ⟨2, ![m, n]⟩ .f32 0x00000000#32) j = ∑ k : Fin K, lhs (ix2 (j 0) k) * rhs (ix2 (j 1) k) :=
  matmul_zero_sum D prec K hr hs lhs rhs j _ _
    (fun k q hq => funext fun a => Fin.ext (match a with
      | ⟨1, _⟩ => (D.lhsIdx_val_of_single hlc j q).trans hq
      | ⟨0, _⟩ => lhsIdx_kept D hlb hlk j q Nat.two_pos))
    (fun k q hq => funext fun a => Fin.ext (match a with
      | ⟨1, _⟩ => (D.rhsIdx_val_of_single hrc j q).trans hq
      | ⟨0, _⟩ => rhsIdx_kept D hlb hrb hlk hrk j q Nat.one_lt_two))

end Matrices

/-- An 8-bit integer widened to 32 bits and read as a real is the integer itself. -/
theorem toInt_extsi (b : BitVec 8) : (b.signExtend 32).toInt = b.toInt := BitVec.toInt_signExtend_of_le (by decide)

end Cert.Common

end
-- ==== Proof.Dw.Terms.lean ====
/- The weight-gradient kernel's arithmetic at one element, over the extended reals: a token's dequantised activation is
   its integer code times its scale, and a point of the grid adds to each running sum the products of its 1024 tokens. -/
module

public import proofs.«01_k».proof.Proof.Dw.Body
public import proofs.«01_k».proof.Proof.Common

@[expose] public section

noncomputable section

namespace Cert.DwIdeal.Terms

open Idealize.ShloMosaic Idealize.ShloMosaic.TcCoe Idealize.SL.Sem Idealize.ShloMosaic.ValueIdx
open Cert.DwIdeal Cert.DwIdeal.Gen Cert.Common
open scoped BigOperators

/-- An 8-bit code as a real number. -/
abbrev code (b : BitVec 8) : EReal := ((b.toInt : ℝ) : EReal)

/-- The dequantised block of the first activation: each code times the scale its row's lanes carry. -/
theorem pay8_apply (v3 : Vec Ideal S1024x2048 .i8) (v5 : Vec Ideal S1024x128 .f32) (j : S1024x2048.Idx) :
    k0_pay8 (F := Ideal) v3 v5 j = code (v3 j) * v5 (ix2 (j 0) ⟨(j 1).val % 128, Nat.mod_lt _ (by decide)⟩) := by
  unfold k0_pay8
  rw [mulf_apply]
  refine congrArg (code (v3 j) * ·) ?_
  refine (concatenate_replicate_apply (s₁ := S1024x128) (t := S1024x2048) 1 16 (truncf (F := Ideal) .bf16 (shapeCast S1024x128 v5 shapeCasts_S1024x128_S1024x128) bitsLt_bf16_f32)
    concatenates_S1024x128_S1024x128_S1024x128_S1024x128_S1024x128_S1024x128_S1024x128_S1024x128_S1024x128_S1024x128_S1024x128_S1024x128_S1024x128_S1024x128_S1024x128_S1024x128_S1024x2048_d1
    rfl j (ix2 (j 0) ⟨(j 1).val % 128, Nat.mod_lt _ (by decide)⟩) rfl ?_).trans (congrFun (shapeCast_self _ _) _)
  intro b hb
  match b with
  | ⟨0, _⟩ => rfl
  | ⟨1, _⟩ => exact absurd rfl hb

/-- The dequantised block of the second activation. -/
theorem pay11_apply (v24 : Vec Ideal S1024x512 .i8) (v26 : Vec Ideal S1024x128 .f32) (j : S1024x512.Idx) :
    k0_pay11 (F := Ideal) v24 v26 j = code (v24 j) * v26 (ix2 (j 0) ⟨(j 1).val % 128, Nat.mod_lt _ (by decide)⟩) := by
  unfold k0_pay11
  rw [mulf_apply]
  refine congrArg (code (v24 j) * ·) ?_
  refine (concatenate_replicate_apply (s₁ := S1024x128) (t := S1024x512) 1 4 (truncf (F := Ideal) .bf16 (shapeCast S1024x128 v26 shapeCasts_S1024x128_S1024x128) bitsLt_bf16_f32)
    concatenates_S1024x128_S1024x128_S1024x128_S1024x128_S1024x512_d1
    rfl j (ix2 (j 0) ⟨(j 1).val % 128, Nat.mod_lt _ (by decide)⟩) rfl ?_).trans (congrFun (shapeCast_self _ _) _)
  intro b hb
  match b with
  | ⟨0, _⟩ => rfl
  | ⟨1, _⟩ => exact absurd rfl hb

/-- One point's step of the gate gradient's sum: what it held, plus the products of the block's 1024 tokens. -/
theorem pay9_apply (x0 : Vec Ideal S1024x2048 .i8) (x1 : Vec Ideal S1024x128 .f32) (acc : Vec Ideal S2048x512 .f32)
    (y : Vec Ideal S1024x512 .bf16) (j : S2048x512.Idx) :
    k0_pay9 (F := Ideal) x0 x1 acc y j = acc j + ∑ k : Fin 1024, k0_pay8 (F := Ideal) x0 x1 (ix2 k (j 0)) * y (ix2 k (j 1)) := by
  unfold k0_pay9
  simp only [shapeCast_self]
  rw [addf_apply]
  exact congrArg (acc j + ·) (matmul_tn _ none rfl rfl rfl rfl rfl rfl rfl rfl _ y j)

/-- One point's step of the up gradient's sum. -/
theorem pay10_apply (x0 : Vec Ideal S1024x2048 .i8) (x1 : Vec Ideal S1024x128 .f32) (acc : Vec Ideal S2048x512 .f32)
    (y : Vec Ideal S1024x512 .bf16) (j : S2048x512.Idx) :
    k0_pay10 (F := Ideal) x0 x1 acc y j = acc j + ∑ k : Fin 1024, k0_pay8 (F := Ideal) x0 x1 (ix2 k (j 0)) * y (ix2 k (j 1)) :=
  pay9_apply x0 x1 acc y j

/-- One point's step of the down gradient's sum. -/
theorem pay1_apply (z : FVec Ideal S1024x512 .bf16) (acc : Vec Ideal S512x2048 .f32)
    (y : Vec Ideal S1024x2048 .bf16) (j : S512x2048.Idx) :
    k0_pay1 (F := Ideal) z acc y j = acc j + ∑ k : Fin 1024, z (ix2 k (j 0)) * y (ix2 k (j 1)) := by
  unfold k0_pay1
  simp only [shapeCast_self]
  rw [addf_apply]
  exact congrArg (acc j + ·) (matmul_tn _ none rfl rfl rfl rfl rfl rfl rfl rfl _ y j)

/-- The reset stores zero. -/
theorem pay5_apply (j : S2048x512.Idx) : k0_pay5 (F := Ideal) j = 0 := by
  unfold k0_pay5; simp only [shapeCast_self]; exact Ideal.ofBits_zero_f32
theorem pay6_apply (j : S2048x512.Idx) : k0_pay6 (F := Ideal) j = 0 := pay5_apply j
theorem pay7_apply (j : S512x2048.Idx) : k0_pay7 (F := Ideal) j = 0 := by
  unfold k0_pay7; simp only [shapeCast_self]; exact Ideal.ofBits_zero_f32

end Cert.DwIdeal.Terms

end
-- ==== Proof.Dw.Value.lean ====
/- The weight-gradient kernel's three result arrays, element by element: each is the sum over all 8192 tokens of the
   products, accumulated over eight blocks of 1024 tokens; and the host reference's arrays are the same sums. -/
module

public import proofs.«01_k».proof.Proof.Dw.Terms
public import proofs.«01_k».proof.Proof.Gen.DwRefIdeal.Read
public import proofs.«01_k».proof.Proof.Gen.DwRefIdeal.Run
public import Idealize.ShloMosaic.Lib.StableHlo.Run

@[expose] public section

noncomputable section

namespace Cert.DwIdeal.Sums

open Idealize.ShloMosaic Idealize.ShloMosaic.TcCoe Idealize.SL.Sem Idealize.ShloMosaic.ValueIdx
open Cert.DwIdeal Cert.DwIdeal.Gen Cert.DwIdeal.Value Cert.DwIdeal.Body Cert.DwIdeal.Terms Cert.Common
open scoped BigOperators

variable (m : (ℓ : Loc nD τ sig) → Buf (Elt Ideal) ℓ)

/-- The host repeats the first activation's per-token scales over 128 lanes. -/
theorem V_scales (c : Dev nD) (i : S8192x128.Idx) :
    V m c main_v1 i = m ((c : Thread nD τ).loc main_arg1) (ix1 (i 0)) := by
  have e : V m c main_v1 = broadcastInDim S8192x128 ![0, 1] bcast_S8192x1_S8192x128_0_1
      (broadcastInDim S8192x1 ![0] bcast_S8192_S8192x1_0 (m ((c : Thread nD τ).loc main_arg1))) := by
    unfold V; after_results
  rw [e]
  refine (broadcastInDim_apply _ _ _ i (ix2 (i 0) (0 : Fin 1)) ?_).trans (broadcastInDim_apply _ _ _ _ (ix1 (i 0)) ?_)
  · intro a; match a with
    | ⟨0, _⟩ => rfl
    | ⟨1, _⟩ => rfl
  · intro a; match a with
    | ⟨0, _⟩ => rfl

/-- … and the second activation's. -/
theorem V_scales' (c : Dev nD) (i : S8192x128.Idx) :
    V m c main_v3 i = m ((c : Thread nD τ).loc main_arg5) (ix1 (i 0)) := by
  have e : V m c main_v3 = broadcastInDim S8192x128 ![0, 1] bcast_S8192x1_S8192x128_0_1
      (broadcastInDim S8192x1 ![0] bcast_S8192_S8192x1_0 (m ((c : Thread nD τ).loc main_arg5))) := by
    unfold V; after_results
  rw [e]
  refine (broadcastInDim_apply _ _ _ i (ix2 (i 0) (0 : Fin 1)) ?_).trans (broadcastInDim_apply _ _ _ _ (ix1 (i 0)) ?_)
  · intro a; match a with
    | ⟨0, _⟩ => rfl
    | ⟨1, _⟩ => rfl
  · intro a; match a with
    | ⟨0, _⟩ => rfl

/-- Where each input's block lies at a point: token block `t % 8`, feature block `t / 8`. -/
theorem idx_in : ∀ t : Fin cfg0.N,
    (win0_0.index t (0 : Fin 2) = t.val % 8 ∧ win0_0.index t (1 : Fin 2) = 0)
    ∧ (win0_1.index t (0 : Fin 2) = t.val % 8 ∧ win0_1.index t (1 : Fin 2) = 0)
    ∧ (win0_2.index t (0 : Fin 2) = t.val % 8 ∧ win0_2.index t (1 : Fin 2) = t.val / 8)
    ∧ (win0_3.index t (0 : Fin 2) = t.val % 8 ∧ win0_3.index t (1 : Fin 2) = t.val / 8)
    ∧ (win0_4.index t (0 : Fin 2) = t.val % 8 ∧ win0_4.index t (1 : Fin 2) = t.val / 8)
    ∧ (win0_5.index t (0 : Fin 2) = t.val % 8 ∧ win0_5.index t (1 : Fin 2) = 0)
    ∧ (win0_6.index t (0 : Fin 2) = t.val % 8 ∧ win0_6.index t (1 : Fin 2) = 0) :=
  (by decide +kernel : ∀ t : Fin grid0.N, _)

/-- The codes' block at a point. -/
theorem iblk0 (c : Dev nD) (t : Fin cfg0.N) (y : S1024x2048.Idx) :
    (iblk m c 0 t : Vec Ideal S1024x2048 .i8) y = at2 (n0 := 8192) (n1 := 2048) (m ((c : Thread nD τ).loc main_arg0)) (1024 * (t.val % 8) + (y 0).val) (y 1).val := by
  obtain ⟨⟨h, h'⟩, -⟩ := idx_in t
  unfold iblk
  rw [View.read_apply]
  show V m c main_arg0 _ = _
  rw [V_main_arg0]
  refine eq_at2 _ _ _ _ ?_ ?_
  · show win0_0.index t 0 * 1024 + 1 * (y 0).val = _; rw [h]; omega
  · show win0_0.index t 1 * 2048 + 1 * (y 1).val = _; rw [h']; omega

/-- The scales' block at a point. -/
theorem iblk1 (c : Dev nD) (t : Fin cfg0.N) (y : S1024x128.Idx) :
    (iblk m c 1 t : Vec Ideal S1024x128 .f32) y = at1 (n := 8192) (m ((c : Thread nD τ).loc main_arg1)) (1024 * (t.val % 8) + (y 0).val) := by
  obtain ⟨-, ⟨h, h'⟩, -⟩ := idx_in t
  unfold iblk
  rw [View.read_apply]
  show V m c main_v1 _ = _
  rw [V_scales]
  refine eq_at1 _ _ _ ?_
  show win0_1.index t 0 * 1024 + 1 * (y 0).val = _; rw [h]; omega

/-- The gate's incoming gradient. -/
theorem iblk2 (c : Dev nD) (t : Fin cfg0.N) (y : S1024x512.Idx) :
    (iblk m c 2 t : Vec Ideal S1024x512 .bf16) y = at2 (n0 := 8192) (n1 := 5632) (m ((c : Thread nD τ).loc main_arg2)) (1024 * (t.val % 8) + (y 0).val) (512 * (t.val / 8) + (y 1).val) := by
  obtain ⟨-, -, ⟨h, h'⟩, -⟩ := idx_in t
  unfold iblk
  rw [View.read_apply]
  show V m c main_arg2 _ = _
  rw [V_main_arg2]
  refine eq_at2 _ _ _ _ ?_ ?_
  · show win0_2.index t 0 * 1024 + 1 * (y 0).val = _; rw [h]; omega
  · show win0_2.index t 1 * 512 + 1 * (y 1).val = _; rw [h']; omega

/-- The up projection's incoming gradient. -/
theorem iblk3 (c : Dev nD) (t : Fin cfg0.N) (y : S1024x512.Idx) :
    (iblk m c 3 t : Vec Ideal S1024x512 .bf16) y = at2 (n0 := 8192) (n1 := 5632) (m ((c : Thread nD τ).loc main_arg3)) (1024 * (t.val % 8) + (y 0).val) (512 * (t.val / 8) + (y 1).val) := by
  obtain ⟨-, -, -, ⟨h, h'⟩, -⟩ := idx_in t
  unfold iblk
  rw [View.read_apply]
  show V m c main_arg3 _ = _
  rw [V_main_arg3]
  refine eq_at2 _ _ _ _ ?_ ?_
  · show win0_3.index t 0 * 1024 + 1 * (y 0).val = _; rw [h]; omega
  · show win0_3.index t 1 * 512 + 1 * (y 1).val = _; rw [h']; omega

/-- The second activation's codes. -/
theorem iblk4 (c : Dev nD) (t : Fin cfg0.N) (y : S1024x512.Idx) :
    (iblk m c 4 t : Vec Ideal S1024x512 .i8) y = at2 (n0 := 8192) (n1 := 5632) (m ((c : Thread nD τ).loc main_arg4)) (1024 * (t.val % 8) + (y 0).val) (512 * (t.val / 8) + (y 1).val) := by
  obtain ⟨-, -, -, -, ⟨h, h'⟩, -⟩ := idx_in t
  unfold iblk
  rw [View.read_apply]
  show V m c main_arg4 _ = _
  rw [V_main_arg4]
  refine eq_at2 _ _ _ _ ?_ ?_
  · show win0_4.index t 0 * 1024 + 1 * (y 0).val = _; rw [h]; omega
  · show win0_4.index t 1 * 512 + 1 * (y 1).val = _; rw [h']; omega

/-- The second activation's scales. -/
theorem iblk5 (c : Dev nD) (t : Fin cfg0.N) (y : S1024x128.Idx) :
    (iblk m c 5 t : Vec Ideal S1024x128 .f32) y = at1 (n := 8192) (m ((c : Thread nD τ).loc main_arg5)) (1024 * (t.val % 8) + (y 0).val) := by
  obtain ⟨-, -, -, -, -, ⟨h, h'⟩, -⟩ := idx_in t
  unfold iblk
  rw [View.read_apply]
  show V m c main_v3 _ = _
  rw [V_scales']
  refine eq_at1 _ _ _ ?_
  show win0_5.index t 0 * 1024 + 1 * (y 0).val = _; rw [h]; omega

/-- The output's incoming gradient. -/
theorem iblk6 (c : Dev nD) (t : Fin cfg0.N) (y : S1024x2048.Idx) :
    (iblk m c 6 t : Vec Ideal S1024x2048 .bf16) y = at2 (n0 := 8192) (n1 := 2048) (m ((c : Thread nD τ).loc main_arg6)) (1024 * (t.val % 8) + (y 0).val) (y 1).val := by
  obtain ⟨-, -, -, -, -, -, ⟨h, h'⟩⟩ := idx_in t
  unfold iblk
  rw [View.read_apply]
  show V m c main_arg6 _ = _
  rw [V_main_arg6]
  refine eq_at2 _ _ _ _ ?_ ?_
  · show win0_6.index t 0 * 1024 + 1 * (y 0).val = _; rw [h]; omega
  · show win0_6.index t 1 * 2048 + 1 * (y 1).val = _; rw [h']; omega

/-- Token `k`'s share of the gate gradient at (`d`, `f`): its dequantised activation at `d` times its gradient at `f`. -/
def gate (c : Dev nD) (d f k : Nat) : EReal :=
  code (at2 (n0 := 8192) (n1 := 2048) (m ((c : Thread nD τ).loc main_arg0)) k d) * at1 (n := 8192) (m ((c : Thread nD τ).loc main_arg1)) k
    * at2 (n0 := 8192) (n1 := 5632) (m ((c : Thread nD τ).loc main_arg2)) k f
/-- Token `k`'s share of the up gradient. -/
def up (c : Dev nD) (d f k : Nat) : EReal :=
  code (at2 (n0 := 8192) (n1 := 2048) (m ((c : Thread nD τ).loc main_arg0)) k d) * at1 (n := 8192) (m ((c : Thread nD τ).loc main_arg1)) k
    * at2 (n0 := 8192) (n1 := 5632) (m ((c : Thread nD τ).loc main_arg3)) k f
/-- Token `k`'s share of the down gradient at (`f`, `d`). -/
def down (c : Dev nD) (f d k : Nat) : EReal :=
  code (at2 (n0 := 8192) (n1 := 5632) (m ((c : Thread nD τ).loc main_arg4)) k f) * at1 (n := 8192) (m ((c : Thread nD τ).loc main_arg5)) k
    * at2 (n0 := 8192) (n1 := 2048) (m ((c : Thread nD τ).loc main_arg6)) k d

/-- Point `n` adds to each sum the shares of the 1024 tokens of its block. -/
theorem step0 (c : Dev nD) (t : Fin cfg0.N) (acc : Vec Ideal S2048x512 .f32) (j : S2048x512.Idx) :
    k0_pay9 (F := Ideal) (iblk m c 0 t) (iblk m c 1 t) acc (iblk m c 2 t) j
      = acc j + ∑ k : Fin 1024, gate m c (j 0).val (512 * (t.val / 8) + (j 1).val) (1024 * (t.val % 8) + k.val) := by
  rw [pay9_apply]
  refine congrArg (acc j + ·) (Finset.sum_congr rfl fun k _ => ?_)
  rw [pay8_apply, iblk0, iblk1, iblk2]
  rfl
theorem step1 (c : Dev nD) (t : Fin cfg0.N) (acc : Vec Ideal S2048x512 .f32) (j : S2048x512.Idx) :
    k0_pay10 (F := Ideal) (iblk m c 0 t) (iblk m c 1 t) acc (iblk m c 3 t) j
      = acc j + ∑ k : Fin 1024, up m c (j 0).val (512 * (t.val / 8) + (j 1).val) (1024 * (t.val % 8) + k.val) := by
  rw [pay10_apply]
  refine congrArg (acc j + ·) (Finset.sum_congr rfl fun k _ => ?_)
  rw [pay8_apply, iblk0, iblk1, iblk3]
  rfl
theorem step2 (c : Dev nD) (t : Fin cfg0.N) (acc : Vec Ideal S512x2048 .f32) (j : S512x2048.Idx) :
    k0_pay1 (F := Ideal) (k0_pay11 (F := Ideal) (iblk m c 4 t) (iblk m c 5 t)) acc (iblk m c 6 t) j
      = acc j + ∑ k : Fin 1024, down m c (512 * (t.val / 8) + (j 0).val) (j 1).val (1024 * (t.val % 8) + k.val) := by
  rw [pay1_apply]
  refine congrArg (acc j + ·) (Finset.sum_congr rfl fun k _ => ?_)
  rw [pay11_apply, iblk4, iblk5, iblk6]
  rfl

/-- After the last point of a column of blocks, the gate sum holds all 8192 tokens' shares. -/
theorem total0 (c : Dev nD) (t : Fin cfg0.N) (h7 : t.val % 8 = 7) (j : S2048x512.Idx) :
    (outsAt0 m c t.val t.isLt).2.2.2.1 j = ∑ k : Fin 8192, gate m c (j 0).val (512 * (t.val / 8) + (j 1).val) k.val := by
  have hN : t.val < 88 := lt_of_lt_of_eq t.isLt N_0
  rw [soutsAt0_0_eq, Pipeline.accAt_add_apply _ _ (fun _ => (0 : EReal))
    (fun n i => ∑ k : Fin 1024, gate m c (i 0).val (512 * (n / 8) + (i 1).val) (1024 * (n % 8) + k.val)) (8 * (t.val / 8)) 7 ?_ ?_ _ (by omega),
    zero_add, h7, sum_fin_blocks 1024 8 8192 rfl (fun k => gate m c (j 0).val (512 * (t.val / 8) + (j 1).val) k)]
  · refine Finset.sum_congr rfl fun s hs => ?_
    have hs' : s < 8 := Finset.mem_range.mp hs
    rw [show (8 * (t.val / 8) + s) / 8 = t.val / 8 by omega, show (8 * (t.val / 8) + s) % 8 = s by omega]
  · intro h i
    unfold scAt0_0
    rw [dif_pos (by omega : 8 * (t.val / 8) % 8 = 0), dif_neg (by omega : ¬8 * (t.val / 8) % 8 = 7), sout_A_0]
    refine (step0 m c ⟨_, h⟩ _ i).trans ?_
    rw [pay5_apply]
  · intro n h acc i hb he
    unfold scAt0_0
    by_cases h1 : n % 8 = 7
    · rw [dif_neg (by omega : ¬n % 8 = 0), dif_pos h1, sout_C_0]
      exact step0 m c ⟨n, h⟩ acc i
    · rw [dif_neg (by omega : ¬n % 8 = 0), dif_neg h1, sout_B_0]
      exact step0 m c ⟨n, h⟩ acc i

theorem total1 (c : Dev nD) (t : Fin cfg0.N) (h7 : t.val % 8 = 7) (j : S2048x512.Idx) :
    (outsAt0 m c t.val t.isLt).2.2.2.2.1 j = ∑ k : Fin 8192, up m c (j 0).val (512 * (t.val / 8) + (j 1).val) k.val := by
  have hN : t.val < 88 := lt_of_lt_of_eq t.isLt N_0
  rw [soutsAt0_1_eq, Pipeline.accAt_add_apply _ _ (fun _ => (0 : EReal))
    (fun n i => ∑ k : Fin 1024, up m c (i 0).val (512 * (n / 8) + (i 1).val) (1024 * (n % 8) + k.val)) (8 * (t.val / 8)) 7 ?_ ?_ _ (by omega),
    zero_add, h7, sum_fin_blocks 1024 8 8192 rfl (fun k => up m c (j 0).val (512 * (t.val / 8) + (j 1).val) k)]
  · refine Finset.sum_congr rfl fun s hs => ?_
    have hs' : s < 8 := Finset.mem_range.mp hs
    rw [show (8 * (t.val / 8) + s) / 8 = t.val / 8 by omega, show (8 * (t.val / 8) + s) % 8 = s by omega]
  · intro h i
    unfold scAt0_1
    rw [dif_pos (by omega : 8 * (t.val / 8) % 8 = 0), dif_neg (by omega : ¬8 * (t.val / 8) % 8 = 7), sout_A_1]
    refine (step1 m c ⟨_, h⟩ _ i).trans ?_
    rw [pay6_apply]
  · intro n h acc i hb he
    unfold scAt0_1
    by_cases h1 : n % 8 = 7
    · rw [dif_neg (by omega : ¬n % 8 = 0), dif_pos h1, sout_C_1]
      exact step1 m c ⟨n, h⟩ acc i
    · rw [dif_neg (by omega : ¬n % 8 = 0), dif_neg h1, sout_B_1]
      exact step1 m c ⟨n, h⟩ acc i

theorem total2 (c : Dev nD) (t : Fin cfg0.N) (h7 : t.val % 8 = 7) (j : S512x2048.Idx) :
    (outsAt0 m c t.val t.isLt).2.2.2.2.2 j = ∑ k : Fin 8192, down m c (512 * (t.val / 8) + (j 0).val) (j 1).val k.val := by
  have hN : t.val < 88 := lt_of_lt_of_eq t.isLt N_0
  rw [soutsAt0_2_eq, Pipeline.accAt_add_apply _ _ (fun _ => (0 : EReal))
    (fun n i => ∑ k : Fin 1024, down m c (512 * (n / 8) + (i 0).val) (i 1).val (1024 * (n % 8) + k.val)) (8 * (t.val / 8)) 7 ?_ ?_ _ (by omega),
    zero_add, h7, sum_fin_blocks 1024 8 8192 rfl (fun k => down m c (512 * (t.val / 8) + (j 0).val) (j 1).val k)]
  · refine Finset.sum_congr rfl fun s hs => ?_
    have hs' : s < 8 := Finset.mem_range.mp hs
    rw [show (8 * (t.val / 8) + s) / 8 = t.val / 8 by omega, show (8 * (t.val / 8) + s) % 8 = s by omega]
  · intro h i
    unfold scAt0_2
    rw [dif_pos (by omega : 8 * (t.val / 8) % 8 = 0), dif_neg (by omega : ¬8 * (t.val / 8) % 8 = 7), sout_A_2]
    refine (step2 m c ⟨_, h⟩ _ i).trans ?_
    rw [pay7_apply]
  · intro n h acc i hb he
    unfold scAt0_2
    by_cases h1 : n % 8 = 7
    · rw [dif_neg (by omega : ¬n % 8 = 0), dif_pos h1, sout_C_2]
      exact step2 m c ⟨n, h⟩ acc i
    · rw [dif_neg (by omega : ¬n % 8 = 0), dif_neg h1, sout_B_2]
      exact step2 m c ⟨n, h⟩ acc i

/-- At the last point of a column each output block holds its running sum (a change of format keeps the value). -/
theorem stored (c : Dev nD) (t : Fin cfg0.N) (h7 : t.val % 8 = 7) :
    (∀ j, (outsAt0 m c t.val t.isLt).1 j = (outsAt0 m c t.val t.isLt).2.2.2.1 j)
    ∧ (∀ j, (outsAt0 m c t.val t.isLt).2.1 j = (outsAt0 m c t.val t.isLt).2.2.2.2.1 j)
    ∧ (∀ j, (outsAt0 m c t.val t.isLt).2.2.1 j = (outsAt0 m c t.val t.isLt).2.2.2.2.2 j) := by
  rw [outsAt0_C m c t (by omega) h7]
  dsimp only
  refine ⟨fun j => ?_, fun j => ?_, fun j => ?_⟩
  · rw [out_C_7, sout_C_0]; rfl
  · rw [out_C_8, sout_C_1]; rfl
  · rw [out_C_9, sout_C_2]; rfl

/-- The gate gradient, element by element. -/
theorem G7_apply (c : Dev nD) (i : S2048x5632.Idx) : G7 m c i = ∑ k : Fin 8192, gate m c (i 0).val (i 1).val k.val := by
  have h0 : (i 0).val < 2048 := (i 0).isLt
  have h1 : (i 1).val < 5632 := (i 1).isLt
  have hN : cfg0.N = 88 := N_0
  have hp : pt7Of i < cfg0.N := by show 8 * (11 * ((i 0).val / 2048 - 0) + 1 * ((i 1).val / 512 - 0)) + 7 < _; omega
  have hr : pt7Of i = 8 * ((i 1).val / 512) + 7 := by show 8 * (11 * ((i 0).val / 2048 - 0) + 1 * ((i 1).val / 512 - 0)) + 7 = _; omega
  unfold G7
  rw [dif_pos hp, ← outsAt0_sweep m c (pt7Of i) hp]
  refine ((stored m c ⟨pt7Of i, hp⟩ (by show pt7Of i % 8 = 7; omega)).1 _).trans ?_
  refine (total0 m c ⟨pt7Of i, hp⟩ (by show pt7Of i % 8 = 7; omega) _).trans ?_
  refine Finset.sum_congr rfl fun k _ => ?_
  show gate m c ((i 0).val % 2048) (512 * (pt7Of i / 8) + (i 1).val % 512) k.val = _
  rw [show (i 0).val % 2048 = (i 0).val by omega, show 512 * (pt7Of i / 8) + (i 1).val % 512 = (i 1).val by omega]

/-- The up gradient, element by element. -/
theorem G8_apply (c : Dev nD) (i : S2048x5632.Idx) : G8 m c i = ∑ k : Fin 8192, up m c (i 0).val (i 1).val k.val := by
  have h0 : (i 0).val < 2048 := (i 0).isLt
  have h1 : (i 1).val < 5632 := (i 1).isLt
  have hN : cfg0.N = 88 := N_0
  have hp : pt8Of i < cfg0.N := by show 8 * (11 * ((i 0).val / 2048 - 0) + 1 * ((i 1).val / 512 - 0)) + 7 < _; omega
  have hr : pt8Of i = 8 * ((i 1).val / 512) + 7 := by show 8 * (11 * ((i 0).val / 2048 - 0) + 1 * ((i 1).val / 512 - 0)) + 7 = _; omega
  unfold G8
  rw [dif_pos hp, ← outsAt0_sweep m c (pt8Of i) hp]
  refine ((stored m c ⟨pt8Of i, hp⟩ (by show pt8Of i % 8 = 7; omega)).2.1 _).trans ?_
  refine (total1 m c ⟨pt8Of i, hp⟩ (by show pt8Of i % 8 = 7; omega) _).trans ?_
  refine Finset.sum_congr rfl fun k _ => ?_
  show up m c ((i 0).val % 2048) (512 * (pt8Of i / 8) + (i 1).val % 512) k.val = _
  rw [show (i 0).val % 2048 = (i 0).val by omega, show 512 * (pt8Of i / 8) + (i 1).val % 512 = (i 1).val by omega]

/-- The down gradient, element by element. -/
theorem G9_apply (c : Dev nD) (i : S5632x2048.Idx) : G9 m c i = ∑ k : Fin 8192, down m c (i 0).val (i 1).val k.val := by
  have h0 : (i 0).val < 5632 := (i 0).isLt
  have h1 : (i 1).val < 2048 := (i 1).isLt
  have hN : cfg0.N = 88 := N_0
  have hp : pt9Of i < cfg0.N := by show 8 * (1 * ((i 0).val / 512 - 0) + 1 * ((i 1).val / 2048 - 0)) + 7 < _; omega
  have hr : pt9Of i = 8 * ((i 0).val / 512) + 7 := by show 8 * (1 * ((i 0).val / 512 - 0) + 1 * ((i 1).val / 2048 - 0)) + 7 = _; omega
  unfold G9
  rw [dif_pos hp, ← outsAt0_sweep m c (pt9Of i) hp]
  refine ((stored m c ⟨pt9Of i, hp⟩ (by show pt9Of i % 8 = 7; omega)).2.2 _).trans ?_
  refine (total2 m c ⟨pt9Of i, hp⟩ (by show pt9Of i % 8 = 7; omega) _).trans ?_
  refine Finset.sum_congr rfl fun k _ => ?_
  show down m c (512 * (pt9Of i / 8) + (i 0).val % 512) ((i 1).val % 2048) k.val = _
  rw [show (i 1).val % 2048 = (i 1).val by omega, show 512 * (pt9Of i / 8) + (i 0).val % 512 = (i 0).val by omega]

end Cert.DwIdeal.Sums

end
-- ==== Proof.Dw.Claims.lean ====
/- The claims about the weight-gradient kernel `Dw`, its idealization and the host reference. -/
module

public import proofs.«01_k».proof.Defs
public import proofs.«01_k».proof.Proof.Dw.Value
public import proofs.«01_k».proof.Proof.Gen.Dw.Frame
public import Idealize.ShloMosaic.Lib.Quiescent

@[expose] public section

noncomputable section

namespace Cert.DwRefIdeal.Sums

open Idealize.ShloMosaic Idealize.ShloMosaic.TcCoe Idealize.SL.Sem Idealize.ShloMosaic.ValueIdx
open Cert.DwRefIdeal Cert.DwRefIdeal.Read Cert.Common Cert.DwIdeal.Terms
open scoped BigOperators

/-- The reference's first activation times its scale, at an element. -/
theorem left_apply (x0 : (⟨S8192x2048, .i8⟩ : BufTy).Contents (Elt Ideal)) (x1 : (⟨S8192, .f32⟩ : BufTy).Contents (Elt Ideal))
    (i : S8192x2048.Idx) : val_main_v6 (F := Ideal) x0 x1 i
      = code (at2 (n0 := 8192) (n1 := 2048) x0 (i 0).val (i 1).val) * at1 (n := 8192) x1 (i 0).val := by
  rw [val_main_v6_apply, val_main_v5_apply, val_main_v4_apply]
  show ((((x0 i).signExtend 32).toInt : ℝ) : EReal) * x1 (idx_main_v4 (idx_main_v5 i)) = _
  rw [BitVec.toInt_signExtend_of_le (by decide), eq_at2 x0 i (i 0).val (i 1).val rfl rfl, eq_at1 x1 _ (i 0).val rfl]

/-- The reference's second activation times its scale, at an element. -/
theorem left'_apply (x4 : (⟨S8192x5632, .i8⟩ : BufTy).Contents (Elt Ideal)) (x5 : (⟨S8192, .f32⟩ : BufTy).Contents (Elt Ideal))
    (i : S8192x5632.Idx) : val_main_v13 (F := Ideal) x4 x5 i
      = code (at2 (n0 := 8192) (n1 := 5632) x4 (i 0).val (i 1).val) * at1 (n := 8192) x5 (i 0).val := by
  rw [val_main_v13_apply, val_main_v12_apply, val_main_v11_apply]
  show ((((x4 i).signExtend 32).toInt : ℝ) : EReal) * x5 (idx_main_v11 (idx_main_v12 i)) = _
  rw [BitVec.toInt_signExtend_of_le (by decide), eq_at2 x4 i (i 0).val (i 1).val rfl rfl, eq_at1 x5 _ (i 0).val rfl]

end Cert.DwRefIdeal.Sums

namespace Cert.Proof.DwClaims

open Idealize.ShloMosaic Idealize.ShloMosaic.TcCoe Idealize.SL.Sem Idealize.ShloMosaic.ValueIdx Cert.Common
open scoped BigOperators

/-- Every execution of the kernel ends, leaving its arguments as they were. -/
theorem frame : Cert.quiescent_Dw := fun m ρ _ => Cert.Dw.Gen.frame m ρ
/-- … and of its idealization. -/
theorem frame_i : Cert.quiescent_DwIdeal := fun m ρ _ => Cert.DwIdeal.Gen.frame m ρ
/-- … and of the idealized reference. -/
theorem frame_ri : Cert.quiescent_DwRefIdeal := fun m ρ _ =>
  (θ_run Cert.DwRefIdeal.defs _ _).mono (fun r h => ⟨fun c => (h c).2.2.2, sem_eq_zero_of_no_sems (by decide) r.2⟩)
    (Cert.DwRefIdeal.Value.run (F := Ideal) m ρ)

/-- The idealization changes nothing but the instance of the float operations. -/
theorem preserves : Cert.preserves_Dw_DwIdeal := trivial

/-- At exact arithmetic the kernel's three weight gradients are the reference's. -/
theorem algebraic : Cert.algebraic_DwIdeal_DwRefIdeal := by
  intro m ρ m' ρ' _ hagree
  refine ⟨fun c => Cert.DwIdeal.Value.G7 m c, fun c => Cert.DwIdeal.Value.G8 m c, fun c => Cert.DwIdeal.Value.G9 m c,
    Cert.DwIdeal.Value.run (F := Ideal) m ρ, ?_⟩
  refine (θ_run Cert.DwRefIdeal.defs _ _).mono (fun _ h c => ?_) (Cert.DwRefIdeal.Value.run (F := Ideal) m' ρ')
  obtain ⟨h0, h1, h2, hr⟩ := h c
  obtain ⟨a0, a1, a2, a3, a4, a5, a6⟩ := hagree c
  refine ⟨h0.trans ?_, h1.trans ?_, h2.trans ?_, hr⟩
  · rw [a0, a1, a2]
    funext i
    refine (Cert.DwRefIdeal.Read.val_main_v14_apply _ _ _ i).trans ?_
    refine Eq.trans (Finset.sum_congr rfl fun k _ => ?_) (Cert.DwIdeal.Sums.G7_apply m c i).symm
    exact congrArg₂ (· * ·) (Cert.DwRefIdeal.Sums.left_apply _ _ _) (eq_at2 _ _ k.val (i 1).val rfl rfl)
  · rw [a0, a1, a3]
    funext i
    refine (Cert.DwRefIdeal.Read.val_main_v16_apply _ _ _ i).trans ?_
    refine Eq.trans (Finset.sum_congr rfl fun k _ => ?_) (Cert.DwIdeal.Sums.G8_apply m c i).symm
    exact congrArg₂ (· * ·) (Cert.DwRefIdeal.Sums.left_apply _ _ _) (eq_at2 _ _ k.val (i 1).val rfl rfl)
  · rw [a4, a5, a6]
    funext i
    refine (Cert.DwRefIdeal.Read.val_main_v18_apply _ _ _ i).trans ?_
    refine Eq.trans (Finset.sum_congr rfl fun k _ => ?_) (Cert.DwIdeal.Sums.G9_apply m c i).symm
    exact congrArg₂ (· * ·) (Cert.DwRefIdeal.Sums.left'_apply _ _ _) (eq_at2 _ _ k.val (i 1).val rfl rfl)

end Cert.Proof.DwClaims

end
-- ==== Proof.Proj.Terms.lean ====
/- The projection kernel's arithmetic at one element, over the extended reals. A chunk is 256 tokens against 512
   features: gate and up pre-activations are integer dot products times the token's scale times the weight's scale, and
   the running row statistics fold the 512 features of a chunk into 128 lanes (feature `l + 128 * c` goes to lane `l`). -/
module

public import proofs.«01_k».proof.Proof.Gen.ProjIdeal.Skeleton
public import proofs.«01_k».proof.Proof.Common

@[expose] public section

set_option maxRecDepth 16384

noncomputable section

namespace Cert.ProjIdeal.Terms

open Idealize.ShloMosaic Idealize.ShloMosaic.TcCoe Idealize.SL.Sem Idealize.ShloMosaic.ValueIdx
open Cert.ProjIdeal Cert.ProjIdeal.Gen Cert.Common
open scoped BigOperators

/-- An 8-bit code as a real number. -/
abbrev code (b : BitVec 8) : EReal := ((b.toInt : ℝ) : EReal)

/-- Feature `l + 128 * c` of a chunk's row, for lane `l` and group `c`. -/
abbrev lane (c : Nat) (hc : c < 4) (j : S256x128.Idx) : S256x512.Idx :=
  ix2 (j 0) ⟨128 * c + (j 1).val, by have : (j 1).val < 128 := (j 1).isLt; omega⟩

/-- The four groups of a chunk's row that share a lane, added from the left. -/
abbrev fold4 (f : S256x512.Idx → EReal) (j : S256x128.Idx) : EReal :=
  ((f (lane 0 (by omega) j) + f (lane 1 (by omega) j)) + f (lane 2 (by omega) j)) + f (lane 3 (by omega) j)

/-- The largest of the four groups of a chunk's row that share a lane. -/
abbrev max4 (f : S256x512.Idx → EReal) (j : S256x128.Idx) : EReal :=
  max (max (max (f (lane 0 (by omega) j)) (f (lane 1 (by omega) j))) (f (lane 2 (by omega) j))) (f (lane 3 (by omega) j))

/-- The scales' block spread over the features: each feature reads its lane. -/
theorem pay7_apply (v8 : Vec Ideal S256x128 .f32) (j : S256x512.Idx) :
    k0_pay7 (F := Ideal) v8 j = v8 (ix2 (j 0) ⟨(j 1).val % 128, Nat.mod_lt _ (by decide)⟩) := by
  unfold k0_pay7
  refine (concatenate_replicate_apply (s₁ := S256x128) (t := S256x512) 1 4 (shapeCast S256x128 v8 shapeCasts_S256x128_S256x128)
    concatenates_S256x128_S256x128_S256x128_S256x128_S256x512_d1
    rfl j (ix2 (j 0) ⟨(j 1).val % 128, Nat.mod_lt _ (by decide)⟩) rfl ?_).trans (congrFun (shapeCast_self _ _) _)
  intro b hb
  match b with
  | ⟨0, _⟩ => rfl
  | ⟨1, _⟩ => exact absurd rfl hb

/-- The up projection: the codes' dot product, times the token's scale, times the weight's scale. -/
theorem pay10_apply (v1 : Elt Ideal .f32) (v8 : Vec Ideal S256x128 .f32) (v11 : Vec Ideal S256x2048 .i8) (v22 : Vec Ideal S2048x512 .i8)
    (j : S256x512.Idx) :
    k0_pay10 (F := Ideal) v1 v8 v11 v22 j
      = (∑ k : Fin 2048, code (v11 (ix2 (j 0) k)) * code (v22 (ix2 k (j 1))))
          * v8 (ix2 (j 0) ⟨(j 1).val % 128, Nat.mod_lt _ (by decide)⟩) * v1 := by
  unfold k0_pay10
  rw [mulf_apply, mulf_apply, pay7_apply]
  exact congrArg (fun z => z * v8 (ix2 (j 0) ⟨(j 1).val % 128, Nat.mod_lt _ (by decide)⟩) * v1) (matmul_nn _ none rfl rfl rfl rfl rfl rfl rfl rfl _ _ j)

/-- The gate projection clipped below at zero. -/
theorem pay9_apply (v0 : Elt Ideal .f32) (v8 : Vec Ideal S256x128 .f32) (v11 : Vec Ideal S256x2048 .i8) (v13 : Vec Ideal S2048x512 .i8)
    (j : S256x512.Idx) :
    k0_pay9 (F := Ideal) v0 v8 v11 v13 j
      = max ((∑ k : Fin 2048, code (v11 (ix2 (j 0) k)) * code (v13 (ix2 k (j 1))))
          * v8 (ix2 (j 0) ⟨(j 1).val % 128, Nat.mod_lt _ (by decide)⟩) * v0) 0 := by
  have h := pay10_apply v0 v8 v11 v13 j
  rw [← h]
  exact congrArg (max (k0_pay10 (F := Ideal) v0 v8 v11 v13 j)) Ideal.ofBits_zero_f32

/-- The gradient that reaches the down projection's input: the upstream row against the weight's row, times its scale. -/
theorem pay13_apply (v2 : Elt Ideal .f32) (v31 : Vec Ideal S256x2048 .bf16) (v32 : Vec Ideal S512x2048 .i8) (j : S256x512.Idx) :
    k0_pay13 (F := Ideal) v2 v31 v32 j = (∑ k : Fin 2048, v31 (ix2 (j 0) k) * code (v32 (ix2 (j 1) k))) * v2 := by
  unfold k0_pay13
  rw [mulf_apply]
  exact congrArg (· * v2) (matmul_nt _ none rfl rfl rfl rfl rfl rfl rfl rfl _ _ j)

/-- The activation times its norm's weight. -/
theorem pay14_apply (v4 : FVec Ideal S1x512 .f32) (v27 v29 : FVec Ideal S256x512 .f32) (j : S256x512.Idx) :
    k0_pay14 (F := Ideal) v4 v27 v29 j = v29 j * v27 j * v4 (ix2 0 (j 1)) := by
  unfold k0_pay14 k0_pay12
  rw [mulf_apply, mulf_apply]
  refine congrArg (v29 j * v27 j * ·) (broadcastTo_apply _ _ j (ix2 0 (j 1)) ?_)
  intro b
  match b with
  | ⟨0, _⟩ => rfl
  | ⟨1, _⟩ => rfl

/-- A slice of 128 features from feature `128 * c` on. -/
theorem slice_apply (f : FVec Ideal S256x512 .f32) (c : Nat) (hc : c < 4) (h : S256x512.Slices ![0, 128 * c] S256x128) (j : S256x128.Idx) :
    extractStridedSlice S256x128 ![0, 128 * c] f h j = f (lane c hc j) := by
  refine extractStridedSlice_apply _ f h j (lane c hc j) ?_
  intro b
  match b with
  | ⟨0, _⟩ => show (j 0).val = 0 + (j 0).val; omega
  | ⟨1, _⟩ => rfl

/-- Four slices of a chunk, added. -/
theorem fold_apply (f : FVec Ideal S256x512 .f32) (j : S256x128.Idx) :
    addf (addf (addf (extractStridedSlice S256x128 ![0, 0] f slices_S256x512_o0_0_S256x128)
      (extractStridedSlice S256x128 ![0, 128] f slices_S256x512_o0_128_S256x128))
      (extractStridedSlice S256x128 ![0, 256] f slices_S256x512_o0_256_S256x128))
      (extractStridedSlice S256x128 ![0, 384] f slices_S256x512_o0_384_S256x128) j = fold4 f j := by
  rw [addf_apply, addf_apply, addf_apply]
  exact congrArg₂ (· + ·) (congrArg₂ (· + ·) (congrArg₂ (· + ·) (slice_apply f 0 _ _ j) (slice_apply f 1 _ _ j))
    (slice_apply f 2 _ _ j)) (slice_apply f 3 _ _ j)

/-- Four slices of a chunk, their maximum. -/
theorem maxfold_apply (f : FVec Ideal S256x512 .f32) (j : S256x128.Idx) :
    maximumf (maximumf (maximumf (extractStridedSlice S256x128 ![0, 0] f slices_S256x512_o0_0_S256x128)
      (extractStridedSlice S256x128 ![0, 128] f slices_S256x512_o0_128_S256x128))
      (extractStridedSlice S256x128 ![0, 256] f slices_S256x512_o0_256_S256x128))
      (extractStridedSlice S256x128 ![0, 384] f slices_S256x512_o0_384_S256x128) j = max4 f j :=
  congrArg₂ max (congrArg₂ max (congrArg₂ max (slice_apply f 0 _ _ j) (slice_apply f 1 _ _ j))
    (slice_apply f 2 _ _ j)) (slice_apply f 3 _ _ j)

/-- The sum of squares' step: what the lane held plus the chunk's squares of its lane. -/
theorem pay15_apply (v27 v29 : FVec Ideal S256x512 .f32) (v40 : Vec Ideal S256x128 .f32) (j : S256x128.Idx) :
    k0_pay15 (F := Ideal) v27 v29 v40 j = v40 j + fold4 (fun q => (v29 q * v27 q) * (v29 q * v27 q)) j := by
  unfold k0_pay15
  rw [addf_apply, shapeCast_self]
  exact congrArg (v40 j + ·) (fold_apply _ j)

/-- The running maximum's step. -/
theorem pay16_apply (v4 : FVec Ideal S1x512 .f32) (v27 v29 : FVec Ideal S256x512 .f32) (v52 : Vec Ideal S256x128 .f32) (j : S256x128.Idx) :
    k0_pay16 (F := Ideal) v4 v27 v29 v52 j
      = max (v52 j) (max4 (fun q => max (k0_pay14 (F := Ideal) v4 v27 v29 q) (-k0_pay14 (F := Ideal) v4 v27 v29 q)) j) := by
  unfold k0_pay16
  rw [shapeCast_self]
  exact congrArg (max (v52 j)) (maxfold_apply (absf (k0_pay14 (F := Ideal) v4 v27 v29)) j)

/-- The dot product's step: what the lane held plus the chunk's products of its lane. -/
theorem pay20_apply (v2 : Elt Ideal .f32) (v4 : FVec Ideal S1x512 .f32) (v27 v29 : FVec Ideal S256x512 .f32)
    (v31 : Vec Ideal S256x2048 .bf16) (v32 : Vec Ideal S512x2048 .i8) (v64 : Vec Ideal S256x128 .f32) (j : S256x128.Idx) :
    k0_pay20 (F := Ideal) (k0_pay17 v64) (k0_pay18 v2 v4 v27 v29 v31 v32) (k0_pay19 v2 v4 v27 v29 v31 v32) j
      = v64 j + fold4 (fun q => k0_pay13 (F := Ideal) v2 v31 v32 q * k0_pay14 (F := Ideal) v4 v27 v29 q) j := by
  unfold k0_pay20 k0_pay19 k0_pay17
  rw [addf_apply, shapeCast_self]
  exact congrArg (v64 j + ·) (fold_apply (k0_pay18 (F := Ideal) v2 v4 v27 v29 v31 v32) j)

/-- The reset stores zero. -/
theorem zero_apply (j : S1024x128.Idx) : k0_pay4 (F := Ideal) j = 0 := Ideal.ofBits_zero_f32

end Cert.ProjIdeal.Terms

end
-- ==== Proof.Proj.Body.lean ====
/- What one grid point of the projection kernel leaves in its six output blocks, as values of the blocks it read: the
   body works through 1024 tokens in four chunks of 256 rows, so a block is four row pieces, each the same arithmetic at
   its own rows; the three statistics blocks add to (or take the maximum with) what they held, and the first feature
   block of a token block starts them from zero. -/
module

public import proofs.«01_k».proof.Proof.Gen.ProjIdeal.Value
public import proofs.«01_k».proof.Proof.Proj.Terms
public import Idealize.ShloMosaic.Lib.Pipeline.Value
public import Idealize.ShloMosaic.Lib.Pipeline.ValueKit.Tiles
public import Idealize.ShloMosaic.Lib.Tactic

@[expose] public section

set_option maxRecDepth 16384

noncomputable section

namespace Cert.ProjIdeal.Body

open Idealize.ShloMosaic Idealize.ShloMosaic.TcCoe Idealize.SL.Sem Idealize.ShloMosaic.ValueIdx
open Cert.ProjIdeal Cert.ProjIdeal.Gen Cert.ProjIdeal.Terms Cert.Common
open scoped BigOperators

theorem hz : (![0, 0] : Fin 2 → Nat) = fun _ => 0 := funext fun a => by fin_cases a <;> rfl

/-! ## Row chunks -/

/-- Row `o + r` of a block, for row `r` of the chunk that starts at row `o`. -/
abbrev row {n : Nat} (o : Nat) (ho : o + 256 ≤ 1024) (x : (⟨2, ![256, n]⟩ : Shape).Idx) : (⟨2, ![1024, n]⟩ : Shape).Idx :=
  ix2 ⟨o + (x 0).val, by have : (x 0).val < 256 := (x 0).isLt; omega⟩ (x 1)

/-- A chunk's load reads the block at the chunk's rows. -/
theorem ld_row {e : EltTy} {n : Nat} (X : (⟨2, ![1024, n]⟩ : Shape).Idx → Elt Ideal e) (o : Nat) (ho : o + 256 ≤ 1024)
    (inb : ∀ a, (![o, 0] : Fin 2 → Nat) a + (![256, n] : Fin 2 → Nat) a ≤ (⟨2, ![1024, n]⟩ : Shape).size a)
    (x : (⟨2, ![256, n]⟩ : Shape).Idx) :
    View.ld X (Rect.unit ![o, 0] ![256, n] inb) x = X (row o ho x) :=
  View.ld_unit_apply_of X _ _ inb x _ fun a => match a with
    | ⟨0, _⟩ => rfl
    | ⟨1, _⟩ => (Nat.zero_add _).symm

/-- A scalar's load reads its only element. -/
theorem ld_scalar (X : Vec Ideal S1x1 .f32) (r : Rect S1x1) (x : r.shape.Idx) : View.ld X r x = X (ix2 0 0) := by
  rw [View.ld_apply]
  refine congrArg X (funext fun a => Fin.ext ?_)
  match a with
  | ⟨0, _⟩ => have h : (r.idx x 0).val < 1 := (r.idx x 0).isLt
              show (r.idx x 0).val = 0; omega
  | ⟨1, _⟩ => have h : (r.idx x 1).val < 1 := (r.idx x 1).isLt
              show (r.idx x 1).val = 0; omega

/-- Every row is a row of one of the four chunks. -/
theorem row_cases {n : Nat} (y : (⟨2, ![1024, n]⟩ : Shape).Idx) :
    (∃ x : (⟨2, ![256, n]⟩ : Shape).Idx, y = row 768 (by omega) x) ∨ (∃ x : (⟨2, ![256, n]⟩ : Shape).Idx, y = row 512 (by omega) x)
      ∨ (∃ x : (⟨2, ![256, n]⟩ : Shape).Idx, y = row 256 (by omega) x) ∨ ∃ x : (⟨2, ![256, n]⟩ : Shape).Idx, y = row 0 (by omega) x := by
  have hy : (y 0).val < 1024 := (y 0).isLt
  have key : ∀ (o : Nat) (ho : o + 256 ≤ 1024), o ≤ (y 0).val → (y 0).val < o + 256 →
      ∃ x : (⟨2, ![256, n]⟩ : Shape).Idx, y = row o ho x := by
    intro o ho h1 h2
    refine ⟨ix2 ⟨(y 0).val - o, by omega⟩ (y 1), funext fun a => Fin.ext ?_⟩
    match a with
    | ⟨0, _⟩ => show (y 0).val = o + ((y 0).val - o); omega
    | ⟨1, _⟩ => rfl
  by_cases h3 : 768 ≤ (y 0).val
  · exact .inl (key 768 _ h3 (by omega))
  by_cases h2 : 512 ≤ (y 0).val
  · exact .inr (.inl (key 512 _ h2 (by omega)))
  by_cases h1 : 256 ≤ (y 0).val
  · exact .inr (.inr (.inl (key 256 _ h1 (by omega))))
  · exact .inr (.inr (.inr (key 0 _ (by omega) (by omega))))

section Canon
variable {e : EltTy} {n : Nat}

/-- At a chunk's rows the chunk's store is what is read; -/
theorem canon_here (o : Nat) (ho : o + 256 ≤ 1024) (inb : ∀ a, (![o, 0] : Fin 2 → Nat) a + (![256, n] : Fin 2 → Nat) a ≤ (⟨2, ![1024, n]⟩ : Shape).size a) (w : (⟨2, ![256, n]⟩ : Shape).Idx → Elt Ideal e)
    (L : List (View.Piece (Elt Ideal) ⟨2, ![1024, n]⟩ e)) (x : (⟨2, ![256, n]⟩ : Shape).Idx) :
    View.canon ((⟨Rect.unit ![o, 0] ![256, n] inb, w⟩ : View.Piece (Elt Ideal) ⟨2, ![1024, n]⟩ e) :: L) (row o ho x) = w x := by
  have hx : row o ho x = (Rect.unit (s := ⟨2, ![1024, n]⟩) ![o, 0] ![256, n] inb).emb x := by
    funext a; apply Fin.ext
    match a with
    | ⟨0, _⟩ => show o + (x 0).val = o + 1 * (x 0).val; omega
    | ⟨1, _⟩ => show (x 1).val = 0 + 1 * (x 1).val; omega
  rw [hx]; exact View.canon_cons_emb (Rect.unit (s := ⟨2, ![1024, n]⟩) ![o, 0] ![256, n] inb) w L x

/-- at another chunk's rows the earlier stores are. -/
theorem canon_skip (o o' : Nat) (ho' : o' + 256 ≤ 1024) (inb : ∀ a, (![o, 0] : Fin 2 → Nat) a + (![256, n] : Fin 2 → Nat) a ≤ (⟨2, ![1024, n]⟩ : Shape).size a) (w : (⟨2, ![256, n]⟩ : Shape).Idx → Elt Ideal e)
    (L : List (View.Piece (Elt Ideal) ⟨2, ![1024, n]⟩ e)) (x : (⟨2, ![256, n]⟩ : Shape).Idx) (h : o + 256 ≤ o' ∨ o' + 256 ≤ o) :
    View.canon ((⟨Rect.unit ![o, 0] ![256, n] inb, w⟩ : View.Piece (Elt Ideal) ⟨2, ![1024, n]⟩ e) :: L) (row o' ho' x)
      = View.canon L (row o' ho' x) := by
  refine View.canon_cons_of_not_mem _ L fun hm => ?_
  have h0 := (Rect.mem_set_unit (inb := inb)).mp hm 0
  have h1 : o ≤ o' + (x 0).val := h0.1
  have h2 : o' + (x 0).val < o + 256 := h0.2
  have h3 : (x 0).val < 256 := (x 0).isLt
  omega

/-- Four row chunks stored over anything leave one block. -/
theorem canon_rows (G : (⟨2, ![1024, n]⟩ : Shape).Idx → Elt Ideal e) (i3 i2 i1 i0) (w3 w2 w1 w0 : (⟨2, ![256, n]⟩ : Shape).Idx → Elt Ideal e)
    (L : List (View.Piece (Elt Ideal) ⟨2, ![1024, n]⟩ e))
    (h3 : ∀ x, w3 x = G (row 768 (by omega) x)) (h2 : ∀ x, w2 x = G (row 512 (by omega) x))
    (h1 : ∀ x, w1 x = G (row 256 (by omega) x)) (h0 : ∀ x, w0 x = G (row 0 (by omega) x)) :
    View.canon ((⟨Rect.unit ![768, 0] ![256, n] i3, w3⟩ : View.Piece (Elt Ideal) ⟨2, ![1024, n]⟩ e)
      :: (⟨Rect.unit ![512, 0] ![256, n] i2, w2⟩ : View.Piece (Elt Ideal) ⟨2, ![1024, n]⟩ e)
      :: (⟨Rect.unit ![256, 0] ![256, n] i1, w1⟩ : View.Piece (Elt Ideal) ⟨2, ![1024, n]⟩ e)
      :: (⟨Rect.unit ![0, 0] ![256, n] i0, w0⟩ : View.Piece (Elt Ideal) ⟨2, ![1024, n]⟩ e) :: L) = G := by
  funext y
  rcases row_cases y with ⟨x, rfl⟩ | ⟨x, rfl⟩ | ⟨x, rfl⟩ | ⟨x, rfl⟩
  · rw [canon_here]; exact h3 x
  · rw [canon_skip _ _ _ _ _ _ _ (by omega), canon_here]; exact h2 x
  · rw [canon_skip _ _ _ _ _ _ _ (by omega), canon_skip _ _ _ _ _ _ _ (by omega), canon_here]; exact h1 x
  · rw [canon_skip _ _ _ _ _ _ _ (by omega), canon_skip _ _ _ _ _ _ _ (by omega), canon_skip _ _ _ _ _ _ _ (by omega), canon_here]
    exact h0 x

end Canon

/-- A load of one chunk's rows passes over another chunk's store. -/
theorem readCov_skip {κ : Kind} {sp : Space} (v : View sig κ sp S1024x128 .f32) (o o' : Nat)
    (inb : ∀ a, (![o, 0] : Fin 2 → Nat) a + (![256, 128] : Fin 2 → Nat) a ≤ S1024x128.size a)
    (inb' : ∀ a, (![o', 0] : Fin 2 → Nat) a + (![256, 128] : Fin 2 → Nat) a ≤ S1024x128.size a)
    (w : S256x128.Idx → Elt Ideal .f32) (L : List (View.Piece (Elt Ideal) S1024x128 .f32)) (h : o + 256 ≤ o' ∨ o' + 256 ≤ o) :
    v.readCov ((⟨Rect.unit ![o, 0] ![256, 128] inb, w⟩ : View.Piece (Elt Ideal) S1024x128 .f32) :: L) (Rect.unit ![o', 0] ![256, 128] inb').toLoadRect
      = v.readCov L (Rect.unit ![o', 0] ![256, 128] inb').toLoadRect :=
  View.readCov_cons_of_disjoint v _ L _ (Rect.unit_disjoint (inb := inb) (inb' := inb') 0 h)

/-- A load after the reset alone reads zero. -/
theorem readCov_zero {κ : Kind} {sp : Space} (v : View sig κ sp S1024x128 .f32) (inb) (r : LoadRect S1024x128) :
    v.readCov [(⟨Rect.unit ![0, 0] ![1024, 128] inb, k0_pay4 (F := Ideal)⟩ : View.Piece (Elt Ideal) S1024x128 .f32)] r = fun _ => 0 := by
  rw [View.readCov_eq_canon', View.canon_cons_unit_zero (S := S1024x128) hz]
  funext j
  exact zero_apply _

/-! ## One block's values -/

section Blocks
variable (x0 x1 x2 : Vec Ideal S1x1 .f32) (x3 : Vec Ideal S1024x2048 .i8) (x4 : Vec Ideal S1024x128 .f32) (x5 : Vec Ideal S1024x2048 .bf16)
  (x6 x7 : Vec Ideal S2048x512 .i8) (x8 : Vec Ideal S512x2048 .i8) (x9 : Vec Ideal S1x512 .f32)

/-- A block's projection: codes' dot product, times the token's scale, times the weight's scale. -/
def proj (s : Vec Ideal S1x1 .f32) (x3 : Vec Ideal S1024x2048 .i8) (x4 : Vec Ideal S1024x128 .f32) (w : Vec Ideal S2048x512 .i8)
    (y : S1024x512.Idx) : EReal :=
  (∑ k : Fin 2048, code (x3 (ix2 (y 0) k)) * code (w (ix2 k (y 1)))) * x4 (ix2 (y 0) ⟨(y 1).val % 128, Nat.mod_lt _ (by decide)⟩) * s (ix2 0 0)

/-- The gate's projection clipped below at zero. -/
def gate (y : S1024x512.Idx) : EReal := max (proj x0 x3 x4 x6 y) 0

/-- The gradient reaching the activation. -/
def back (y : S1024x512.Idx) : EReal := (∑ k : Fin 2048, x5 (ix2 (y 0) k) * code (x8 (ix2 (y 1) k))) * x2 (ix2 0 0)

/-- The activation: the clipped gate squared, times the up projection. -/
def act (y : S1024x512.Idx) : EReal := gate x0 x3 x4 x6 y * gate x0 x3 x4 x6 y * proj x1 x3 x4 x7 y

/-- The activation times its norm's weight. -/
def scaled (y : S1024x512.Idx) : EReal := act x0 x1 x3 x4 x6 x7 y * x9 (ix2 0 (y 1))

/-- Feature `128 * c + l` of a block's row, for lane `l` and group `c`. -/
abbrev lane' (c : Nat) (hc : c < 4) (y : S1024x128.Idx) : S1024x512.Idx :=
  ix2 (y 0) ⟨128 * c + (y 1).val, by have : (y 1).val < 128 := (y 1).isLt; omega⟩

/-- The four groups of a row that share a lane, added from the left. -/
def fold (f : S1024x512.Idx → EReal) (y : S1024x128.Idx) : EReal :=
  ((f (lane' 0 (by omega) y) + f (lane' 1 (by omega) y)) + f (lane' 2 (by omega) y)) + f (lane' 3 (by omega) y)

/-- The largest of the four groups of a row that share a lane. -/
def top (f : S1024x512.Idx → EReal) (y : S1024x128.Idx) : EReal :=
  max (max (max (f (lane' 0 (by omega) y)) (f (lane' 1 (by omega) y))) (f (lane' 2 (by omega) y))) (f (lane' 3 (by omega) y))

/-- The sum of squares' step. -/
def ssStep (p : S1024x128.Idx → EReal) (y : S1024x128.Idx) : EReal :=
  p y + fold (fun q => act x0 x1 x3 x4 x6 x7 q * act x0 x1 x3 x4 x6 x7 q) y

/-- The running maximum's step. -/
def mxStep (p : S1024x128.Idx → EReal) (y : S1024x128.Idx) : EReal :=
  max (p y) (top (fun q => max (scaled x0 x1 x3 x4 x6 x7 x9 q) (-scaled x0 x1 x3 x4 x6 x7 x9 q)) y)

/-- The dot product's step. -/
def csStep (p : S1024x128.Idx → EReal) (y : S1024x128.Idx) : EReal :=
  p y + fold (fun q => back x2 x5 x8 q * scaled x0 x1 x3 x4 x6 x7 x9 q) y

section Chunk
variable (o : Nat) (ho : o + 256 ≤ 1024)
  (r0 r1 r2 : Rect S1x1) (f0 : r0.shape.Idx) (f1 : r1.shape.Idx) (f2 : r2.shape.Idx)
  (i4 : ∀ a, (![o, 0] : Fin 2 → Nat) a + (![256, 128] : Fin 2 → Nat) a ≤ S1024x128.size a)
  (i3 : ∀ a, (![o, 0] : Fin 2 → Nat) a + (![256, 2048] : Fin 2 → Nat) a ≤ S1024x2048.size a)

abbrev ch4 : Vec Ideal S256x128 .f32 := View.ld x4 (Rect.unit ![o, 0] ![256, 128] i4)
abbrev ch3 : Vec Ideal S256x2048 .i8 := View.ld x3 (Rect.unit ![o, 0] ![256, 2048] i3)
abbrev ch5 : Vec Ideal S256x2048 .bf16 := View.ld x5 (Rect.unit ![o, 0] ![256, 2048] i3)

/-- A chunk's projection is the block's at its rows. -/
theorem proj_chunk (s : Vec Ideal S1x1 .f32) (w : Vec Ideal S2048x512 .i8) (x : S256x512.Idx) :
    k0_pay10 (F := Ideal) (View.ld s r0 f0) (ch4 x4 o i4) (ch3 x3 o i3) w x = proj s x3 x4 w (row o ho x) := by
  rw [pay10_apply, ld_scalar]
  unfold proj
  exact congrArg₂ (fun a b => a * b * s (ix2 0 0))
    (Finset.sum_congr rfl fun k _ => congrArg (code · * code (w (ix2 k (x 1)))) (ld_row x3 o ho i3 (ix2 (x 0) k)))
    (ld_row x4 o ho i4 (ix2 (x 0) _))

/-- A chunk's clipped gate. -/
theorem gate_chunk (w : Vec Ideal S2048x512 .i8) (x : S256x512.Idx) :
    k0_pay9 (F := Ideal) (View.ld x0 r0 f0) (ch4 x4 o i4) (ch3 x3 o i3) w x = gate x0 x3 x4 w (row o ho x) := by
  rw [pay9_apply, ← pay10_apply, proj_chunk (ho := ho)]; rfl

/-- A chunk's gradient reaching the activation. -/
theorem back_chunk (x : S256x512.Idx) :
    k0_pay13 (F := Ideal) (View.ld x2 r2 f2) (ch5 x5 o i3) x8 x = back x2 x5 x8 (row o ho x) := by
  rw [pay13_apply, ld_scalar]
  unfold back
  exact congrArg (· * x2 (ix2 0 0))
    (Finset.sum_congr rfl fun k _ => congrArg (· * code (x8 (ix2 (x 1) k))) (ld_row x5 o ho i3 (ix2 (x 0) k)))

/-- A chunk's activation. -/
theorem act_chunk (x : S256x512.Idx) :
    k0_pay11 (F := Ideal) (View.ld x0 r0 f0) (ch4 x4 o i4) (ch3 x3 o i3) x6 x
        * k0_pay10 (F := Ideal) (View.ld x1 r1 f1) (ch4 x4 o i4) (ch3 x3 o i3) x7 x = act x0 x1 x3 x4 x6 x7 (row o ho x) := by
  unfold k0_pay11
  rw [mulf_apply, gate_chunk (ho := ho), proj_chunk (ho := ho)]; rfl

/-- A chunk's scaled activation. -/
theorem scaled_chunk (x : S256x512.Idx) :
    k0_pay14 (F := Ideal) (k0_pay3 x9) (k0_pay10 (F := Ideal) (View.ld x1 r1 f1) (ch4 x4 o i4) (ch3 x3 o i3) x7)
        (k0_pay11 (F := Ideal) (View.ld x0 r0 f0) (ch4 x4 o i4) (ch3 x3 o i3) x6) x = scaled x0 x1 x3 x4 x6 x7 x9 (row o ho x) := by
  rw [pay14_apply, act_chunk (ho := ho)]
  unfold k0_pay3 scaled
  rw [shapeCast_self]

/-- A chunk's step of the sum of squares. -/
theorem ss_chunk (p : S1024x128.Idx → EReal) (v : Vec Ideal S256x128 .f32) (hv : ∀ x, v x = p (row o ho x)) (x : S256x128.Idx) :
    k0_pay15 (F := Ideal) (k0_pay10 (F := Ideal) (View.ld x1 r1 f1) (ch4 x4 o i4) (ch3 x3 o i3) x7)
        (k0_pay11 (F := Ideal) (View.ld x0 r0 f0) (ch4 x4 o i4) (ch3 x3 o i3) x6) v x = ssStep x0 x1 x3 x4 x6 x7 p (row o ho x) := by
  rw [pay15_apply, hv]
  simp only [fold4, act_chunk (ho := ho)]
  rfl

/-- A chunk's step of the running maximum. -/
theorem mx_chunk (p : S1024x128.Idx → EReal) (v : Vec Ideal S256x128 .f32) (hv : ∀ x, v x = p (row o ho x)) (x : S256x128.Idx) :
    k0_pay16 (F := Ideal) (k0_pay3 x9) (k0_pay10 (F := Ideal) (View.ld x1 r1 f1) (ch4 x4 o i4) (ch3 x3 o i3) x7)
        (k0_pay11 (F := Ideal) (View.ld x0 r0 f0) (ch4 x4 o i4) (ch3 x3 o i3) x6) v x = mxStep x0 x1 x3 x4 x6 x7 x9 p (row o ho x) := by
  rw [pay16_apply, hv]
  simp only [max4, scaled_chunk (ho := ho)]
  rfl

/-- A chunk's step of the dot product. -/
theorem cs_chunk (p : S1024x128.Idx → EReal) (v : Vec Ideal S256x128 .f32) (hv : ∀ x, v x = p (row o ho x)) (x : S256x128.Idx) :
    k0_pay20 (F := Ideal) (k0_pay17 v)
        (k0_pay18 (View.ld x2 r2 f2) (k0_pay3 x9) (k0_pay10 (F := Ideal) (View.ld x1 r1 f1) (ch4 x4 o i4) (ch3 x3 o i3) x7)
          (k0_pay11 (F := Ideal) (View.ld x0 r0 f0) (ch4 x4 o i4) (ch3 x3 o i3) x6) (ch5 x5 o i3) x8)
        (k0_pay19 (View.ld x2 r2 f2) (k0_pay3 x9) (k0_pay10 (F := Ideal) (View.ld x1 r1 f1) (ch4 x4 o i4) (ch3 x3 o i3) x7)
          (k0_pay11 (F := Ideal) (View.ld x0 r0 f0) (ch4 x4 o i4) (ch3 x3 o i3) x6) (ch5 x5 o i3) x8) x
      = csStep x0 x1 x2 x3 x4 x5 x6 x7 x8 x9 p (row o ho x) := by
  rw [pay20_apply, hv]
  simp only [fold4, scaled_chunk (ho := ho), back_chunk (ho := ho)]
  rfl

end Chunk
end Blocks

/-! ## The body's stores -/

variable (c : Dev nD) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S1024x2048 .i8) (harg5 : arg5.IsWhole) (arg6 : Memref sig .tc .vmem S1024x128 .f32) (harg6 : arg6.IsWhole) (arg7 : Memref sig .tc .vmem S1024x2048 .bf16) (harg7 : arg7.IsWhole) (arg8 : Memref sig .tc .vmem S2048x512 .i8) (harg8 : arg8.IsWhole) (arg9 : Memref sig .tc .vmem S2048x512 .i8) (harg9 : arg9.IsWhole) (arg10 : Memref sig .tc .vmem S512x2048 .i8) (harg10 : arg10.IsWhole) (arg11 : Memref sig .tc .vmem S1x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole)
variable (x0 : Vec Ideal S1x1 .f32) (x1 : Vec Ideal S1x1 .f32) (x2 : Vec Ideal S1x1 .f32) (x3 : Vec Ideal S1024x2048 .i8) (x4 : Vec Ideal S1024x128 .f32) (x5 : Vec Ideal S1024x2048 .bf16) (x6 : Vec Ideal S2048x512 .i8) (x7 : Vec Ideal S2048x512 .i8) (x8 : Vec Ideal S512x2048 .i8) (x9 : Vec Ideal S1x512 .f32) (xo13 : Vec Ideal S1024x128 .f32) (xo14 : Vec Ideal S1024x128 .f32) (xo15 : Vec Ideal S1024x128 .f32)

/-- At the first feature block: the clipped gate. -/
theorem out_A_10 (hc0 : cond0_0 i) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 = gate x0 x3 x4 x6 := by
  unfold out0_A_10
  rw [View.read_writes_junk_eq_canon]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg15.read_unread, harg16.read_unread, harg17.read_unread, View.ld_unit_zero (S := S2048x512) hz, View.ld_unit_zero (S := S512x2048) hz, View.ld_unit_zero (S := S1x512) hz]
  refine canon_rows (e := .f32) (n := 512) (gate x0 x3 x4 x6) _ _ _ _ _ _ _ _ _ (fun x => ?_) (fun x => ?_) (fun x => ?_) fun x => ?_
  · exact gate_chunk x0 x3 x4 768 (by omega) _ _ _ _ _ _
  · exact gate_chunk x0 x3 x4 512 (by omega) _ _ _ _ _ _
  · exact gate_chunk x0 x3 x4 256 (by omega) _ _ _ _ _ _
  · exact gate_chunk x0 x3 x4 0 (by omega) _ _ _ _ _ _

/-- At the first feature block: the up projection. -/
theorem out_A_11 (hc0 : cond0_0 i) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 = proj x1 x3 x4 x7 := by
  unfold out0_A_11
  rw [View.read_writes_junk_eq_canon]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg15.read_unread, harg16.read_unread, harg17.read_unread, View.ld_unit_zero (S := S2048x512) hz, View.ld_unit_zero (S := S512x2048) hz, View.ld_unit_zero (S := S1x512) hz]
  refine canon_rows (e := .f32) (n := 512) (proj x1 x3 x4 x7) _ _ _ _ _ _ _ _ _ (fun x => ?_) (fun x => ?_) (fun x => ?_) fun x => ?_
  · exact proj_chunk x3 x4 768 (by omega) _ _ _ _ _ _ _
  · exact proj_chunk x3 x4 512 (by omega) _ _ _ _ _ _ _
  · exact proj_chunk x3 x4 256 (by omega) _ _ _ _ _ _ _
  · exact proj_chunk x3 x4 0 (by omega) _ _ _ _ _ _ _

/-- At the first feature block: the gradient reaching the activation. -/
theorem out_A_12 (hc0 : cond0_0 i) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 = back x2 x5 x8 := by
  unfold out0_A_12
  rw [View.read_writes_junk_eq_canon]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg15.read_unread, harg16.read_unread, harg17.read_unread, View.ld_unit_zero (S := S2048x512) hz, View.ld_unit_zero (S := S512x2048) hz, View.ld_unit_zero (S := S1x512) hz]
  refine canon_rows (e := .f32) (n := 512) (back x2 x5 x8) _ _ _ _ _ _ _ _ _ (fun x => ?_) (fun x => ?_) (fun x => ?_) fun x => ?_
  · exact back_chunk x2 x5 x8 768 (by omega) _ _ _ _
  · exact back_chunk x2 x5 x8 512 (by omega) _ _ _ _
  · exact back_chunk x2 x5 x8 256 (by omega) _ _ _ _
  · exact back_chunk x2 x5 x8 0 (by omega) _ _ _ _

/-- At the first feature block: the sum of squares. -/
theorem out_A_13 (hc0 : cond0_0 i) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 = ssStep x0 x1 x3 x4 x6 x7 (fun _ => 0) := by
  unfold out0_A_13
  rw [View.read_writes_junk_eq_canon]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg15.read_unread, harg16.read_unread, harg17.read_unread, View.ld_unit_zero (S := S2048x512) hz, View.ld_unit_zero (S := S512x2048) hz, View.ld_unit_zero (S := S1x512) hz]
  simp (disch := omega) only [readCov_skip, readCov_zero]
  refine canon_rows (e := .f32) (n := 128) (ssStep x0 x1 x3 x4 x6 x7 (fun _ => 0)) _ _ _ _ _ _ _ _ _ (fun x => ?_) (fun x => ?_) (fun x => ?_) fun x => ?_
  · exact ss_chunk x0 x1 x3 x4 x6 x7 768 (by omega) _ _ _ _ _ _ (fun _ => 0) _ (fun _ => rfl) _
  · exact ss_chunk x0 x1 x3 x4 x6 x7 512 (by omega) _ _ _ _ _ _ (fun _ => 0) _ (fun _ => rfl) _
  · exact ss_chunk x0 x1 x3 x4 x6 x7 256 (by omega) _ _ _ _ _ _ (fun _ => 0) _ (fun _ => rfl) _
  · exact ss_chunk x0 x1 x3 x4 x6 x7 0 (by omega) _ _ _ _ _ _ (fun _ => 0) _ (fun _ => rfl) _

/-- At the first feature block: the running maximum. -/
theorem out_A_14 (hc0 : cond0_0 i) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 = mxStep x0 x1 x3 x4 x6 x7 x9 (fun _ => 0) := by
  unfold out0_A_14
  rw [View.read_writes_junk_eq_canon]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg15.read_unread, harg16.read_unread, harg17.read_unread, View.ld_unit_zero (S := S2048x512) hz, View.ld_unit_zero (S := S512x2048) hz, View.ld_unit_zero (S := S1x512) hz]
  simp only [show (k0_pay5 (F := Ideal)) = k0_pay4 from rfl]
  simp (disch := omega) only [readCov_skip, readCov_zero]
  refine canon_rows (e := .f32) (n := 128) (mxStep x0 x1 x3 x4 x6 x7 x9 (fun _ => 0)) _ _ _ _ _ _ _ _ _ (fun x => ?_) (fun x => ?_) (fun x => ?_) fun x => ?_
  · exact mx_chunk x0 x1 x3 x4 x6 x7 x9 768 (by omega) _ _ _ _ _ _ (fun _ => 0) _ (fun _ => rfl) _
  · exact mx_chunk x0 x1 x3 x4 x6 x7 x9 512 (by omega) _ _ _ _ _ _ (fun _ => 0) _ (fun _ => rfl) _
  · exact mx_chunk x0 x1 x3 x4 x6 x7 x9 256 (by omega) _ _ _ _ _ _ (fun _ => 0) _ (fun _ => rfl) _
  · exact mx_chunk x0 x1 x3 x4 x6 x7 x9 0 (by omega) _ _ _ _ _ _ (fun _ => 0) _ (fun _ => rfl) _

/-- At the first feature block: the dot product. -/
theorem out_A_15 (hc0 : cond0_0 i) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 = csStep x0 x1 x2 x3 x4 x5 x6 x7 x8 x9 (fun _ => 0) := by
  unfold out0_A_15
  rw [View.read_writes_junk_eq_canon]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg15.read_unread, harg16.read_unread, harg17.read_unread, View.ld_unit_zero (S := S2048x512) hz, View.ld_unit_zero (S := S512x2048) hz, View.ld_unit_zero (S := S1x512) hz]
  simp only [show (k0_pay6 (F := Ideal)) = k0_pay4 from rfl]
  simp (disch := omega) only [readCov_skip, readCov_zero]
  refine canon_rows (e := .f32) (n := 128) (csStep x0 x1 x2 x3 x4 x5 x6 x7 x8 x9 (fun _ => 0)) _ _ _ _ _ _ _ _ _ (fun x => ?_) (fun x => ?_) (fun x => ?_) fun x => ?_
  · exact cs_chunk x0 x1 x2 x3 x4 x5 x6 x7 x8 x9 768 (by omega) _ _ _ _ _ _ _ _ (fun _ => 0) _ (fun _ => rfl) _
  · exact cs_chunk x0 x1 x2 x3 x4 x5 x6 x7 x8 x9 512 (by omega) _ _ _ _ _ _ _ _ (fun _ => 0) _ (fun _ => rfl) _
  · exact cs_chunk x0 x1 x2 x3 x4 x5 x6 x7 x8 x9 256 (by omega) _ _ _ _ _ _ _ _ (fun _ => 0) _ (fun _ => rfl) _
  · exact cs_chunk x0 x1 x2 x3 x4 x5 x6 x7 x8 x9 0 (by omega) _ _ _ _ _ _ _ _ (fun _ => 0) _ (fun _ => rfl) _

/-- At a later feature block: the clipped gate. -/
theorem out_B_10 (hc0 : ¬cond0_0 i) :
    out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo13 xo14 xo15 = gate x0 x3 x4 x6 := by
  unfold out0_B_10
  rw [View.read_writes_junk_eq_canon]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg15.read_unread, harg16.read_unread, harg17.read_unread, View.ld_unit_zero (S := S2048x512) hz, View.ld_unit_zero (S := S512x2048) hz, View.ld_unit_zero (S := S1x512) hz]
  refine canon_rows (e := .f32) (n := 512) (gate x0 x3 x4 x6) _ _ _ _ _ _ _ _ _ (fun x => ?_) (fun x => ?_) (fun x => ?_) fun x => ?_
  · exact gate_chunk x0 x3 x4 768 (by omega) _ _ _ _ _ _
  · exact gate_chunk x0 x3 x4 512 (by omega) _ _ _ _ _ _
  · exact gate_chunk x0 x3 x4 256 (by omega) _ _ _ _ _ _
  · exact gate_chunk x0 x3 x4 0 (by omega) _ _ _ _ _ _

/-- At a later feature block: the up projection. -/
theorem out_B_11 (hc0 : ¬cond0_0 i) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo13 xo14 xo15 = proj x1 x3 x4 x7 := by
  unfold out0_B_11
  rw [View.read_writes_junk_eq_canon]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg15.read_unread, harg16.read_unread, harg17.read_unread, View.ld_unit_zero (S := S2048x512) hz, View.ld_unit_zero (S := S512x2048) hz, View.ld_unit_zero (S := S1x512) hz]
  refine canon_rows (e := .f32) (n := 512) (proj x1 x3 x4 x7) _ _ _ _ _ _ _ _ _ (fun x => ?_) (fun x => ?_) (fun x => ?_) fun x => ?_
  · exact proj_chunk x3 x4 768 (by omega) _ _ _ _ _ _ _
  · exact proj_chunk x3 x4 512 (by omega) _ _ _ _ _ _ _
  · exact proj_chunk x3 x4 256 (by omega) _ _ _ _ _ _ _
  · exact proj_chunk x3 x4 0 (by omega) _ _ _ _ _ _ _

/-- At a later feature block: the gradient reaching the activation. -/
theorem out_B_12 (hc0 : ¬cond0_0 i) :
    out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo13 xo14 xo15 = back x2 x5 x8 := by
  unfold out0_B_12
  rw [View.read_writes_junk_eq_canon]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg15.read_unread, harg16.read_unread, harg17.read_unread, View.ld_unit_zero (S := S2048x512) hz, View.ld_unit_zero (S := S512x2048) hz, View.ld_unit_zero (S := S1x512) hz]
  refine canon_rows (e := .f32) (n := 512) (back x2 x5 x8) _ _ _ _ _ _ _ _ _ (fun x => ?_) (fun x => ?_) (fun x => ?_) fun x => ?_
  · exact back_chunk x2 x5 x8 768 (by omega) _ _ _ _
  · exact back_chunk x2 x5 x8 512 (by omega) _ _ _ _
  · exact back_chunk x2 x5 x8 256 (by omega) _ _ _ _
  · exact back_chunk x2 x5 x8 0 (by omega) _ _ _ _

/-- At a later feature block: the sum of squares. -/
theorem out_B_13 (hc0 : ¬cond0_0 i) :
    out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo13 xo14 xo15 = ssStep x0 x1 x3 x4 x6 x7 xo13 := by
  unfold out0_B_13
  rw [View.read_writes_junk_eq_canon]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg15.read_unread, harg16.read_unread, harg17.read_unread, View.ld_unit_zero (S := S2048x512) hz, View.ld_unit_zero (S := S512x2048) hz, View.ld_unit_zero (S := S1x512) hz]
  refine canon_rows (e := .f32) (n := 128) (ssStep x0 x1 x3 x4 x6 x7 xo13) _ _ _ _ _ _ _ _ _ (fun x => ?_) (fun x => ?_) (fun x => ?_) fun x => ?_
  · exact ss_chunk x0 x1 x3 x4 x6 x7 768 (by omega) _ _ _ _ _ _ xo13 _ (ld_row xo13 768 (by omega) _) _
  · exact ss_chunk x0 x1 x3 x4 x6 x7 512 (by omega) _ _ _ _ _ _ xo13 _ (ld_row xo13 512 (by omega) _) _
  · exact ss_chunk x0 x1 x3 x4 x6 x7 256 (by omega) _ _ _ _ _ _ xo13 _ (ld_row xo13 256 (by omega) _) _
  · exact ss_chunk x0 x1 x3 x4 x6 x7 0 (by omega) _ _ _ _ _ _ xo13 _ (ld_row xo13 0 (by omega) _) _

/-- At a later feature block: the running maximum. -/
theorem out_B_14 (hc0 : ¬cond0_0 i) :
    out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo13 xo14 xo15 = mxStep x0 x1 x3 x4 x6 x7 x9 xo14 := by
  unfold out0_B_14
  rw [View.read_writes_junk_eq_canon]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg15.read_unread, harg16.read_unread, harg17.read_unread, View.ld_unit_zero (S := S2048x512) hz, View.ld_unit_zero (S := S512x2048) hz, View.ld_unit_zero (S := S1x512) hz]
  refine canon_rows (e := .f32) (n := 128) (mxStep x0 x1 x3 x4 x6 x7 x9 xo14) _ _ _ _ _ _ _ _ _ (fun x => ?_) (fun x => ?_) (fun x => ?_) fun x => ?_
  · exact mx_chunk x0 x1 x3 x4 x6 x7 x9 768 (by omega) _ _ _ _ _ _ xo14 _ (ld_row xo14 768 (by omega) _) _
  · exact mx_chunk x0 x1 x3 x4 x6 x7 x9 512 (by omega) _ _ _ _ _ _ xo14 _ (ld_row xo14 512 (by omega) _) _
  · exact mx_chunk x0 x1 x3 x4 x6 x7 x9 256 (by omega) _ _ _ _ _ _ xo14 _ (ld_row xo14 256 (by omega) _) _
  · exact mx_chunk x0 x1 x3 x4 x6 x7 x9 0 (by omega) _ _ _ _ _ _ xo14 _ (ld_row xo14 0 (by omega) _) _

/-- At a later feature block: the dot product. -/
theorem out_B_15 (hc0 : ¬cond0_0 i) :
    out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo13 xo14 xo15 = csStep x0 x1 x2 x3 x4 x5 x6 x7 x8 x9 xo15 := by
  unfold out0_B_15
  rw [View.read_writes_junk_eq_canon]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg15.read_unread, harg16.read_unread, harg17.read_unread, View.ld_unit_zero (S := S2048x512) hz, View.ld_unit_zero (S := S512x2048) hz, View.ld_unit_zero (S := S1x512) hz]
  refine canon_rows (e := .f32) (n := 128) (csStep x0 x1 x2 x3 x4 x5 x6 x7 x8 x9 xo15) _ _ _ _ _ _ _ _ _ (fun x => ?_) (fun x => ?_) (fun x => ?_) fun x => ?_
  · exact cs_chunk x0 x1 x2 x3 x4 x5 x6 x7 x8 x9 768 (by omega) _ _ _ _ _ _ _ _ xo15 _ (ld_row xo15 768 (by omega) _) _
  · exact cs_chunk x0 x1 x2 x3 x4 x5 x6 x7 x8 x9 512 (by omega) _ _ _ _ _ _ _ _ xo15 _ (ld_row xo15 512 (by omega) _) _
  · exact cs_chunk x0 x1 x2 x3 x4 x5 x6 x7 x8 x9 256 (by omega) _ _ _ _ _ _ _ _ xo15 _ (ld_row xo15 256 (by omega) _) _
  · exact cs_chunk x0 x1 x2 x3 x4 x5 x6 x7 x8 x9 0 (by omega) _ _ _ _ _ _ _ _ xo15 _ (ld_row xo15 0 (by omega) _) _

end Cert.ProjIdeal.Body

end
-- ==== Proof.Proj.Spec.lean ====
/- What the projections compute, element by element, as functions of the argument arrays read at natural numbers: token
   `r`, feature `f`. A row's 5632 features fall into 44 groups of 128; the row statistics keep one value per lane, so
   lane `l` collects the features `128 * g + l`. -/
module

public import proofs.«01_k».proof.Proof.Common

@[expose] public section

noncomputable section

namespace Cert.Projections

open Idealize.ShloMosaic Idealize.ShloMosaic.ValueIdx Cert.Common
open scoped BigOperators

/-- An 8-bit code as a real number. -/
abbrev int8 (b : BitVec 8) : EReal := ((b.toInt : ℝ) : EReal)

abbrev Scalar := (⟨2, ![1, 1]⟩ : Shape).Idx → EReal
abbrev Mat (n0 n1 : Nat) (α : Type) := (⟨2, ![n0, n1]⟩ : Shape).Idx → α
abbrev Row (n : Nat) := (⟨1, ![n]⟩ : Shape).Idx → EReal

variable (sg su sd : Scalar) (q : Mat 8192 2048 (BitVec 8)) (sx : Row 8192) (dy : Mat 8192 2048 EReal)
  (cg cu : Mat 2048 5632 (BitVec 8)) (cd : Mat 5632 2048 (BitVec 8)) (gs : Row 5632)

/-- A projection: the codes' dot product, times the token's scale, times the weight's scale. -/
def pre (s : Scalar) (w : Mat 2048 5632 (BitVec 8)) (r f : Nat) : EReal :=
  (∑ k : Fin 2048, int8 (at2 q r k.val) * int8 (at2 w k.val f)) * at1 sx r * s (ix2 0 0)

/-- The gate's projection clipped below at zero. -/
def clip (r f : Nat) : EReal := max (pre q sx sg cg r f) 0

/-- The gradient reaching the activation: the output gradient times the transposed down weight. -/
def dact (r f : Nat) : EReal := (∑ k : Fin 2048, at2 dy r k.val * int8 (at2 cd f k.val)) * sd (ix2 0 0)

/-- The activation: the clipped gate squared, times the up projection. -/
def acti (r f : Nat) : EReal := clip sg q sx cg r f * clip sg q sx cg r f * pre q sx su cu r f

/-- The activation times its norm's weight. -/
def acts (r f : Nat) : EReal := acti sg su q sx cg cu r f * at1 gs f

/-- The activation squared. -/
def sq (r f : Nat) : EReal := acti sg su q sx cg cu r f * acti sg su q sx cg cu r f

/-- The weighted activation's magnitude. -/
def mag (r f : Nat) : EReal := max (acts sg su q sx cg cu gs r f) (-acts sg su q sx cg cu gs r f)

/-- The gradient times the weighted activation. -/
def cross (r f : Nat) : EReal := dact sd dy cd r f * acts sg su q sx cg cu gs r f

theorem mag_nonneg (r f : Nat) : 0 ≤ mag sg su q sx cg cu gs r f := by
  unfold mag
  rcases le_total 0 (acts sg su q sx cg cu gs r f) with h | h
  · exact le_max_of_le_left h
  · exact le_max_of_le_right (by simpa using EReal.neg_le_neg_iff.mpr h)

/-- The sum over the first `n` groups at lane `l`. -/
def lanesUpTo (n : Nat) (F : Nat → EReal) (l : Nat) : EReal := ∑ g ∈ Finset.range n, F (128 * g + l)

/-- The largest of zero and the first `n` groups' values at lane `l`. -/
def peakUpTo (n : Nat) (F : Nat → EReal) (l : Nat) : EReal := max 0 ((Finset.range n).sup fun g => F (128 * g + l))

/-- Four more groups are added to a lane's sum. -/
theorem lanes_step (j : Nat) (F : Nat → EReal) (l : Nat) (p a b c d : EReal) (hp : p = lanesUpTo (4 * j) F l)
    (ha : a = F (512 * j + (128 * 0 + l))) (hb : b = F (512 * j + (128 * 1 + l)))
    (hc : c = F (512 * j + (128 * 2 + l))) (hd : d = F (512 * j + (128 * 3 + l))) :
    p + (((a + b) + c) + d) = lanesUpTo (4 * (j + 1)) F l := by
  have e : 4 * (j + 1) = 4 * j + 1 + 1 + 1 + 1 := by omega
  unfold lanesUpTo at hp ⊢
  rw [e, Finset.sum_range_succ, Finset.sum_range_succ, Finset.sum_range_succ, Finset.sum_range_succ, hp, ha, hb, hc, hd,
    show 512 * j + (128 * 0 + l) = 128 * (4 * j) + l by omega, show 512 * j + (128 * 1 + l) = 128 * (4 * j + 1) + l by omega,
    show 512 * j + (128 * 2 + l) = 128 * (4 * j + 1 + 1) + l by omega, show 512 * j + (128 * 3 + l) = 128 * (4 * j + 1 + 1 + 1) + l by omega]
  generalize F (128 * (4 * j) + l) = a'
  generalize F (128 * (4 * j + 1) + l) = b'
  generalize F (128 * (4 * j + 1 + 1) + l) = c'
  generalize F (128 * (4 * j + 1 + 1 + 1) + l) = d'
  simp only [add_assoc]

/-- Four more groups join a lane's maximum. -/
theorem peak_step (j : Nat) (F : Nat → EReal) (l : Nat) (p a b c d : EReal) (hp : p = peakUpTo (4 * j) F l)
    (ha : a = F (512 * j + (128 * 0 + l))) (hb : b = F (512 * j + (128 * 1 + l)))
    (hc : c = F (512 * j + (128 * 2 + l))) (hd : d = F (512 * j + (128 * 3 + l))) :
    max p (max (max (max a b) c) d) = peakUpTo (4 * (j + 1)) F l := by
  have e : 4 * (j + 1) = 4 * j + 1 + 1 + 1 + 1 := by omega
  unfold peakUpTo at hp ⊢
  rw [e, Finset.range_add_one, Finset.sup_insert, Finset.range_add_one, Finset.sup_insert, Finset.range_add_one, Finset.sup_insert,
    Finset.range_add_one, Finset.sup_insert, hp, ha, hb, hc, hd,
    show 512 * j + (128 * 0 + l) = 128 * (4 * j) + l by omega, show 512 * j + (128 * 1 + l) = 128 * (4 * j + 1) + l by omega,
    show 512 * j + (128 * 2 + l) = 128 * (4 * j + 1 + 1) + l by omega, show 512 * j + (128 * 3 + l) = 128 * (4 * j + 1 + 1 + 1) + l by omega]
  generalize F (128 * (4 * j) + l) = a'
  generalize F (128 * (4 * j + 1) + l) = b'
  generalize F (128 * (4 * j + 1 + 1) + l) = c'
  generalize F (128 * (4 * j + 1 + 1 + 1) + l) = d'
  generalize (Finset.range (4 * j)).sup (fun g => F (128 * g + l)) = s
  show max (max 0 s) (max (max (max a' b') c') d') = max 0 (max d' (max c' (max b' (max a' s))))
  ac_rfl

/-- All 44 groups at a lane. -/
def lanes (F : Nat → EReal) (l : Nat) : EReal := ∑ g : Fin 44, F (128 * g.val + l)

theorem lanesUpTo_all (F : Nat → EReal) (l : Nat) : lanesUpTo 44 F l = lanes F l :=
  (Fin.sum_univ_eq_sum_range (fun g => F (128 * g + l)) 44).symm

/-- The maximum over all 44 groups at a lane. -/
def peak (F : Nat → EReal) (l : Nat) : EReal := (Finset.univ : Finset (Fin 44)).sup fun g => F (128 * g.val + l)

theorem peakUpTo_all (F : Nat → EReal) (l : Nat) (hF : ∀ f, 0 ≤ F f) : peakUpTo 44 F l = peak F l := by
  unfold peakUpTo peak
  apply le_antisymm
  · refine max_le ((hF (128 * (0 : Fin 44).val + l)).trans
      (Finset.le_sup (f := fun g : Fin 44 => F (128 * g.val + l)) (Finset.mem_univ 0))) (Finset.sup_le fun g hg => ?_)
    exact Finset.le_sup (f := fun g : Fin 44 => F (128 * g.val + l)) (Finset.mem_univ ⟨g, Finset.mem_range.mp hg⟩)
  · exact le_max_of_le_right (Finset.sup_le fun g _ =>
      Finset.le_sup (f := fun g : Nat => F (128 * g + l)) (Finset.mem_range.mpr g.isLt))

end Cert.Projections

end
-- ==== Proof.Proj.Value.lean ====
/- The projection kernel's six result arrays, element by element. A grid point handles 1024 tokens (block `t / 11`) and
   512 features (block `t % 11`); the three arrays over the features are written once per point, and the three arrays of
   row statistics are carried over the eleven feature blocks of a token block and written out at the last. -/
module

public import proofs.«01_k».proof.Proof.Proj.Body
public import proofs.«01_k».proof.Proof.Proj.Spec
public import Idealize.ShloMosaic.Lib.StableHlo.Run

@[expose] public section

set_option maxRecDepth 16384

noncomputable section

namespace Cert.ProjIdeal.Results

open Idealize.ShloMosaic Idealize.ShloMosaic.TcCoe Idealize.SL.Sem Idealize.ShloMosaic.ValueIdx
open Cert.ProjIdeal Cert.ProjIdeal.Gen Cert.ProjIdeal.Value Cert.ProjIdeal.Body Cert.Common Cert.Projections
open scoped BigOperators

variable (m : (ℓ : Loc nD τ sig) → Buf (Elt Ideal) ℓ)

/-! ## The arguments -/

abbrev A0 (c : Dev nD) : Scalar := m ((c : Thread nD τ).loc main_arg0)
abbrev A1 (c : Dev nD) : Scalar := m ((c : Thread nD τ).loc main_arg1)
abbrev A2 (c : Dev nD) : Scalar := m ((c : Thread nD τ).loc main_arg2)
abbrev A3 (c : Dev nD) : Mat 8192 2048 (BitVec 8) := m ((c : Thread nD τ).loc main_arg3)
abbrev A4 (c : Dev nD) : Row 8192 := m ((c : Thread nD τ).loc main_arg4)
abbrev A5 (c : Dev nD) : Mat 8192 2048 EReal := m ((c : Thread nD τ).loc main_arg5)
abbrev A6 (c : Dev nD) : Mat 2048 5632 (BitVec 8) := m ((c : Thread nD τ).loc main_arg6)
abbrev A7 (c : Dev nD) : Mat 2048 5632 (BitVec 8) := m ((c : Thread nD τ).loc main_arg7)
abbrev A8 (c : Dev nD) : Mat 5632 2048 (BitVec 8) := m ((c : Thread nD τ).loc main_arg8)
abbrev A9 (c : Dev nD) : Row 5632 := m ((c : Thread nD τ).loc main_arg9)

/-! ## The specification's functions at the arguments -/

abbrev preU (c : Dev nD) : Nat → Nat → EReal := pre (A3 m c) (A4 m c) (A1 m c) (A7 m c)
abbrev clipG (c : Dev nD) : Nat → Nat → EReal := clip (A0 m c) (A3 m c) (A4 m c) (A6 m c)
abbrev dactD (c : Dev nD) : Nat → Nat → EReal := dact (A2 m c) (A5 m c) (A8 m c)
abbrev sqA (c : Dev nD) : Nat → Nat → EReal := sq (A0 m c) (A1 m c) (A3 m c) (A4 m c) (A6 m c) (A7 m c)
abbrev magA (c : Dev nD) : Nat → Nat → EReal := mag (A0 m c) (A1 m c) (A3 m c) (A4 m c) (A6 m c) (A7 m c) (A9 m c)
abbrev crossA (c : Dev nD) : Nat → Nat → EReal :=
  cross (A0 m c) (A1 m c) (A2 m c) (A3 m c) (A4 m c) (A5 m c) (A6 m c) (A7 m c) (A8 m c) (A9 m c)

/-! ## The host's two preparations -/

/-- The host repeats the per-token scales over 128 lanes. -/
theorem V_scales (c : Dev nD) (i : S8192x128.Idx) :
    V m c main_v1 i = m ((c : Thread nD τ).loc main_arg4) (ix1 (i 0)) := by
  have e : V m c main_v1 = broadcastInDim S8192x128 ![0, 1] bcast_S8192x1_S8192x128_0_1
      (broadcastInDim S8192x1 ![0] bcast_S8192_S8192x1_0 (m ((c : Thread nD τ).loc main_arg4))) := by
    unfold V; after_results
  rw [e]
  refine (broadcastInDim_apply _ _ _ i (ix2 (i 0) (0 : Fin 1)) ?_).trans (broadcastInDim_apply _ _ _ _ (ix1 (i 0)) ?_)
  · intro a; match a with
    | ⟨0, _⟩ => rfl
    | ⟨1, _⟩ => rfl
  · intro a; match a with
    | ⟨0, _⟩ => rfl

/-- The host lays the norm's weight out as one row. -/
theorem V_weight (c : Dev nD) (i : S1x5632.Idx) :
    V m c main_v2 i = m ((c : Thread nD τ).loc main_arg9) (ix1 (i 1)) := by
  have e : V m c main_v2 = shapeCast S1x5632 (m ((c : Thread nD τ).loc main_arg9)) shapeCasts_S5632_S1x5632 := by
    unfold V; after_results; rfl
  rw [e]
  refine shapeCast_apply _ _ i (ix1 (i 1)) ?_
  rewrite [Shape.rowMajor_val_one, Shape.rowMajor_val_two]
  have h0 : (i 0).val < 1 := (i 0).isLt
  show (i 1).val = (i 0).val * 5632 + (i 1).val
  omega

/-! ## The blocks -/

/-- Where each input's block lies at a point. -/
theorem idx_in : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val / 11 ∧ win0_3.index t (1 : Fin 2) = 0)
    ∧ (win0_4.index t (0 : Fin 2) = t.val / 11 ∧ win0_4.index t (1 : Fin 2) = 0)
    ∧ (win0_5.index t (0 : Fin 2) = t.val / 11 ∧ win0_5.index t (1 : Fin 2) = 0)
    ∧ (win0_6.index t (0 : Fin 2) = 0 ∧ win0_6.index t (1 : Fin 2) = t.val % 11)
    ∧ (win0_7.index t (0 : Fin 2) = 0 ∧ win0_7.index t (1 : Fin 2) = t.val % 11)
    ∧ (win0_8.index t (0 : Fin 2) = t.val % 11 ∧ win0_8.index t (1 : Fin 2) = 0)
    ∧ (win0_9.index t (0 : Fin 2) = 0 ∧ win0_9.index t (1 : Fin 2) = t.val % 11) :=
  (by decide +kernel : ∀ t : Fin grid0.N, _)

/-- Where each output's block lies at a point. -/
theorem idx_out : ∀ t : Fin cfg0.N,
    (win0_10.index t (0 : Fin 2) = t.val / 11 ∧ win0_10.index t (1 : Fin 2) = t.val % 11)
    ∧ (win0_11.index t (0 : Fin 2) = t.val / 11 ∧ win0_11.index t (1 : Fin 2) = t.val % 11)
    ∧ (win0_12.index t (0 : Fin 2) = t.val / 11 ∧ win0_12.index t (1 : Fin 2) = t.val % 11)
    ∧ (win0_13.index t (0 : Fin 2) = t.val / 11 ∧ win0_13.index t (1 : Fin 2) = 0)
    ∧ (win0_14.index t (0 : Fin 2) = t.val / 11 ∧ win0_14.index t (1 : Fin 2) = 0)
    ∧ (win0_15.index t (0 : Fin 2) = t.val / 11 ∧ win0_15.index t (1 : Fin 2) = 0) :=
  (by decide +kernel : ∀ t : Fin grid0.N, _)

/-- The gate weight's scale. -/
theorem iblk0 (c : Dev nD) (t : Fin cfg0.N) (y : S1x1.Idx) :
    (iblk m c 0 t : Vec Ideal S1x1 .f32) y = A0 m c (ix2 0 0) := by
  unfold iblk
  rw [View.read_apply]
  show V m c main_arg0 _ = _
  rw [V_main_arg0]
  exact congrArg (A0 m c) (funext fun a => match a with
    | ⟨0, _⟩ => Subsingleton.elim (α := Fin 1) _ _
    | ⟨1, _⟩ => Subsingleton.elim (α := Fin 1) _ _)

/-- The up weight's scale. -/
theorem iblk1 (c : Dev nD) (t : Fin cfg0.N) (y : S1x1.Idx) :
    (iblk m c 1 t : Vec Ideal S1x1 .f32) y = A1 m c (ix2 0 0) := by
  unfold iblk
  rw [View.read_apply]
  show V m c main_arg1 _ = _
  rw [V_main_arg1]
  exact congrArg (A1 m c) (funext fun a => match a with
    | ⟨0, _⟩ => Subsingleton.elim (α := Fin 1) _ _
    | ⟨1, _⟩ => Subsingleton.elim (α := Fin 1) _ _)

/-- The down weight's scale. -/
theorem iblk2 (c : Dev nD) (t : Fin cfg0.N) (y : S1x1.Idx) :
    (iblk m c 2 t : Vec Ideal S1x1 .f32) y = A2 m c (ix2 0 0) := by
  unfold iblk
  rw [View.read_apply]
  show V m c main_arg2 _ = _
  rw [V_main_arg2]
  exact congrArg (A2 m c) (funext fun a => match a with
    | ⟨0, _⟩ => Subsingleton.elim (α := Fin 1) _ _
    | ⟨1, _⟩ => Subsingleton.elim (α := Fin 1) _ _)

/-- The tokens' codes. -/
theorem iblk3 (c : Dev nD) (t : Fin cfg0.N) (y : S1024x2048.Idx) :
    (iblk m c 3 t : Vec Ideal S1024x2048 .i8) y = at2 (A3 m c) (1024 * (t.val / 11) + (y 0).val) (y 1).val := by
  obtain ⟨-, -, -, ⟨h, h'⟩, -⟩ := idx_in t
  unfold iblk
  rw [View.read_apply]
  show V m c main_arg3 _ = _
  rw [V_main_arg3]
  refine eq_at2 _ _ _ _ ?_ ?_
  · show win0_3.index t 0 * 1024 + 1 * (y 0).val = _; rw [h]; omega
  · show win0_3.index t 1 * 2048 + 1 * (y 1).val = _; rw [h']; omega

/-- The tokens' scales. -/
theorem iblk4 (c : Dev nD) (t : Fin cfg0.N) (y : S1024x128.Idx) :
    (iblk m c 4 t : Vec Ideal S1024x128 .f32) y = at1 (A4 m c) (1024 * (t.val / 11) + (y 0).val) := by
  obtain ⟨-, -, -, -, ⟨h, h'⟩, -⟩ := idx_in t
  unfold iblk
  rw [View.read_apply]
  show V m c main_v1 _ = _
  rw [V_scales]
  refine eq_at1 _ _ _ ?_
  show win0_4.index t 0 * 1024 + 1 * (y 0).val = _; rw [h]; omega

/-- The output gradient. -/
theorem iblk5 (c : Dev nD) (t : Fin cfg0.N) (y : S1024x2048.Idx) :
    (iblk m c 5 t : Vec Ideal S1024x2048 .bf16) y = at2 (A5 m c) (1024 * (t.val / 11) + (y 0).val) (y 1).val := by
  obtain ⟨-, -, -, -, -, ⟨h, h'⟩, -⟩ := idx_in t
  unfold iblk
  rw [View.read_apply]
  show V m c main_arg5 _ = _
  rw [V_main_arg5]
  refine eq_at2 _ _ _ _ ?_ ?_
  · show win0_5.index t 0 * 1024 + 1 * (y 0).val = _; rw [h]; omega
  · show win0_5.index t 1 * 2048 + 1 * (y 1).val = _; rw [h']; omega

/-- The gate weight's codes. -/
theorem iblk6 (c : Dev nD) (t : Fin cfg0.N) (y : S2048x512.Idx) :
    (iblk m c 6 t : Vec Ideal S2048x512 .i8) y = at2 (A6 m c) (y 0).val (512 * (t.val % 11) + (y 1).val) := by
  obtain ⟨-, -, -, -, -, -, ⟨h, h'⟩, -⟩ := idx_in t
  unfold iblk
  rw [View.read_apply]
  show V m c main_arg6 _ = _
  rw [V_main_arg6]
  refine eq_at2 _ _ _ _ ?_ ?_
  · show win0_6.index t 0 * 2048 + 1 * (y 0).val = _; rw [h]; omega
  · show win0_6.index t 1 * 512 + 1 * (y 1).val = _; rw [h']; omega

/-- The up weight's codes. -/
theorem iblk7 (c : Dev nD) (t : Fin cfg0.N) (y : S2048x512.Idx) :
    (iblk m c 7 t : Vec Ideal S2048x512 .i8) y = at2 (A7 m c) (y 0).val (512 * (t.val % 11) + (y 1).val) := by
  obtain ⟨-, -, -, -, -, -, -, ⟨h, h'⟩, -⟩ := idx_in t
  unfold iblk
  rw [View.read_apply]
  show V m c main_arg7 _ = _
  rw [V_main_arg7]
  refine eq_at2 _ _ _ _ ?_ ?_
  · show win0_7.index t 0 * 2048 + 1 * (y 0).val = _; rw [h]; omega
  · show win0_7.index t 1 * 512 + 1 * (y 1).val = _; rw [h']; omega

/-- The down weight's codes. -/
theorem iblk8 (c : Dev nD) (t : Fin cfg0.N) (y : S512x2048.Idx) :
    (iblk m c 8 t : Vec Ideal S512x2048 .i8) y = at2 (A8 m c) (512 * (t.val % 11) + (y 0).val) (y 1).val := by
  obtain ⟨-, -, -, -, -, -, -, -, ⟨h, h'⟩, -⟩ := idx_in t
  unfold iblk
  rw [View.read_apply]
  show V m c main_arg8 _ = _
  rw [V_main_arg8]
  refine eq_at2 _ _ _ _ ?_ ?_
  · show win0_8.index t 0 * 512 + 1 * (y 0).val = _; rw [h]; omega
  · show win0_8.index t 1 * 2048 + 1 * (y 1).val = _; rw [h']; omega

/-- The norm's weight. -/
theorem iblk9 (c : Dev nD) (t : Fin cfg0.N) (y : S1x512.Idx) :
    (iblk m c 9 t : Vec Ideal S1x512 .f32) y = at1 (A9 m c) (512 * (t.val % 11) + (y 1).val) := by
  obtain ⟨-, -, -, -, -, -, -, -, -, ⟨h, h'⟩⟩ := idx_in t
  unfold iblk
  rw [View.read_apply]
  show V m c main_v2 _ = _
  rw [V_weight]
  refine eq_at1 _ _ _ ?_
  show win0_9.index t 1 * 512 + 1 * (y 1).val = _; rw [h']; omega

/-! ## A point's arithmetic, at the arguments -/

section Point
variable (c : Dev nD) (t : Fin cfg0.N)

/-- The token a block's row is. -/
abbrev tok (y0 : Nat) : Nat := 1024 * (t.val / 11) + y0
/-- The feature a block's column is. -/
abbrev feat (y1 : Nat) : Nat := 512 * (t.val % 11) + y1

theorem proj_gate (y : S1024x512.Idx) : proj (iblk m c 0 t) (iblk m c 3 t) (iblk m c 4 t) (iblk m c 6 t) y
    = pre (A3 m c) (A4 m c) (A0 m c) (A6 m c) (tok t (y 0).val) (feat t (y 1).val) := by
  unfold proj pre
  rw [iblk0, iblk4]
  exact congrArg (fun z => z * at1 (A4 m c) (tok t (y 0).val) * A0 m c (ix2 0 0))
    (Finset.sum_congr rfl fun k _ => by rw [iblk3, iblk6])

theorem proj_up (y : S1024x512.Idx) : proj (iblk m c 1 t) (iblk m c 3 t) (iblk m c 4 t) (iblk m c 7 t) y
    = preU m c (tok t (y 0).val) (feat t (y 1).val) := by
  unfold proj preU pre
  rw [iblk1, iblk4]
  exact congrArg (fun z => z * at1 (A4 m c) (tok t (y 0).val) * A1 m c (ix2 0 0))
    (Finset.sum_congr rfl fun k _ => by rw [iblk3, iblk7])

theorem gate_at (y : S1024x512.Idx) : gate (iblk m c 0 t) (iblk m c 3 t) (iblk m c 4 t) (iblk m c 6 t) y
    = clipG m c (tok t (y 0).val) (feat t (y 1).val) := by
  unfold gate clipG clip
  rw [proj_gate]

theorem back_at (y : S1024x512.Idx) : back (iblk m c 2 t) (iblk m c 5 t) (iblk m c 8 t) y
    = dactD m c (tok t (y 0).val) (feat t (y 1).val) := by
  unfold back dactD dact
  rw [iblk2]
  exact congrArg (fun z => z * A2 m c (ix2 0 0)) (Finset.sum_congr rfl fun k _ => by rw [iblk5, iblk8])

theorem act_at (y : S1024x512.Idx) : act (iblk m c 0 t) (iblk m c 1 t) (iblk m c 3 t) (iblk m c 4 t) (iblk m c 6 t) (iblk m c 7 t) y
    = acti (A0 m c) (A1 m c) (A3 m c) (A4 m c) (A6 m c) (A7 m c) (tok t (y 0).val) (feat t (y 1).val) := by
  unfold act acti
  rw [gate_at, proj_up]

theorem scaled_at (y : S1024x512.Idx) :
    scaled (iblk m c 0 t) (iblk m c 1 t) (iblk m c 3 t) (iblk m c 4 t) (iblk m c 6 t) (iblk m c 7 t) (iblk m c 9 t) y
      = acts (A0 m c) (A1 m c) (A3 m c) (A4 m c) (A6 m c) (A7 m c) (A9 m c) (tok t (y 0).val) (feat t (y 1).val) := by
  unfold scaled acts
  rw [act_at, iblk9]

/-- The sum of squares' step: four more groups. -/
theorem ss_at (p : S1024x128.Idx → EReal) (y : S1024x128.Idx)
    (hp : p y = lanesUpTo (4 * (t.val % 11)) (sqA m c (tok t (y 0).val)) (y 1).val) :
    ssStep (iblk m c 0 t) (iblk m c 1 t) (iblk m c 3 t) (iblk m c 4 t) (iblk m c 6 t) (iblk m c 7 t) p y
      = lanesUpTo (4 * (t.val % 11 + 1)) (sqA m c (tok t (y 0).val)) (y 1).val := by
  unfold ssStep fold
  refine lanes_step (t.val % 11) _ _ _ _ _ _ _ hp ?_ ?_ ?_ ?_ <;> · beta_reduce; rw [act_at]; rfl

/-- The running maximum's step: four more groups. -/
theorem mx_at (p : S1024x128.Idx → EReal) (y : S1024x128.Idx)
    (hp : p y = peakUpTo (4 * (t.val % 11)) (magA m c (tok t (y 0).val)) (y 1).val) :
    mxStep (iblk m c 0 t) (iblk m c 1 t) (iblk m c 3 t) (iblk m c 4 t) (iblk m c 6 t) (iblk m c 7 t) (iblk m c 9 t) p y
      = peakUpTo (4 * (t.val % 11 + 1)) (magA m c (tok t (y 0).val)) (y 1).val := by
  unfold mxStep top
  refine peak_step (t.val % 11) _ _ _ _ _ _ _ hp ?_ ?_ ?_ ?_ <;> · beta_reduce; rw [scaled_at]; rfl

/-- The dot product's step: four more groups. -/
theorem cs_at (p : S1024x128.Idx → EReal) (y : S1024x128.Idx)
    (hp : p y = lanesUpTo (4 * (t.val % 11)) (crossA m c (tok t (y 0).val)) (y 1).val) :
    csStep (iblk m c 0 t) (iblk m c 1 t) (iblk m c 2 t) (iblk m c 3 t) (iblk m c 4 t) (iblk m c 5 t) (iblk m c 6 t) (iblk m c 7 t) (iblk m c 8 t) (iblk m c 9 t) p y
      = lanesUpTo (4 * (t.val % 11 + 1)) (crossA m c (tok t (y 0).val)) (y 1).val := by
  unfold csStep fold
  refine lanes_step (t.val % 11) _ _ _ _ _ _ _ hp ?_ ?_ ?_ ?_ <;> · beta_reduce; rw [back_at, scaled_at]; rfl

end Point

/-! ## What each point leaves -/

/-- A point leaves the clipped gate of its block. -/
theorem stored10 (c : Dev nD) (t : Fin cfg0.N) (y : S1024x512.Idx) :
    (outsAt0 m c t.val t.isLt).1 y = clipG m c (tok t (y 0).val) (feat t (y 1).val) := by
  by_cases h0 : t.val % 11 = 0
  · rw [outsAt0_A m c t h0]; dsimp only; rw [out_A_10]; exact gate_at m c t y
  · rw [outsAt0_B m c t h0]; dsimp only; rw [out_B_10]; exact gate_at m c t y

/-- A point leaves the up projection of its block. -/
theorem stored11 (c : Dev nD) (t : Fin cfg0.N) (y : S1024x512.Idx) :
    (outsAt0 m c t.val t.isLt).2.1 y = preU m c (tok t (y 0).val) (feat t (y 1).val) := by
  by_cases h0 : t.val % 11 = 0
  · rw [outsAt0_A m c t h0]; dsimp only; rw [out_A_11]; exact proj_up m c t y
  · rw [outsAt0_B m c t h0]; dsimp only; rw [out_B_11]; exact proj_up m c t y

/-- A point leaves the gradient reaching the activation of its block. -/
theorem stored12 (c : Dev nD) (t : Fin cfg0.N) (y : S1024x512.Idx) :
    (outsAt0 m c t.val t.isLt).2.2.1 y = dactD m c (tok t (y 0).val) (feat t (y 1).val) := by
  by_cases h0 : t.val % 11 = 0
  · rw [outsAt0_A m c t h0]; dsimp only; rw [out_A_12]; exact back_at m c t y
  · rw [outsAt0_B m c t h0]; dsimp only; rw [out_B_12]; exact back_at m c t y

theorem lanesUpTo_zero (F : Nat → EReal) (l : Nat) : (0 : EReal) = lanesUpTo 0 F l := rfl
theorem peakUpTo_zero (F : Nat → EReal) (l : Nat) : (0 : EReal) = peakUpTo 0 F l := by
  unfold peakUpTo; simp

/-- After a point, the sum of squares runs over the feature blocks so far. -/
theorem stat13 (c : Dev nD) : ∀ (n : Nat) (t : Fin cfg0.N), t.val = n → ∀ y : S1024x128.Idx,
    (outsAt0 m c t.val t.isLt).2.2.2.1 y = lanesUpTo (4 * (t.val % 11 + 1)) (sqA m c (tok t (y 0).val)) (y 1).val := by
  intro n
  induction n with
  | zero =>
    intro t ht y
    have h0 : t.val % 11 = 0 := by omega
    rw [outsAt0_A m c t h0]; dsimp only; rw [out_A_13]
    exact ss_at m c t _ y (by rw [h0]; exact lanesUpTo_zero _ _)
  | succ n ih =>
    intro t ht y
    by_cases h0 : t.val % 11 = 0
    · rw [outsAt0_A m c t h0]; dsimp only; rw [out_A_13]
      exact ss_at m c t _ y (by rw [h0]; exact lanesUpTo_zero _ _)
    · rw [outsAt0_B m c t h0]; dsimp only; rw [out_B_13]
      refine ss_at m c t _ y ((ih ⟨t.val - 1, Nat.lt_of_le_of_lt (Nat.sub_le _ _) t.isLt⟩ (by show t.val - 1 = n; omega) y).trans ?_)
      show lanesUpTo (4 * ((t.val - 1) % 11 + 1)) (sqA m c (1024 * ((t.val - 1) / 11) + (y 0).val)) _ = _
      rw [show (t.val - 1) % 11 + 1 = t.val % 11 by omega, show (t.val - 1) / 11 = t.val / 11 by omega]

/-- After a point, the maximum runs over the feature blocks so far. -/
theorem stat14 (c : Dev nD) : ∀ (n : Nat) (t : Fin cfg0.N), t.val = n → ∀ y : S1024x128.Idx,
    (outsAt0 m c t.val t.isLt).2.2.2.2.1 y = peakUpTo (4 * (t.val % 11 + 1)) (magA m c (tok t (y 0).val)) (y 1).val := by
  intro n
  induction n with
  | zero =>
    intro t ht y
    have h0 : t.val % 11 = 0 := by omega
    rw [outsAt0_A m c t h0]; dsimp only; rw [out_A_14]
    exact mx_at m c t _ y (by rw [h0]; exact peakUpTo_zero _ _)
  | succ n ih =>
    intro t ht y
    by_cases h0 : t.val % 11 = 0
    · rw [outsAt0_A m c t h0]; dsimp only; rw [out_A_14]
      exact mx_at m c t _ y (by rw [h0]; exact peakUpTo_zero _ _)
    · rw [outsAt0_B m c t h0]; dsimp only; rw [out_B_14]
      refine mx_at m c t _ y ((ih ⟨t.val - 1, Nat.lt_of_le_of_lt (Nat.sub_le _ _) t.isLt⟩ (by show t.val - 1 = n; omega) y).trans ?_)
      show peakUpTo (4 * ((t.val - 1) % 11 + 1)) (magA m c (1024 * ((t.val - 1) / 11) + (y 0).val)) _ = _
      rw [show (t.val - 1) % 11 + 1 = t.val % 11 by omega, show (t.val - 1) / 11 = t.val / 11 by omega]

/-- After a point, the dot product runs over the feature blocks so far. -/
theorem stat15 (c : Dev nD) : ∀ (n : Nat) (t : Fin cfg0.N), t.val = n → ∀ y : S1024x128.Idx,
    (outsAt0 m c t.val t.isLt).2.2.2.2.2 y = lanesUpTo (4 * (t.val % 11 + 1)) (crossA m c (tok t (y 0).val)) (y 1).val := by
  intro n
  induction n with
  | zero =>
    intro t ht y
    have h0 : t.val % 11 = 0 := by omega
    rw [outsAt0_A m c t h0]; dsimp only; rw [out_A_15]
    exact cs_at m c t _ y (by rw [h0]; exact lanesUpTo_zero _ _)
  | succ n ih =>
    intro t ht y
    by_cases h0 : t.val % 11 = 0
    · rw [outsAt0_A m c t h0]; dsimp only; rw [out_A_15]
      exact cs_at m c t _ y (by rw [h0]; exact lanesUpTo_zero _ _)
    · rw [outsAt0_B m c t h0]; dsimp only; rw [out_B_15]
      refine cs_at m c t _ y ((ih ⟨t.val - 1, Nat.lt_of_le_of_lt (Nat.sub_le _ _) t.isLt⟩ (by show t.val - 1 = n; omega) y).trans ?_)
      show lanesUpTo (4 * ((t.val - 1) % 11 + 1)) (crossA m c (1024 * ((t.val - 1) / 11) + (y 0).val)) _ = _
      rw [show (t.val - 1) % 11 + 1 = t.val % 11 by omega, show (t.val - 1) / 11 = t.val / 11 by omega]

/-! ## The result arrays -/

/-- The array of the clipped gate. -/
theorem arr10 (c : Dev nD) (i : S8192x5632.Idx) : (dats m 0 c).arrAt 10 cfg0.N i = clipG m c (i 0).val (i 1).val := by
  have b0 : (i 0).val < 8192 := (i 0).isLt
  have b1 : (i 1).val < 5632 := (i 1).isLt
  let t : Fin cfg0.N := ⟨11 * ((i 0).val / 1024) + (i 1).val / 512, by rw [show cfg0.N = 88 from N_0]; omega⟩
  let y : S1024x512.Idx := ix2 ⟨(i 0).val % 1024, Nat.mod_lt _ (by decide)⟩ ⟨(i 1).val % 512, Nat.mod_lt _ (by decide)⟩
  have ht : t.val = 11 * ((i 0).val / 1024) + (i 1).val / 512 := rfl
  obtain ⟨⟨h, h'⟩, -⟩ := idx_out t
  have e := congrFun (blocks10 m c t (flush0_10 t)) y
  rw [flushed10, View.read_apply] at e
  have hi : ((cfg0.win 10).blk t).view.emb y = i := funext fun a => Fin.ext (match a with
    | ⟨0, _⟩ => by show win0_10.index t 0 * 1024 + 1 * ((i 0).val % 1024) = (i 0).val; rw [h]; omega
    | ⟨1, _⟩ => by show win0_10.index t 1 * 512 + 1 * ((i 1).val % 512) = (i 1).val; rw [h']; omega)
  rw [hi] at e
  refine e.trans (Eq.trans (congrArg (outsAt0 m c t.val t.isLt).1 (funext fun a => Fin.ext (match a with | ⟨0, _⟩ => rfl | ⟨1, _⟩ => rfl) : _ = y)) ?_)
  rw [stored10]
  show clipG m c (1024 * (t.val / 11) + (i 0).val % 1024) (512 * (t.val % 11) + (i 1).val % 512) = _
  congr 1 <;> omega

/-- The array of the up projection. -/
theorem arr11 (c : Dev nD) (i : S8192x5632.Idx) : (dats m 0 c).arrAt 11 cfg0.N i = preU m c (i 0).val (i 1).val := by
  have b0 : (i 0).val < 8192 := (i 0).isLt
  have b1 : (i 1).val < 5632 := (i 1).isLt
  let t : Fin cfg0.N := ⟨11 * ((i 0).val / 1024) + (i 1).val / 512, by rw [show cfg0.N = 88 from N_0]; omega⟩
  let y : S1024x512.Idx := ix2 ⟨(i 0).val % 1024, Nat.mod_lt _ (by decide)⟩ ⟨(i 1).val % 512, Nat.mod_lt _ (by decide)⟩
  have ht : t.val = 11 * ((i 0).val / 1024) + (i 1).val / 512 := rfl
  obtain ⟨-, ⟨h, h'⟩, -⟩ := idx_out t
  have e := congrFun (blocks11 m c t (flush0_11 t)) y
  rw [flushed11, View.read_apply] at e
  have hi : ((cfg0.win 11).blk t).view.emb y = i := funext fun a => Fin.ext (match a with
    | ⟨0, _⟩ => by show win0_11.index t 0 * 1024 + 1 * ((i 0).val % 1024) = (i 0).val; rw [h]; omega
    | ⟨1, _⟩ => by show win0_11.index t 1 * 512 + 1 * ((i 1).val % 512) = (i 1).val; rw [h']; omega)
  rw [hi] at e
  refine e.trans (Eq.trans (congrArg (outsAt0 m c t.val t.isLt).2.1 (funext fun a => Fin.ext (match a with | ⟨0, _⟩ => rfl | ⟨1, _⟩ => rfl) : _ = y)) ?_)
  rw [stored11]
  show preU m c (1024 * (t.val / 11) + (i 0).val % 1024) (512 * (t.val % 11) + (i 1).val % 512) = _
  congr 1 <;> omega

/-- The array of the gradient reaching the activation. -/
theorem arr12 (c : Dev nD) (i : S8192x5632.Idx) : (dats m 0 c).arrAt 12 cfg0.N i = dactD m c (i 0).val (i 1).val := by
  have b0 : (i 0).val < 8192 := (i 0).isLt
  have b1 : (i 1).val < 5632 := (i 1).isLt
  let t : Fin cfg0.N := ⟨11 * ((i 0).val / 1024) + (i 1).val / 512, by rw [show cfg0.N = 88 from N_0]; omega⟩
  let y : S1024x512.Idx := ix2 ⟨(i 0).val % 1024, Nat.mod_lt _ (by decide)⟩ ⟨(i 1).val % 512, Nat.mod_lt _ (by decide)⟩
  have ht : t.val = 11 * ((i 0).val / 1024) + (i 1).val / 512 := rfl
  obtain ⟨-, -, ⟨h, h'⟩, -⟩ := idx_out t
  have e := congrFun (blocks12 m c t (flush0_12 t)) y
  rw [flushed12, View.read_apply] at e
  have hi : ((cfg0.win 12).blk t).view.emb y = i := funext fun a => Fin.ext (match a with
    | ⟨0, _⟩ => by show win0_12.index t 0 * 1024 + 1 * ((i 0).val % 1024) = (i 0).val; rw [h]; omega
    | ⟨1, _⟩ => by show win0_12.index t 1 * 512 + 1 * ((i 1).val % 512) = (i 1).val; rw [h']; omega)
  rw [hi] at e
  refine e.trans (Eq.trans (congrArg (outsAt0 m c t.val t.isLt).2.2.1 (funext fun a => Fin.ext (match a with | ⟨0, _⟩ => rfl | ⟨1, _⟩ => rfl) : _ = y)) ?_)
  rw [stored12]
  show dactD m c (1024 * (t.val / 11) + (i 0).val % 1024) (512 * (t.val % 11) + (i 1).val % 512) = _
  congr 1 <;> omega

/-- Two points that write the sum of squares out write different token blocks. -/
theorem disj13 (t t' : Fin cfg0.N) (hf : (cfg0.win 13).flush t = true) (hf' : (cfg0.win 13).flush t' = true) (hne : t ≠ t') :
    Disjoint ((cfg0.win 13).blk t).view.set ((cfg0.win 13).blk t').view.set := by
  refine (cfg0.win 13).disjoint_blk fun h => hne ?_
  have a := (flush0_13 t).mp hf
  have a' := (flush0_13 t').mp hf'
  obtain ⟨-, -, -, ⟨b, -⟩, -⟩ := idx_out t
  obtain ⟨-, -, -, ⟨b', -⟩, -⟩ := idx_out t'
  have e : win0_13.index t (0 : Fin 2) = win0_13.index t' (0 : Fin 2) := congrFun h 0
  rw [b, b'] at e
  exact Fin.ext (by omega)

/-- The array of the sum of squaress. -/
theorem arr13 (c : Dev nD) (i : S8192x128.Idx) : (dats m 0 c).arrAt 13 cfg0.N i = lanes (sqA m c (i 0).val) (i 1).val := by
  have b0 : (i 0).val < 8192 := (i 0).isLt
  have b1 : (i 1).val < 128 := (i 1).isLt
  let t : Fin cfg0.N := ⟨11 * ((i 0).val / 1024) + 10, by rw [show cfg0.N = 88 from N_0]; omega⟩
  let y : S1024x128.Idx := ix2 ⟨(i 0).val % 1024, Nat.mod_lt _ (by decide)⟩ (i 1)
  have ht : t.val = 11 * ((i 0).val / 1024) + 10 := rfl
  obtain ⟨-, -, -, ⟨h, h'⟩, -⟩ := idx_out t
  have e := congrFun ((dats m 0 c).read_blk_arrAt_eq_flushed 13 disj13 cfg0.N t t.isLt ((flush0_13 t).mpr (by omega))) y
  rw [flushed13, View.read_apply] at e
  have hi : ((cfg0.win 13).blk t).view.emb y = i := funext fun a => Fin.ext (match a with
    | ⟨0, _⟩ => by show win0_13.index t 0 * 1024 + 1 * ((i 0).val % 1024) = (i 0).val; rw [h]; omega
    | ⟨1, _⟩ => by show win0_13.index t 1 * 128 + 1 * (i 1).val = (i 1).val; rw [h']; omega)
  rw [hi] at e
  refine e.trans (Eq.trans (congrArg (outsAt0 m c t.val t.isLt).2.2.2.1 (funext fun a => Fin.ext (match a with | ⟨0, _⟩ => rfl | ⟨1, _⟩ => rfl) : _ = y)) ?_)
  rw [stat13 m c t.val t rfl]
  show lanesUpTo (4 * (t.val % 11 + 1)) (sqA m c (1024 * (t.val / 11) + (i 0).val % 1024)) (i 1).val = _
  rw [show 4 * (t.val % 11 + 1) = 44 by omega, show 1024 * (t.val / 11) + (i 0).val % 1024 = (i 0).val by omega]
  exact lanesUpTo_all _ _

/-- Two points that write the maximum out write different token blocks. -/
theorem disj14 (t t' : Fin cfg0.N) (hf : (cfg0.win 14).flush t = true) (hf' : (cfg0.win 14).flush t' = true) (hne : t ≠ t') :
    Disjoint ((cfg0.win 14).blk t).view.set ((cfg0.win 14).blk t').view.set := by
  refine (cfg0.win 14).disjoint_blk fun h => hne ?_
  have a := (flush0_14 t).mp hf
  have a' := (flush0_14 t').mp hf'
  obtain ⟨-, -, -, -, ⟨b, -⟩, -⟩ := idx_out t
  obtain ⟨-, -, -, -, ⟨b', -⟩, -⟩ := idx_out t'
  have e : win0_14.index t (0 : Fin 2) = win0_14.index t' (0 : Fin 2) := congrFun h 0
  rw [b, b'] at e
  exact Fin.ext (by omega)

/-- The array of the maximums. -/
theorem arr14 (c : Dev nD) (i : S8192x128.Idx) : (dats m 0 c).arrAt 14 cfg0.N i = peak (magA m c (i 0).val) (i 1).val := by
  have b0 : (i 0).val < 8192 := (i 0).isLt
  have b1 : (i 1).val < 128 := (i 1).isLt
  let t : Fin cfg0.N := ⟨11 * ((i 0).val / 1024) + 10, by rw [show cfg0.N = 88 from N_0]; omega⟩
  let y : S1024x128.Idx := ix2 ⟨(i 0).val % 1024, Nat.mod_lt _ (by decide)⟩ (i 1)
  have ht : t.val = 11 * ((i 0).val / 1024) + 10 := rfl
  obtain ⟨-, -, -, -, ⟨h, h'⟩, -⟩ := idx_out t
  have e := congrFun ((dats m 0 c).read_blk_arrAt_eq_flushed 14 disj14 cfg0.N t t.isLt ((flush0_14 t).mpr (by omega))) y
  rw [flushed14, View.read_apply] at e
  have hi : ((cfg0.win 14).blk t).view.emb y = i := funext fun a => Fin.ext (match a with
    | ⟨0, _⟩ => by show win0_14.index t 0 * 1024 + 1 * ((i 0).val % 1024) = (i 0).val; rw [h]; omega
    | ⟨1, _⟩ => by show win0_14.index t 1 * 128 + 1 * (i 1).val = (i 1).val; rw [h']; omega)
  rw [hi] at e
  refine e.trans (Eq.trans (congrArg (outsAt0 m c t.val t.isLt).2.2.2.2.1 (funext fun a => Fin.ext (match a with | ⟨0, _⟩ => rfl | ⟨1, _⟩ => rfl) : _ = y)) ?_)
  rw [stat14 m c t.val t rfl]
  show peakUpTo (4 * (t.val % 11 + 1)) (magA m c (1024 * (t.val / 11) + (i 0).val % 1024)) (i 1).val = _
  rw [show 4 * (t.val % 11 + 1) = 44 by omega, show 1024 * (t.val / 11) + (i 0).val % 1024 = (i 0).val by omega]
  exact peakUpTo_all _ _ fun f => mag_nonneg ..

/-- Two points that write the dot product out write different token blocks. -/
theorem disj15 (t t' : Fin cfg0.N) (hf : (cfg0.win 15).flush t = true) (hf' : (cfg0.win 15).flush t' = true) (hne : t ≠ t') :
    Disjoint ((cfg0.win 15).blk t).view.set ((cfg0.win 15).blk t').view.set := by
  refine (cfg0.win 15).disjoint_blk fun h => hne ?_
  have a := (flush0_15 t).mp hf
  have a' := (flush0_15 t').mp hf'
  obtain ⟨-, -, -, -, -, ⟨b, -⟩⟩ := idx_out t
  obtain ⟨-, -, -, -, -, ⟨b', -⟩⟩ := idx_out t'
  have e : win0_15.index t (0 : Fin 2) = win0_15.index t' (0 : Fin 2) := congrFun h 0
  rw [b, b'] at e
  exact Fin.ext (by omega)

/-- The array of the dot products. -/
theorem arr15 (c : Dev nD) (i : S8192x128.Idx) : (dats m 0 c).arrAt 15 cfg0.N i = lanes (crossA m c (i 0).val) (i 1).val := by
  have b0 : (i 0).val < 8192 := (i 0).isLt
  have b1 : (i 1).val < 128 := (i 1).isLt
  let t : Fin cfg0.N := ⟨11 * ((i 0).val / 1024) + 10, by rw [show cfg0.N = 88 from N_0]; omega⟩
  let y : S1024x128.Idx := ix2 ⟨(i 0).val % 1024, Nat.mod_lt _ (by decide)⟩ (i 1)
  have ht : t.val = 11 * ((i 0).val / 1024) + 10 := rfl
  obtain ⟨-, -, -, -, -, ⟨h, h'⟩⟩ := idx_out t
  have e := congrFun ((dats m 0 c).read_blk_arrAt_eq_flushed 15 disj15 cfg0.N t t.isLt ((flush0_15 t).mpr (by omega))) y
  rw [flushed15, View.read_apply] at e
  have hi : ((cfg0.win 15).blk t).view.emb y = i := funext fun a => Fin.ext (match a with
    | ⟨0, _⟩ => by show win0_15.index t 0 * 1024 + 1 * ((i 0).val % 1024) = (i 0).val; rw [h]; omega
    | ⟨1, _⟩ => by show win0_15.index t 1 * 128 + 1 * (i 1).val = (i 1).val; rw [h']; omega)
  rw [hi] at e
  refine e.trans (Eq.trans (congrArg (outsAt0 m c t.val t.isLt).2.2.2.2.2 (funext fun a => Fin.ext (match a with | ⟨0, _⟩ => rfl | ⟨1, _⟩ => rfl) : _ = y)) ?_)
  rw [stat15 m c t.val t rfl]
  show lanesUpTo (4 * (t.val % 11 + 1)) (crossA m c (1024 * (t.val / 11) + (i 0).val % 1024)) (i 1).val = _
  rw [show 4 * (t.val % 11 + 1) = 44 by omega, show 1024 * (t.val / 11) + (i 0).val % 1024 = (i 0).val by omega]
  exact lanesUpTo_all _ _

end Cert.ProjIdeal.Results

end
-- ==== Proof.Proj.Claims.lean ====
/- The claims about the projection kernel `Proj`, its idealization and the host reference. -/
module

public import proofs.«01_k».proof.Defs
public import proofs.«01_k».proof.Proof.Proj.Value
public import proofs.«01_k».proof.Proof.Gen.ProjRefIdeal.Read
public import proofs.«01_k».proof.Proof.Gen.ProjRefIdeal.Run
public import proofs.«01_k».proof.Proof.Gen.Proj.Frame
public import Idealize.ShloMosaic.Lib.Quiescent

@[expose] public section

set_option maxRecDepth 16384

noncomputable section

namespace Cert.ProjRefIdeal.Results

open Idealize.ShloMosaic Idealize.ShloMosaic.TcCoe Idealize.SL.Sem Idealize.ShloMosaic.ValueIdx
open Cert.ProjRefIdeal Cert.ProjRefIdeal.Gen Cert.ProjRefIdeal.Read Cert.Common Cert.Projections
open scoped BigOperators

variable (x0 x1 x2 : (⟨S1x1, .f32⟩ : BufTy).Contents (Elt Ideal)) (x3 : (⟨S8192x2048, .i8⟩ : BufTy).Contents (Elt Ideal))
  (x4 : (⟨S8192, .f32⟩ : BufTy).Contents (Elt Ideal)) (x5 : (⟨S8192x2048, .bf16⟩ : BufTy).Contents (Elt Ideal))
  (x6 x7 : (⟨S2048x5632, .i8⟩ : BufTy).Contents (Elt Ideal)) (x8 : (⟨S5632x2048, .i8⟩ : BufTy).Contents (Elt Ideal))
  (x9 : (⟨S5632, .f32⟩ : BufTy).Contents (Elt Ideal))

/-- A 1×1 array taken as a scalar is its element. -/
theorem scalar_apply (x : (⟨S1x1, .f32⟩ : BufTy).Contents (Elt Ideal)) (i : S_.Idx) :
    shapeCast S_ x shapeCasts_S1x1_S_ i = x (ix2 0 0) := by
  unfold shapeCast
  exact congrArg x (funext fun a => match a with
    | ⟨0, _⟩ => Subsingleton.elim (α := Fin 1) _ _
    | ⟨1, _⟩ => Subsingleton.elim (α := Fin 1) _ _)

/-- The gate's projection. -/
theorem gate_apply (i : S8192x5632.Idx) :
    val_main_v14 (F := Ideal) x0 x3 x4 x6 i = pre x3 x4 x0 x6 (i 0).val (i 1).val := by
  rw [val_main_v14_apply, val_main_v12_apply, val_main_v9_apply, val_main_v13_apply, val_main_v11_apply, val_main_v10_apply]
  unfold val_main_v0
  rw [scalar_apply]
  unfold pre
  refine congrArg₂ (· * ·) (congrArg₂ (· * ·) (Finset.sum_congr rfl fun k _ => ?_) (eq_at1 x4 _ (i 0).val rfl)) rfl
  show ((((x3 _).signExtend 32).toInt : ℝ) : EReal) * ((((x6 _).signExtend 32).toInt : ℝ) : EReal) = _
  rw [toInt_extsi, toInt_extsi, eq_at2 x3 _ (i 0).val k.val rfl rfl, eq_at2 x6 _ k.val (i 1).val rfl rfl]

/-- The up projection. -/
theorem up_apply (i : S8192x5632.Idx) :
    val_main_v26 (F := Ideal) x1 x3 x4 x7 i = pre x3 x4 x1 x7 (i 0).val (i 1).val := by
  rw [val_main_v26_apply, val_main_v24_apply, val_main_v21_apply, val_main_v25_apply, val_main_v23_apply, val_main_v22_apply]
  unfold val_main_v1
  rw [scalar_apply]
  unfold pre
  refine congrArg₂ (· * ·) (congrArg₂ (· * ·) (Finset.sum_congr rfl fun k _ => ?_) (eq_at1 x4 _ (i 0).val rfl)) rfl
  show ((((x3 _).signExtend 32).toInt : ℝ) : EReal) * ((((x7 _).signExtend 32).toInt : ℝ) : EReal) = _
  rw [toInt_extsi, toInt_extsi, eq_at2 x3 _ (i 0).val k.val rfl rfl, eq_at2 x7 _ k.val (i 1).val rfl rfl]

/-- The clipped gate. -/
theorem clip_apply (i : S8192x5632.Idx) :
    val_main_v28 (F := Ideal) x0 x3 x4 x6 i = clip x0 x3 x4 x6 (i 0).val (i 1).val := by
  rw [val_main_v28_apply, gate_apply, val_main_v27_apply, val_main_cst_apply, Ideal.ofBits_def, Ideal.ofBits_zero_f32]
  rfl

/-- The gradient reaching the activation. -/
theorem dact_apply (i : S8192x5632.Idx) :
    val_main_v36 (F := Ideal) x2 x5 x8 i = dact x2 x5 x8 (i 0).val (i 1).val := by
  rw [val_main_v36_apply, val_main_v34_apply, val_main_v35_apply]
  unfold val_main_v2
  rw [scalar_apply]
  unfold dact
  refine congrArg₂ (· * ·) (Finset.sum_congr rfl fun k _ => ?_) rfl
  show x5 _ * ((((x8 _).signExtend 32).toInt : ℝ) : EReal) = _
  rw [toInt_extsi, eq_at2 x5 _ (i 0).val k.val rfl rfl, eq_at2 x8 _ (i 1).val k.val rfl rfl]

/-- The activation. -/
theorem acti_apply (i : S8192x5632.Idx) :
    val_main_v30 (F := Ideal) x0 x1 x3 x4 x6 x7 i = acti x0 x1 x3 x4 x6 x7 (i 0).val (i 1).val := by
  rw [val_main_v30_apply, val_main_v29_apply, clip_apply, up_apply]
  rfl

/-- The activation times its norm's weight. -/
theorem acts_apply (i : S8192x5632.Idx) :
    val_main_v39 (F := Ideal) x0 x1 x3 x4 x6 x7 x9 i = acts x0 x1 x3 x4 x6 x7 x9 (i 0).val (i 1).val := by
  rw [val_main_v39_apply, acti_apply, val_main_v38_apply, val_main_v37_apply]
  unfold acts
  exact congrArg₂ (· * ·) rfl (eq_at1 x9 _ (i 1).val rfl)

/-- A row's groups of 128 features: group `k`, lane `l` is feature `128 * k + l`. -/
theorem group_row (r : Fin 8192) (k : Fin 44) (l : Fin 128) :
    ((r.val * 44 + k.val) * 128 + l.val) / 5632 = r.val ∧ ((r.val * 44 + k.val) * 128 + l.val) % 5632 = 128 * k.val + l.val := by
  have := k.isLt; have := l.isLt; omega

/-- The sum of squares per lane. -/
theorem ss_apply (i : S8192x128.Idx) :
    val_main_v42 (F := Ideal) x0 x1 x3 x4 x6 x7 i = lanes (sq x0 x1 x3 x4 x6 x7 (i 0).val) (i 1).val := by
  rw [val_main_v42_apply, val_main_cst_0_apply, Ideal.ofBits_def, Ideal.ofBits_zero_f32, zero_add]
  unfold lanes
  refine Finset.sum_congr rfl fun k _ => ?_
  obtain ⟨h, h'⟩ := group_row (i 0) k (i 1)
  rw [val_main_v41_apply, val_main_v40_apply, acti_apply]
  show sq x0 x1 x3 x4 x6 x7 ((((i 0).val * 44 + k.val) * 128 + (i 1).val) / 5632) ((((i 0).val * 44 + k.val) * 128 + (i 1).val) % 5632) = _
  rw [h, h']

/-- The largest magnitude per lane. -/
theorem mx_apply (i : S8192x128.Idx) :
    val_main_v45 (F := Ideal) x0 x1 x3 x4 x6 x7 x9 i = peak (mag x0 x1 x3 x4 x6 x7 x9 (i 0).val) (i 1).val := by
  unfold val_main_v45
  rw [Host.reduce_eq_fold_single (FloatOps.maximumf (F := Ideal) (φ := .f32)) _ _ reducesTo_S8192x44x128_S8192x128_d1 (by decide) h_S_ i]
  unfold peak
  rw [val_main_cst_1_apply]
  have hb : (FloatOps.ofBits .f32 0xFF800000#32 : Ideal .f32) = (⊥ : EReal) := by
    rw [Ideal.ofBits_def]; simp [Ideal.ofBits, Ideal.ieee]
  rw [hb]
  show (Finset.univ : Finset (Fin 44)).sup _ = _
  refine Finset.sup_congr rfl fun k _ => ?_
  obtain ⟨h, h'⟩ := group_row (i 0) k (i 1)
  show val_main_v44 (F := Ideal) x0 x1 x3 x4 x6 x7 x9 (idx_main_v42 i k) = _
  rw [val_main_v44_apply, val_main_v43_apply, acts_apply]
  show mag x0 x1 x3 x4 x6 x7 x9 ((((i 0).val * 44 + k.val) * 128 + (i 1).val) / 5632) ((((i 0).val * 44 + k.val) * 128 + (i 1).val) % 5632) = _
  rw [h, h']

/-- The dot product with the gradient per lane. -/
theorem cs_apply (i : S8192x128.Idx) :
    val_main_v48 (F := Ideal) x0 x1 x2 x3 x4 x5 x6 x7 x8 x9 i
      = lanes (cross x0 x1 x2 x3 x4 x5 x6 x7 x8 x9 (i 0).val) (i 1).val := by
  rw [val_main_v48_apply, val_main_cst_2_apply, Ideal.ofBits_def, Ideal.ofBits_zero_f32, zero_add]
  unfold lanes
  refine Finset.sum_congr rfl fun k _ => ?_
  obtain ⟨h, h'⟩ := group_row (i 0) k (i 1)
  rw [val_main_v47_apply, val_main_v46_apply, dact_apply, acts_apply]
  show cross x0 x1 x2 x3 x4 x5 x6 x7 x8 x9 ((((i 0).val * 44 + k.val) * 128 + (i 1).val) / 5632) ((((i 0).val * 44 + k.val) * 128 + (i 1).val) % 5632) = _
  rw [h, h']

end Cert.ProjRefIdeal.Results

namespace Cert.Proof.ProjClaims

open Idealize.ShloMosaic Idealize.ShloMosaic.TcCoe Idealize.SL.Sem Idealize.ShloMosaic.ValueIdx Cert.Common
open scoped BigOperators

/-- Every execution of the kernel ends, leaving its arguments as they were. -/
theorem frame : Cert.quiescent_Proj := fun m ρ _ => Cert.Proj.Gen.frame m ρ
/-- … and of its idealization. -/
theorem frame_i : Cert.quiescent_ProjIdeal := fun m ρ _ => Cert.ProjIdeal.Gen.frame m ρ
/-- … and of the idealized reference. -/
theorem frame_ri : Cert.quiescent_ProjRefIdeal := fun m ρ _ =>
  (θ_run Cert.ProjRefIdeal.defs _ _).mono (fun r h => ⟨fun c => (h c).2.2.2.2.2.2, sem_eq_zero_of_no_sems (by decide) r.2⟩)
    (Cert.ProjRefIdeal.Value.run (F := Ideal) m ρ)

/-- The idealization changes nothing but the instance of the float operations. -/
theorem preserves : Cert.preserves_Proj_ProjIdeal := trivial

/-- At exact arithmetic the kernel's six results are the reference's. -/
theorem algebraic : Cert.algebraic_ProjIdeal_ProjRefIdeal := by
  intro m ρ m' ρ' _ hagree
  refine ⟨fun c => (Cert.ProjIdeal.Gen.dats m 0 c).arrAt 10 Cert.ProjIdeal.cfg0.N, fun c => (Cert.ProjIdeal.Gen.dats m 0 c).arrAt 11 Cert.ProjIdeal.cfg0.N,
    fun c => (Cert.ProjIdeal.Gen.dats m 0 c).arrAt 12 Cert.ProjIdeal.cfg0.N, fun c => (Cert.ProjIdeal.Gen.dats m 0 c).arrAt 13 Cert.ProjIdeal.cfg0.N,
    fun c => (Cert.ProjIdeal.Gen.dats m 0 c).arrAt 14 Cert.ProjIdeal.cfg0.N, fun c => (Cert.ProjIdeal.Gen.dats m 0 c).arrAt 15 Cert.ProjIdeal.cfg0.N,
    Cert.ProjIdeal.Value.run_blocks (F := Ideal) m ρ, ?_⟩
  refine (θ_run Cert.ProjRefIdeal.defs _ _).mono (fun _ h c => ?_) (Cert.ProjRefIdeal.Value.run (F := Ideal) m' ρ')
  obtain ⟨h0, h1, h2, h3, h4, h5, hr⟩ := h c
  obtain ⟨a0, a1, a2, a3, a4, a5, a6, a7, a8, a9⟩ := hagree c
  refine ⟨h0.trans ?_, h1.trans ?_, h2.trans ?_, h3.trans ?_, h4.trans ?_, h5.trans ?_, hr⟩
  · rw [a0, a3, a4, a6]
    funext i
    exact (Cert.ProjRefIdeal.Results.clip_apply _ _ _ _ i).trans (Cert.ProjIdeal.Results.arr10 m c i).symm
  · rw [a1, a3, a4, a7]
    funext i
    exact (Cert.ProjRefIdeal.Results.up_apply _ _ _ _ i).trans (Cert.ProjIdeal.Results.arr11 m c i).symm
  · rw [a2, a5, a8]
    funext i
    exact (Cert.ProjRefIdeal.Results.dact_apply _ _ _ i).trans (Cert.ProjIdeal.Results.arr12 m c i).symm
  · unfold Cert.ProjRefIdeal.Value.res_main_v42
    rw [a0, a1, a3, a4, a6, a7]
    funext i
    exact (Cert.ProjRefIdeal.Results.ss_apply _ _ _ _ _ _ i).trans (Cert.ProjIdeal.Results.arr13 m c i).symm
  · rw [a0, a1, a3, a4, a6, a7, a9]
    funext i
    exact (Cert.ProjRefIdeal.Results.mx_apply _ _ _ _ _ _ _ i).trans (Cert.ProjIdeal.Results.arr14 m c i).symm
  · rw [a0, a1, a2, a3, a4, a5, a6, a7, a8, a9]
    funext i
    exact (Cert.ProjRefIdeal.Results.cs_apply _ _ _ _ _ _ _ _ _ _ i).trans (Cert.ProjIdeal.Results.arr15 m c i).symm

end Cert.Proof.ProjClaims

end
-- ==== Proof.Xquant.Value.lean ====
/- The token quantiser's three result arrays, element by element. The kernel takes 512 tokens at a grid point; a token's
   results depend on that token's row alone, so each array is a function of the row. -/
module

public import proofs.«01_k».proof.Proof.Common
public import proofs.«01_k».proof.Proof.Gen.XquantIdeal.Value
public import Idealize.ShloMosaic.Lib.StableHlo.Run
public import Idealize.ShloMosaic.Lib.Pipeline.ValueKit.Basic
public import Idealize.ShloMosaic.PureOps.Ideal.Laws

@[expose] public section

set_option maxRecDepth 16384

noncomputable section

namespace Cert.TokenCodes

open Idealize.ShloMosaic Idealize.ShloMosaic.ValueIdx Cert.Common
open scoped BigOperators

/-! ## The specification: one token's results -/

section
variable (x : (⟨2, ![8192, 2048]⟩ : Shape).Idx → EReal) (g : (⟨1, ![2048]⟩ : Shape).Idx → EReal)

/-- The reciprocal of the root mean square of token `t`'s features (the mean is increased by the norm's small constant). -/
def invRms (t : Nat) : EReal :=
  FloatOps.divf (F := Ideal) (φ := .f32) (FloatOps.ofBits .f32 0x3F800000#32)
    (FloatOps.sqrt (F := Ideal) (φ := .f32) ((FloatOps.divf (F := Ideal) (φ := .f32)
      (∑ k : Fin 2048, at2 x t k.val * at2 x t k.val) (FloatOps.ofBits .f32 0x45000000#32) : EReal) + (FloatOps.ofBits .f32 0x3727C5AC#32 : Ideal .f32)))

/-- The normalised feature `d` of token `t`, times the norm's weight. -/
def normed (t d : Nat) : EReal := at2 x t d * invRms x t * at1 g d

/-- The largest magnitude among token `t`'s normalised features. -/
def top (t : Nat) : EReal := (Finset.univ : Finset (Fin 2048)).sup fun k => max (normed x g t k.val) (-normed x g t k.val)

/-- Token `t`'s scale: the largest magnitude over 127, or one when that magnitude is zero. -/
def scale (t : Nat) : EReal :=
  Scalar.select (FloatOps.cmpf (F := Ideal) (φ := .f32) .oeq (top x g t) (FloatOps.ofBits .f32 0x00000000#32))
    (FloatOps.ofBits .f32 0x3F800000#32 : Ideal .f32) (FloatOps.divf (F := Ideal) (φ := .f32) (top x g t) (FloatOps.ofBits .f32 0x42FE0000#32))

/-- The scaled feature rounded to the nearest integer and held within ±127. -/
def rounded (t d : Nat) : EReal :=
  min (FloatOps.ofBits .f32 0x42FE0000#32 : Ideal .f32) (max (FloatOps.ofBits .f32 0xC2FE0000#32 : Ideal .f32)
    (FloatOps.roundeven (F := Ideal) (φ := .f32) (FloatOps.divf (F := Ideal) (φ := .f32) (normed x g t d) (scale x g t))))

/-- The code of feature `d` of token `t`. -/
def code (t d : Nat) : BitVec 8 := Ideal.fptosi 8 (rounded x g t d)

end

/-! ## A code through 32 bits -/

theorem ofBits_127 : (FloatOps.ofBits .f32 0x42FE0000#32 : Ideal .f32) = ((127 : ℝ) : EReal) := by
  rw [Ideal.ofBits_def]; simp [Ideal.ofBits, Ideal.ieee]; rw [← EReal.coe_mul]; norm_num
theorem ofBits_neg127 : (FloatOps.ofBits .f32 0xC2FE0000#32 : Ideal .f32) = ((-127 : ℝ) : EReal) := by
  rw [Ideal.ofBits_def]; simp [Ideal.ofBits, Ideal.ieee]; rw [← EReal.coe_mul]; norm_num

/-- Of a number within ±127, the 8-bit integer is the 32-bit integer's low byte. -/
theorem fptosi_8_32 (z : EReal) (h0 : ((-127 : ℝ) : EReal) ≤ z) (h1 : z ≤ ((127 : ℝ) : EReal)) :
    (Ideal.fptosi 32 z).truncate 8 = Ideal.fptosi 8 z := by
  induction z with
  | bot => exact absurd h0 (by simp)
  | top => exact absurd h1 (by simp)
  | coe r =>
    have h0' : (-127 : ℝ) ≤ r := by exact_mod_cast h0
    have h1' : r ≤ 127 := by exact_mod_cast h1
    unfold Ideal.fptosi
    rw [Ideal.toIntClamped_coe, Ideal.toIntClamped_coe]
    generalize hn : (if 0 ≤ r then ⌊r⌋ else ⌈r⌉) = n
    have hlo : -127 ≤ n := by
      rw [← hn]; split
      · exact Int.le_floor.mpr (by push_cast; exact h0')
      · have := Int.le_ceil r; exact_mod_cast h0'.trans this
    have hhi : n ≤ 127 := by
      rw [← hn]; split
      · have := Int.floor_le r; exact_mod_cast this.trans h1'
      · exact Int.ceil_le.mpr (by push_cast; exact h1')
    have e : ∀ w : Nat, 8 ≤ w → max (-((2 ^ (w - 1) : Nat) : Int)) (min (((2 ^ (w - 1) : Nat) : Int) - 1) n) = n := by
      intro w hw
      have : (2 : Nat) ^ 7 ≤ 2 ^ (w - 1) := Nat.pow_le_pow_right (by decide) (by omega)
      have : (128 : Int) ≤ ((2 ^ (w - 1) : Nat) : Int) := by exact_mod_cast this
      omega
    rw [e 32 (by decide), e 8 (by decide)]
    show ((BitVec.ofInt 32 n).setWidth 8) = _
    apply BitVec.eq_of_toInt_eq
    rw [BitVec.toInt_setWidth, BitVec.toNat_ofInt, BitVec.toInt_ofInt]
    simp only [Int.bmod_def]
    omega

end Cert.TokenCodes

namespace Cert.XquantIdeal.Results

open Idealize.ShloMosaic Idealize.ShloMosaic.TcCoe Idealize.SL.Sem Idealize.ShloMosaic.ValueIdx
open Cert.XquantIdeal Cert.XquantIdeal.Gen Cert.XquantIdeal.Value Cert.Common Cert.TokenCodes
open scoped BigOperators

variable (m : (ℓ : Loc nD τ sig) → Buf (Elt Ideal) ℓ)

abbrev A0 (c : Dev nD) : S8192x2048.Idx → EReal := m ((c : Thread nD τ).loc main_arg0)
abbrev A1 (c : Dev nD) : S2048.Idx → EReal := m ((c : Thread nD τ).loc main_arg1)

/-- The host lays the norm's weight out as one row. -/
theorem V_weight (c : Dev nD) (i : S1x2048.Idx) :
    V m c main_v0 i = m ((c : Thread nD τ).loc main_arg1) (ix1 (i 1)) := by
  have e : V m c main_v0 = shapeCast S1x2048 (m ((c : Thread nD τ).loc main_arg1)) shapeCasts_S2048_S1x2048 := by
    unfold V; after_results; rfl
  rw [e]
  refine shapeCast_apply _ _ i (ix1 (i 1)) ?_
  rewrite [Shape.rowMajor_val_one, Shape.rowMajor_val_two]
  have h0 : (i 0).val < 1 := (i 0).isLt
  show (i 1).val = (i 0).val * 2048 + (i 1).val
  omega

/-- Where each block lies at a point. -/
theorem idx_win : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

/-- A point's block of tokens. -/
theorem iblk0 (c : Dev nD) (t : Fin cfg0.N) (y : S512x2048.Idx) :
    (iblk m c 0 t : Vec Ideal S512x2048 .bf16) y = at2 (A0 m c) (512 * t.val + (y 0).val) (y 1).val := by
  obtain ⟨⟨h, h'⟩, -⟩ := idx_win t
  unfold iblk
  rw [View.read_apply]
  show V m c main_arg0 _ = _
  rw [V_main_arg0]
  refine eq_at2 _ _ _ _ ?_ ?_
  · show win0_0.index t 0 * 512 + 1 * (y 0).val = _; rw [h]; omega
  · show win0_0.index t 1 * 2048 + 1 * (y 1).val = _; rw [h']; omega

/-- The norm's weight. -/
theorem iblk1 (c : Dev nD) (t : Fin cfg0.N) (y : S1x2048.Idx) :
    (iblk m c 1 t : Vec Ideal S1x2048 .f32) y = at1 (A1 m c) (y 1).val := by
  obtain ⟨-, ⟨h, h'⟩, -⟩ := idx_win t
  unfold iblk
  rw [View.read_apply]
  show V m c main_v0 _ = _
  rw [V_weight]
  refine eq_at1 _ _ _ ?_
  show win0_1.index t 1 * 2048 + 1 * (y 1).val = _; rw [h']; omega

/-! ## A block's arithmetic -/

section Block
variable (P0 : Vec Ideal S512x2048 .bf16) (P1 : Vec Ideal S1x2048 .f32)
variable (x : S8192x2048.Idx → EReal) (g : S2048.Idx → EReal) (b : Nat)

/-- The sums of squares of the block's rows. -/
abbrev SQ (P0 : Vec Ideal S512x2048 .bf16) : FVec Ideal S512 .f32 :=
  multiReduction .add [1] S512 (mulf (extf .f32 P0 bitsLt_bf16_f32) (extf .f32 P0 bitsLt_bf16_f32)) 0x00000000#32 reduces_S512x2048_S512 (.inl rfl) rfl

/-- The reciprocal root mean squares of the block's rows. -/
abbrev RI (P0 : Vec Ideal S512x2048 .bf16) : FVec Ideal S512x1 .f32 :=
  divf (broadcast S512x1 (Scalar.ofBits .f32 0x3F800000#32)) (sqrt (addf (divf (shapeCast S512x1 (SQ P0) shapeCasts_S512_S512x1)
    (broadcast S512x1 (Scalar.ofBits .f32 0x45000000#32))) (broadcast S512x1 (Scalar.ofBits .f32 0x3727C5AC#32))))

/-- The block's normalised features. -/
abbrev XN (P0 : Vec Ideal S512x2048 .bf16) (P1 : Vec Ideal S1x2048 .f32) : FVec Ideal S512x2048 .f32 :=
  mulf (mulf (extf .f32 P0 bitsLt_bf16_f32) (broadcastTo S512x2048 (RI P0) broadcasts_S512x1_S512x2048))
    (broadcastTo S512x2048 (shapeCast S1x2048 P1 shapeCasts_S1x2048_S1x2048) broadcasts_S1x2048_S512x2048)

/-- The largest magnitudes of the block's rows. -/
abbrev MX (P0 : Vec Ideal S512x2048 .bf16) (P1 : Vec Ideal S1x2048 .f32) : FVec Ideal S512 .f32 :=
  multiReduction .maximumf [1] S512 (absf (XN P0 P1)) 0xFF800000#32 reduces_S512x2048_S512 (.inl rfl) rfl

/-- A block row's features are the lift of the row. -/
theorem lift_row (i : S512.Idx) (k : Fin 2048) : reduces_S512x2048_S512.lift i k = ix2 (i 0) k :=
  funext fun a => Fin.ext (match a with | ⟨0, _⟩ => rfl | ⟨1, _⟩ => rfl)

variable (h0 : ∀ y : S512x2048.Idx, P0 y = at2 x (b + (y 0).val) (y 1).val) (h1 : ∀ y : S1x2048.Idx, P1 y = at1 g (y 1).val)
include h0

/-- A row's sum of squares. -/
theorem squares (i : S512.Idx) : SQ P0 i = (∑ k : Fin 2048, at2 x (b + (i 0).val) k.val * at2 x (b + (i 0).val) k.val : EReal) :=
  (Ideal.multiReduction_add_single _ _ _ _ _ i).trans (Finset.sum_congr rfl fun k _ => by
    show (P0 (reduces_S512x2048_S512.lift i k) : EReal) * P0 (reduces_S512x2048_S512.lift i k) = _
    have e : P0 (reduces_S512x2048_S512.lift i k) = at2 x (b + (i 0).val) k.val := (congrArg P0 (lift_row i k)).trans (h0 _)
    exact congrArg₂ (· * ·) e e)

/-- A row's reciprocal root mean square. -/
theorem rowInv (i : S512x1.Idx) : RI P0 i = invRms x (b + (i 0).val) := by
  have e : shapeCast S512x1 (SQ P0) shapeCasts_S512_S512x1 i = SQ P0 (ix1 (i 0)) :=
    shapeCast_apply _ _ i (ix1 (i 0)) (by
      rw [Shape.rowMajor_val_one, Shape.rowMajor_val_two]
      have h : (i 1).val < 1 := (i 1).isLt
      show (i 0).val = (i 0).val * 1 + (i 1).val; omega)
  have s := squares P0 x b h0 (ix1 (i 0))
  unfold invRms
  show FloatOps.divf (F := Ideal) (φ := .f32) _ (FloatOps.sqrt (F := Ideal) (φ := .f32) (FloatOps.addf (FloatOps.divf (shapeCast S512x1 (SQ P0) shapeCasts_S512_S512x1 i) _) _)) = _
  rw [e, s]; rfl

include h1

/-- A normalised feature. -/
theorem feature (i : S512x2048.Idx) : XN P0 P1 i = normed x g (b + (i 0).val) (i 1).val := by
  have b0 : (i 0).val < 512 := (i 0).isLt
  have b1 : (i 1).val < 2048 := (i 1).isLt
  have e : broadcastTo S512x2048 (RI P0) broadcasts_S512x1_S512x2048 i = invRms x (b + (i 0).val) :=
    (broadcastTo_apply _ _ i (fun a => match a with | ⟨0, _⟩ => ⟨(i 0).val, by show (i 0).val < 512; omega⟩ | ⟨1, _⟩ => ⟨0, by show 0 < 1; omega⟩ : S512x1.Idx)
      (fun a => match a with | ⟨0, _⟩ => by show (i 0).val = (if (512 : Nat) = 1 then 0 else (i 0).val); rw [if_neg (by decide)] | ⟨1, _⟩ => by show 0 = (if (1 : Nat) = 1 then 0 else (i 1).val); rw [if_pos rfl])).trans
      (rowInv P0 x b h0 _)
  have e' : broadcastTo S512x2048 (shapeCast S1x2048 P1 shapeCasts_S1x2048_S1x2048) broadcasts_S1x2048_S512x2048 i = at1 g (i 1).val := by
    rw [shapeCast_self]
    exact (broadcastTo_apply _ _ i (fun a => match a with | ⟨0, _⟩ => ⟨0, by show 0 < 1; omega⟩ | ⟨1, _⟩ => ⟨(i 1).val, by show (i 1).val < 2048; omega⟩ : S1x2048.Idx)
      (fun a => match a with | ⟨0, _⟩ => by show 0 = (if (1 : Nat) = 1 then 0 else (i 0).val); rw [if_pos rfl] | ⟨1, _⟩ => by show (i 1).val = (if (2048 : Nat) = 1 then 0 else (i 1).val); rw [if_neg (by decide)])).trans
      (h1 _)
  unfold normed
  show ((P0 i : EReal) * broadcastTo S512x2048 (RI P0) broadcasts_S512x1_S512x2048 i) * broadcastTo S512x2048 (shapeCast S1x2048 P1 shapeCasts_S1x2048_S1x2048) broadcasts_S1x2048_S512x2048 i = _
  rw [e, e', h0]

/-- A row's largest magnitude. -/
theorem rowTop (i : S512.Idx) : MX P0 P1 i = top x g (b + (i 0).val) := by
  have hb : (FloatOps.ofBits .f32 0xFF800000#32 : Ideal .f32) = (⊥ : EReal) := by
    rw [Ideal.ofBits_def]; simp [Ideal.ofBits, Ideal.ieee]
  refine (Ideal.multiReduction_maximumf_single _ _ _ _ _ i).trans ?_
  rw [hb]
  unfold top
  show (Finset.univ : Finset (Fin 2048)).sup _ = _
  refine Finset.sup_congr rfl fun k _ => ?_
  show max (XN P0 P1 (reduces_S512x2048_S512.lift i k) : EReal) (-XN P0 P1 (reduces_S512x2048_S512.lift i k)) = _
  have e : XN P0 P1 (reduces_S512x2048_S512.lift i k) = normed x g (b + (i 0).val) k.val := (congrArg (XN P0 P1) (lift_row i k)).trans (feature P0 P1 x g b h0 h1 _)
  exact congrArg (fun z : EReal => max z (-z)) e

/-- The block of codes. -/
theorem codes (y : S512x2048.Idx) : E2 P0 P1 y = code x g (b + (y 0).val) (y 1).val := by
  have s' : SQ P0 (ix2_1 y) = _ := squares P0 x b h0 (ix2_1 y)
  have t3 : MX P0 P1 (ix2_3 y) = _ := rowTop P0 P1 x g b h0 h1 (ix2_3 y)
  have p0 := h0 (ix2_0 y)
  have p1 := h1 (ix2_2 y)
  unfold code rounded scale normed invRms
  show FloatOps.fptosi (F := Ideal) (φ := .f32) 8 (FloatOps.minimumf _ (FloatOps.maximumf _ (FloatOps.roundeven (FloatOps.divf
    (((P0 (ix2_0 y) : EReal) * FloatOps.divf (F := Ideal) (φ := .f32) _ (FloatOps.sqrt (F := Ideal) (φ := .f32) (FloatOps.addf (FloatOps.divf (SQ P0 (ix2_1 y)) _) _))) * (P1 (ix2_2 y) : EReal))
    (Scalar.select (FloatOps.cmpf .oeq (MX P0 P1 (ix2_3 y)) _) _ (FloatOps.divf (MX P0 P1 (ix2_4 y)) _)))))) = _
  rw [p0, p1, s', t3]; rfl

/-- What a point leaves in the block of codes. -/
theorem out2 (y : S512x2048.Idx) : out0_2 P0 P1 y = code x g (b + (y 0).val) (y 1).val := by
  have l0 : View.ld P0 r0_0 = P0 := View.ld_unit_lit _ P0 (by decide)
  have l1 : View.ld P1 r0_1 = P1 := View.ld_unit_lit _ P1 (by decide)
  unfold out0_2
  refine (canon2_eq (View.ld P0 r0_0) (View.ld P1 r0_1) y).trans ?_
  rw [l0, l1]
  exact codes P0 P1 x g b h0 h1 y

/-- The block of scales. -/
theorem scales (y : S512x128.Idx) : E3 P0 P1 y = scale x g (b + (y 0).val) := by
  have t0 : MX P0 P1 (ix3_0 y) = _ := rowTop P0 P1 x g b h0 h1 (ix3_0 y)
  unfold scale
  show Scalar.select (FloatOps.cmpf .oeq (MX P0 P1 (ix3_0 y)) _) _ (FloatOps.divf (MX P0 P1 (ix3_1 y)) _) = _
  rw [t0]

/-- What a point leaves in the block of scales. -/
theorem out3 (y : S512x128.Idx) : out0_3 P0 P1 y = scale x g (b + (y 0).val) := by
  have l0 : View.ld P0 r0_0 = P0 := View.ld_unit_lit _ P0 (by decide)
  have l1 : View.ld P1 r0_1 = P1 := View.ld_unit_lit _ P1 (by decide)
  unfold out0_3
  refine (canon3_eq (View.ld P0 r0_0) (View.ld P1 r0_1) y).trans ?_
  rw [l0, l1]
  exact scales P0 P1 x g b h0 h1 y

omit h1
/-- The block of reciprocal root mean squares. -/
theorem invs (y : S512x128.Idx) : E4 P0 y = invRms x (b + (y 0).val) := by
  have s' : SQ P0 (ix4_0 y) = _ := squares P0 x b h0 (ix4_0 y)
  unfold invRms
  show FloatOps.divf (F := Ideal) (φ := .f32) _ (FloatOps.sqrt (F := Ideal) (φ := .f32) (FloatOps.addf (FloatOps.divf (SQ P0 (ix4_0 y)) _) _)) = _
  rw [s']; rfl

/-- What a point leaves in the block of reciprocal root mean squares. -/
theorem out4 (y : S512x128.Idx) : out0_4 P0 P1 y = invRms x (b + (y 0).val) := by
  have l0 : View.ld P0 r0_0 = P0 := View.ld_unit_lit _ P0 (by decide)
  unfold out0_4
  refine (canon4_eq (View.ld P0 r0_0) y).trans ?_
  rw [l0]
  exact invs P0 x b h0 y

end Block

/-! ## The three arrays -/

/-- The point that writes token `r` out. -/
abbrev pt (r : Nat) (h : r < 8192) : Fin cfg0.N := ⟨r / 512, by rw [show cfg0.N = 16 from N_0]; omega⟩

/-- The array of codes. -/
theorem arr2 (c : Dev nD) (i : S8192x2048.Idx) : (dats m 0 c).arrAt 2 cfg0.N i = code (A0 m c) (A1 m c) (i 0).val (i 1).val := by
  have b0 : (i 0).val < 8192 := (i 0).isLt
  let t : Fin cfg0.N := pt (i 0).val b0
  let y : S512x2048.Idx := ix2 ⟨(i 0).val % 512, Nat.mod_lt _ (by decide)⟩ (i 1)
  obtain ⟨-, -, ⟨h, h'⟩, -, -⟩ := idx_win t
  have e := congrFun (blocks2 m c t (flush0_2 t)) y
  rw [flushed2, View.read_apply] at e
  obtain ⟨O, hO⟩ : ∃ O, O = out0_2 (iblk m c 0 t) (iblk m c 1 t) := ⟨_, rfl⟩
  rw [← hO] at e
  have hi : ((cfg0.win 2).blk t).view.emb y = i := funext fun a => Fin.ext (match a with
    | ⟨0, _⟩ => by show win0_2.index t 0 * 512 + 1 * ((i 0).val % 512) = (i 0).val; rw [h]; show (i 0).val / 512 * 512 + _ = _; omega
    | ⟨1, _⟩ => by show win0_2.index t 1 * 2048 + 1 * (i 1).val = (i 1).val; rw [h']; omega)
  rw [hi] at e
  refine e.trans (Eq.trans (congrArg O (funext fun a => Fin.ext (match a with | ⟨0, _⟩ => rfl | ⟨1, _⟩ => rfl) : _ = y)) ?_)
  rw [hO]
  refine (out2 (iblk m c 0 t) (iblk m c 1 t) (A0 m c) (A1 m c) (512 * t.val) (iblk0 m c t) (iblk1 m c t) y).trans ?_
  show code (A0 m c) (A1 m c) (512 * ((i 0).val / 512) + (i 0).val % 512) (i 1).val = _
  congr 1; omega

/-- The array of scales. -/
theorem arr3 (c : Dev nD) (i : S8192x128.Idx) : (dats m 0 c).arrAt 3 cfg0.N i = scale (A0 m c) (A1 m c) (i 0).val := by
  have b0 : (i 0).val < 8192 := (i 0).isLt
  let t : Fin cfg0.N := pt (i 0).val b0
  let y : S512x128.Idx := ix2 ⟨(i 0).val % 512, Nat.mod_lt _ (by decide)⟩ (i 1)
  obtain ⟨-, -, -, ⟨h, h'⟩, -⟩ := idx_win t
  have e := congrFun (blocks3 m c t (flush0_3 t)) y
  rw [flushed3, View.read_apply] at e
  obtain ⟨O, hO⟩ : ∃ O, O = out0_3 (iblk m c 0 t) (iblk m c 1 t) := ⟨_, rfl⟩
  rw [← hO] at e
  have hi : ((cfg0.win 3).blk t).view.emb y = i := funext fun a => Fin.ext (match a with
    | ⟨0, _⟩ => by show win0_3.index t 0 * 512 + 1 * ((i 0).val % 512) = (i 0).val; rw [h]; show (i 0).val / 512 * 512 + _ = _; omega
    | ⟨1, _⟩ => by show win0_3.index t 1 * 128 + 1 * (i 1).val = (i 1).val; rw [h']; omega)
  rw [hi] at e
  refine e.trans (Eq.trans (congrArg O (funext fun a => Fin.ext (match a with | ⟨0, _⟩ => rfl | ⟨1, _⟩ => rfl) : _ = y)) ?_)
  rw [hO]
  refine (out3 (iblk m c 0 t) (iblk m c 1 t) (A0 m c) (A1 m c) (512 * t.val) (iblk0 m c t) (iblk1 m c t) y).trans ?_
  show scale (A0 m c) (A1 m c) (512 * ((i 0).val / 512) + (i 0).val % 512) = _
  congr 1; omega

/-- The array of reciprocal root mean squares. -/
theorem arr4 (c : Dev nD) (i : S8192x128.Idx) : (dats m 0 c).arrAt 4 cfg0.N i = invRms (A0 m c) (i 0).val := by
  have b0 : (i 0).val < 8192 := (i 0).isLt
  let t : Fin cfg0.N := pt (i 0).val b0
  let y : S512x128.Idx := ix2 ⟨(i 0).val % 512, Nat.mod_lt _ (by decide)⟩ (i 1)
  obtain ⟨-, -, -, -, ⟨h, h'⟩⟩ := idx_win t
  have e := congrFun (blocks4 m c t (flush0_4 t)) y
  rw [flushed4, View.read_apply] at e
  obtain ⟨O, hO⟩ : ∃ O, O = out0_4 (iblk m c 0 t) (iblk m c 1 t) := ⟨_, rfl⟩
  rw [← hO] at e
  have hi : ((cfg0.win 4).blk t).view.emb y = i := funext fun a => Fin.ext (match a with
    | ⟨0, _⟩ => by show win0_4.index t 0 * 512 + 1 * ((i 0).val % 512) = (i 0).val; rw [h]; show (i 0).val / 512 * 512 + _ = _; omega
    | ⟨1, _⟩ => by show win0_4.index t 1 * 128 + 1 * (i 1).val = (i 1).val; rw [h']; omega)
  rw [hi] at e
  refine e.trans (Eq.trans (congrArg O (funext fun a => Fin.ext (match a with | ⟨0, _⟩ => rfl | ⟨1, _⟩ => rfl) : _ = y)) ?_)
  rw [hO]
  refine (out4 (iblk m c 0 t) (iblk m c 1 t) (A0 m c) (512 * t.val) (iblk0 m c t) y).trans ?_
  show invRms (A0 m c) (512 * ((i 0).val / 512) + (i 0).val % 512) = _
  congr 1; omega

end Cert.XquantIdeal.Results

end
-- ==== Proof.Xquant.Claims.lean ====
/- The claims about the token quantiser `Xquant`, its idealization and the host reference. -/
module

public import proofs.«01_k».proof.Defs
public import proofs.«01_k».proof.Proof.Xquant.Value
public import proofs.«01_k».proof.Proof.Gen.XquantRefIdeal.Read
public import proofs.«01_k».proof.Proof.Gen.XquantRefIdeal.Run
public import proofs.«01_k».proof.Proof.Gen.Xquant.Frame
public import Idealize.ShloMosaic.Lib.Quiescent

@[expose] public section

set_option maxRecDepth 16384

noncomputable section

namespace Cert.XquantRefIdeal.Results

open Idealize.ShloMosaic Idealize.ShloMosaic.TcCoe Idealize.SL.Sem Idealize.ShloMosaic.ValueIdx
open Cert.XquantRefIdeal Cert.XquantRefIdeal.Gen Cert.XquantRefIdeal.Read Cert.Common Cert.TokenCodes
open scoped BigOperators

variable (x0 : (⟨S8192x2048, .bf16⟩ : BufTy).Contents (Elt Ideal)) (x1 : (⟨S2048, .f32⟩ : BufTy).Contents (Elt Ideal))

/-- The reciprocal root mean square. -/
theorem inv_apply (i : S8192x1.Idx) : val_main_v10 (F := Ideal) x0 i = invRms x0 (i 0).val := by
  rw [val_main_v10_apply, val_main_v9_apply, val_main_cst_2_apply, val_main_v8_apply, val_main_v7_apply, val_main_v5_apply, val_main_v3_apply,
    val_main_v2_apply, val_main_cst_apply, val_main_v4_apply, val_main_cst_0_apply, val_main_v6_apply, val_main_cst_1_apply]
  have hz : (FloatOps.ofBits .f32 0x00000000#32 : Ideal .f32) = (0 : EReal) := (Ideal.ofBits_def _).trans Ideal.ofBits_zero_f32
  rw [hz, zero_add]
  have e : (∑ k : Fin 2048, val_main_v1 (F := Ideal) x0 (idx_main_v2 (idx_main_v3 i) k) : EReal)
      = ∑ k : Fin 2048, at2 x0 (i 0).val k.val * at2 x0 (i 0).val k.val := Finset.sum_congr rfl fun k _ => by
    rw [val_main_v1_apply, val_main_v0_apply]
    show (x0 _ : EReal) * x0 _ = _
    rw [eq_at2 x0 _ (i 0).val k.val rfl rfl]
  unfold invRms
  rw [← e]
  rfl

/-- The normalised features. -/
theorem normed_apply (i : S8192x2048.Idx) : val_main_v15 (F := Ideal) x0 x1 i = normed x0 x1 (i 0).val (i 1).val := by
  rw [val_main_v15_apply, val_main_v12_apply, val_main_v11_apply, inv_apply, val_main_v14_apply, val_main_v13_apply, val_main_v0_apply]
  unfold normed
  show (x0 i : EReal) * invRms x0 (i 0).val * x1 _ = _
  rw [eq_at2 x0 i (i 0).val (i 1).val rfl rfl, eq_at1 x1 _ (i 1).val rfl]

/-- The largest magnitude. -/
theorem top_apply (i : S8192.Idx) : val_main_v17 (F := Ideal) x0 x1 i = top x0 x1 (i 0).val := by
  unfold val_main_v17
  rw [Host.reduce_eq_fold_single (FloatOps.maximumf (F := Ideal) (φ := .f32)) _ _ reducesTo_S8192x2048_S8192_d1 (by decide) h_S_ i]
  unfold top
  rw [val_main_cst_3_apply]
  have hb : (FloatOps.ofBits .f32 0xFF800000#32 : Ideal .f32) = (⊥ : EReal) := by
    rw [Ideal.ofBits_def]; simp [Ideal.ofBits, Ideal.ieee]
  rw [hb]
  show (Finset.univ : Finset (Fin 2048)).sup _ = _
  refine Finset.sup_congr rfl fun k _ => ?_
  show val_main_v16 (F := Ideal) x0 x1 (_ : S8192x2048.Idx) = _
  rw [val_main_v16_apply, normed_apply]
  rfl

/-- The scale. -/
theorem scale_apply (i : S8192.Idx) : val_main_v23 (F := Ideal) x0 x1 i = scale x0 x1 (i 0).val := by
  rw [val_main_v23_apply, val_main_v19_apply, val_main_v22_apply, top_apply, val_main_v18_apply, val_main_cst_4_apply, val_main_v20_apply, val_main_cst_5_apply,
    val_main_v21_apply, val_main_cst_6_apply]
  rfl

/-- The codes. -/
theorem code_apply (i : S8192x2048.Idx) : val_main_v33 (F := Ideal) x0 x1 i = code x0 x1 (i 0).val (i 1).val := by
  rw [val_main_v33_apply, val_main_v32_apply, val_main_v31_apply, val_main_v29_apply, val_main_v27_apply, val_main_v26_apply, normed_apply, val_main_v25_apply,
    val_main_v24_apply, scale_apply, val_main_v28_apply, val_main_v30_apply]
  have e : (FloatOps.minimumf (F := Ideal) (φ := .f32) (FloatOps.maximumf (FloatOps.hostUnary .roundeven (FloatOps.hostDivf (normed x0 x1 (i 0).val (i 1).val)
      (scale x0 x1 (i 0).val))) (FloatOps.ofBits .f32 0xC2FE0000#32)) (FloatOps.ofBits .f32 0x42FE0000#32) : EReal) = rounded x0 x1 (i 0).val (i 1).val := by
    unfold rounded
    refine (min_comm _ _).trans (congrArg _ (max_comm _ _))
  refine Eq.trans (congrArg (fun z : EReal => (Ideal.fptosi 32 z).setWidth 8) e) ?_
  unfold code
  refine fptosi_8_32 _ ?_ ?_
  · unfold rounded
    rw [ofBits_127, ofBits_neg127]
    exact le_min (by exact_mod_cast (by norm_num : (-127 : ℝ) ≤ 127)) (le_max_left _ _)
  · unfold rounded
    rw [ofBits_127]
    exact min_le_left _ _

end Cert.XquantRefIdeal.Results

namespace Cert.Proof.XquantClaims

open Idealize.ShloMosaic Idealize.ShloMosaic.TcCoe Idealize.SL.Sem Idealize.ShloMosaic.ValueIdx Cert.Common
open Cert.XquantRefIdeal.Read
open scoped BigOperators

/-- Every execution of the kernel ends, leaving its arguments as they were. -/
theorem frame : Cert.quiescent_Xquant := fun m ρ _ => Cert.Xquant.Gen.frame m ρ
/-- … and of its idealization. -/
theorem frame_i : Cert.quiescent_XquantIdeal := fun m ρ _ => Cert.XquantIdeal.Gen.frame m ρ
/-- … and of the idealized reference. -/
theorem frame_ri : Cert.quiescent_XquantRefIdeal := fun m ρ _ =>
  (θ_run Cert.XquantRefIdeal.defs _ _).mono (fun r h => ⟨fun c => (h c).2.2.2, sem_eq_zero_of_no_sems (by decide) r.2⟩)
    (Cert.XquantRefIdeal.Value.run (F := Ideal) m ρ)

/-- The idealization changes nothing but the instance of the float operations. -/
theorem preserves : Cert.preserves_Xquant_XquantIdeal := trivial

/-- At exact arithmetic the quantiser's three results are the reference's. -/
theorem algebraic : Cert.algebraic_XquantIdeal_XquantRefIdeal := by
  intro m ρ m' ρ' _ hagree
  refine ⟨fun c => (Cert.XquantIdeal.Gen.dats m 0 c).arrAt 2 Cert.XquantIdeal.cfg0.N, fun c => (Cert.XquantIdeal.Gen.dats m 0 c).arrAt 3 Cert.XquantIdeal.cfg0.N,
    fun c => (Cert.XquantIdeal.Gen.dats m 0 c).arrAt 4 Cert.XquantIdeal.cfg0.N, Cert.XquantIdeal.Value.run_blocks (F := Ideal) m ρ, ?_⟩
  refine (θ_run Cert.XquantRefIdeal.defs _ _).mono (fun _ h c => ?_) (Cert.XquantRefIdeal.Value.run (F := Ideal) m' ρ')
  obtain ⟨h0, h1, h2, hr⟩ := h c
  obtain ⟨a0, a1⟩ := hagree c
  refine ⟨(h0.trans (val_main_v33_eq _ _)).trans ?_, (h1.trans (val_main_v35_eq _ _)).trans ?_, (h2.trans (val_main_v38_eq _)).trans ?_, hr⟩
  · rw [a0, a1]
    funext i
    exact (Cert.XquantRefIdeal.Results.code_apply _ _ i).trans (Cert.XquantIdeal.Results.arr2 m c i).symm
  · rw [a0, a1]
    funext i
    refine Eq.trans ?_ (Cert.XquantIdeal.Results.arr3 m c i).symm
    rw [val_main_v35_apply, val_main_v34_apply]
    exact Cert.XquantRefIdeal.Results.scale_apply _ _ _
  · rw [a0]
    funext i
    refine Eq.trans ?_ (Cert.XquantIdeal.Results.arr4 m c i).symm
    rw [val_main_v38_apply, val_main_v37_apply, val_main_v36_apply, Cert.XquantRefIdeal.Results.inv_apply]
    refine congrArg _ ?_
    show (i 0).val / 1 = (i 0).val
    omega

end Cert.Proof.XquantClaims

end
-- ==== Proof.Wquant.Codes.lean ====
/- Three-valued weight codes and their packing, element by element: the kernel compares a weight's magnitude with half the
   scale, the reference rounds the weight over the scale; and the kernel packs four rows through one 32-bit word where the
   reference joins four shifted fields. -/
module

public import proofs.«01_k».proof.Proof.Common
public import Idealize.ShloMosaic.Lib.BitcastFour
public import Idealize.ShloMosaic.PureOps.Ideal.Laws

@[expose] public section

set_option maxRecDepth 16384

noncomputable section

namespace Cert.WeightCodes

open Idealize.ShloMosaic Idealize.ShloMosaic.ValueIdx Cert.Common

/-! ## One code -/

/-- The code of a weight: its sign where its magnitude exceeds half the scale, zero elsewhere. -/
def code (w s : EReal) : BitVec 32 :=
  Scalar.select (Ideal.cmp .ogt (max w (-w)) ((FloatOps.ofBits .f32 0x3F000000#32 : Ideal .f32) * s))
    (Scalar.select (Ideal.cmp .olt w (FloatOps.ofBits .f32 0x00000000#32 : Ideal .f32)) 4294967295#32 1#32) 0#32

/-- The reference's code: the weight over the scale, rounded to nearest even and held within ±1. -/
def rounded (w s : EReal) : BitVec 32 :=
  Ideal.fptosi 32 (min (max (Ideal.liftRound Ideal.roundHalfEven (Ideal.div w s)) (FloatOps.ofBits .f32 0xBF800000#32 : Ideal .f32))
    (FloatOps.ofBits .f32 0x3F800000#32 : Ideal .f32))

theorem ofBits_half : (FloatOps.ofBits .f32 0x3F000000#32 : Ideal .f32) = ((1 / 2 : ℝ) : EReal) := by
  rw [Ideal.ofBits_def]; simp [Ideal.ofBits, Ideal.ieee]; rw [← EReal.coe_mul]; norm_num
theorem ofBits_one : (FloatOps.ofBits .f32 0x3F800000#32 : Ideal .f32) = ((1 : ℝ) : EReal) := by
  rw [Ideal.ofBits_def]; simp [Ideal.ofBits, Ideal.ieee]; rw [← EReal.coe_mul]; norm_num
theorem ofBits_neg_one : (FloatOps.ofBits .f32 0xBF800000#32 : Ideal .f32) = ((-1 : ℝ) : EReal) := by
  rw [Ideal.ofBits_def]; simp [Ideal.ofBits, Ideal.ieee]; rw [← EReal.coe_mul]; norm_num
theorem ofBits_zero : (FloatOps.ofBits .f32 0x00000000#32 : Ideal .f32) = (0 : EReal) :=
  (Ideal.ofBits_def _).trans Ideal.ofBits_zero_f32

/-- The code by cases. -/
theorem code_eq (w s : EReal) :
    code w s = if ((1 / 2 : ℝ) : EReal) * s < max w (-w) then (if w < 0 then 4294967295#32 else 1#32) else 0#32 := by
  unfold code Scalar.select Ideal.cmp
  rw [ofBits_half, ofBits_zero]
  generalize max w (-w) = a
  generalize ((1 / 2 : ℝ) : EReal) * s = b
  by_cases h1 : b < a <;> by_cases h2 : w < 0 <;> simp [h1, h2]

/-- A code is one of three words. -/
theorem code_cases (w s : EReal) : code w s = 4294967295#32 ∨ code w s = 0#32 ∨ code w s = 1#32 := by
  rw [code_eq]; split
  · split
    · exact .inl rfl
    · exact .inr (.inr rfl)
  · exact .inr (.inl rfl)

/-- Rounding to nearest even leaves zero exactly within a half. -/
theorem round_cases (r : ℝ) :
    (1 / 2 < r → 1 ≤ Ideal.roundHalfEven r) ∧ (r < -(1 / 2) → Ideal.roundHalfEven r ≤ -1)
      ∧ (-(1 / 2) ≤ r → r ≤ 1 / 2 → Ideal.roundHalfEven r = 0) := by
  have h1 := Int.floor_le r
  have h2 := Int.lt_floor_add_one r
  unfold Ideal.roundHalfEven
  dsimp only
  generalize hf : ⌊r⌋ = f at *
  refine ⟨fun h => ?_, fun h => ?_, fun h h' => ?_⟩
  · have f0 : 0 ≤ f := by
      have : (-1 : ℝ) < f := by linarith
      have : (-1 : ℤ) < f := by exact_mod_cast this
      omega
    rcases Int.lt_or_le 0 f with f1 | f1
    · split
      · omega
      · split
        · omega
        · split <;> omega
    · obtain rfl : f = 0 := by omega
      rw [if_neg (by push_cast; linarith), if_pos (by push_cast; linarith)]; rfl
  · have f0 : f ≤ -1 := by
      have : (f : ℝ) < 0 := by linarith
      have : f < (0 : ℤ) := by exact_mod_cast this
      omega
    rcases Int.lt_or_le f (-1) with f1 | f1
    · split
      · omega
      · split
        · omega
        · split <;> omega
    · obtain rfl : f = -1 := by omega
      rw [if_pos (by push_cast; linarith)]
  · have f0 : f ≤ 0 := by
      have : (f : ℝ) < 1 := by linarith
      have : f < (1 : ℤ) := by exact_mod_cast this
      omega
    have f1 : -1 ≤ f := by
      have : (-2 : ℝ) < f := by linarith
      have : (-2 : ℤ) < f := by exact_mod_cast this
      omega
    rcases (by omega : f = 0 ∨ f = -1) with rfl | rfl
    · push_cast at *
      by_cases hr : r - 0 < 1 / 2
      · rw [if_pos hr]
      · rw [if_neg hr, if_neg (by linarith), if_pos (by decide)]
    · push_cast at *
      rw [if_neg (by linarith)]
      by_cases hr : 1 / 2 < r - -1
      · rw [if_pos hr]
      · rw [if_neg hr, if_neg (by decide)]

/-- An integer held within ±1, converted back to a word. -/
theorem clamp_word (n : ℤ) :
    Ideal.fptosi 32 (min (max ((n : ℝ) : EReal) ((-1 : ℝ) : EReal)) ((1 : ℝ) : EReal)) = BitVec.ofInt 32 (min (max n (-1)) 1) := by
  have e : (min (max ((n : ℝ) : EReal) ((-1 : ℝ) : EReal)) ((1 : ℝ) : EReal)) = (((min (max n (-1)) 1 : ℤ) : ℝ) : EReal) := by
    rw [Int.cast_min, Int.cast_max, EReal.coe_strictMono.monotone.map_min, EReal.coe_strictMono.monotone.map_max, Int.cast_neg, Int.cast_one]
  have lo : -1 ≤ min (max n (-1)) 1 := by omega
  have hi : min (max n (-1)) 1 ≤ 1 := by omega
  rw [e]
  generalize min (max n (-1)) 1 = k at lo hi
  unfold Ideal.fptosi
  rw [Ideal.toIntClamped_coe, Int.floor_intCast, Int.ceil_intCast, ite_self]
  refine congrArg _ ?_
  norm_num
  omega

/-- The two codes agree for every weight at a positive scale. -/
theorem rounded_eq (w s : EReal) (hs : 0 < s) : rounded w s = code w s := by
  rw [code_eq]
  unfold rounded
  rw [ofBits_one, ofBits_neg_one]
  have hz : Ideal.div w s = w * s⁻¹ := by unfold Ideal.div; rw [if_neg hs.ne']
  rw [hz]
  induction s with
  | bot => exact absurd hs (by simp)
  | top =>
    have e : ((1 / 2 : ℝ) : EReal) * ⊤ = ⊤ := EReal.coe_mul_top_of_pos (by norm_num)
    rw [e, if_neg (by simp), EReal.inv_top, mul_zero]
    have h0 := (round_cases 0).2.2 (by norm_num) (by norm_num)
    show Ideal.fptosi 32 (min (max (Ideal.liftRound Ideal.roundHalfEven ((0 : ℝ) : EReal)) _) _) = _
    rw [Ideal.liftRound_coe, h0, clamp_word]; rfl
  | coe q =>
    have hq : 0 < q := by exact_mod_cast hs
    rw [← EReal.coe_inv, ← EReal.coe_mul]
    have hi : 0 < q⁻¹ := inv_pos.mpr hq
    induction w with
    | bot =>
      rw [EReal.bot_mul_coe_of_pos hi, Ideal.liftRound_bot, if_pos (by exact lt_of_lt_of_le (EReal.coe_lt_top _) (by simp)), if_pos (by simp)]
      have e : min (max (⊥ : EReal) ((-1 : ℝ) : EReal)) ((1 : ℝ) : EReal) = min (max (((-1 : ℤ) : ℝ) : EReal) ((-1 : ℝ) : EReal)) ((1 : ℝ) : EReal) := by
        rw [max_eq_right bot_le, max_eq_right (by push_cast; exact le_rfl)]
      rw [e, clamp_word]; rfl
    | top =>
      rw [EReal.top_mul_coe_of_pos hi, Ideal.liftRound_top, if_pos (by exact lt_of_lt_of_le (EReal.coe_lt_top _) (by simp)), if_neg (by simp)]
      have e : min (max (⊤ : EReal) ((-1 : ℝ) : EReal)) ((1 : ℝ) : EReal) = min (max (((1 : ℤ) : ℝ) : EReal) ((-1 : ℝ) : EReal)) ((1 : ℝ) : EReal) := by
        rw [max_eq_left le_top, min_eq_right le_top, min_eq_right]
        push_cast
        exact le_max_left _ _
      rw [e, clamp_word]; rfl
    | coe x =>
      rw [← EReal.coe_mul, Ideal.liftRound_coe, clamp_word]
      obtain ⟨c1, c2, c3⟩ := round_cases (x * q⁻¹)
      have hx : x = x * q⁻¹ * q := by field_simp
      generalize x * q⁻¹ = r at *
      generalize Ideal.roundHalfEven r = n at *
      have hm : (((1 / 2 * q : ℝ) : EReal) < max (x : EReal) (-(x : EReal))) ↔ (1 / 2 < r ∨ r < -(1 / 2)) := by
        rw [← EReal.coe_neg, lt_max_iff, EReal.coe_lt_coe_iff, EReal.coe_lt_coe_iff, hx]
        constructor
        · rintro (h | h)
          · exact .inl (lt_of_mul_lt_mul_right h hq.le)
          · right
            have : 1 / 2 * q < (-r) * q := by linarith
            have := lt_of_mul_lt_mul_right this hq.le
            linarith
        · rintro (h | h)
          · exact .inl (mul_lt_mul_of_pos_right h hq)
          · right
            have := mul_lt_mul_of_pos_right (show 1 / 2 < -r by linarith) hq
            linarith
      have hneg : ((x : EReal) < 0) ↔ r < 0 := by
        rw [show (0 : EReal) = ((0 : ℝ) : EReal) from rfl, EReal.coe_lt_coe_iff, hx]
        constructor
        · intro h; by_contra h'; rw [not_lt] at h'; have := mul_nonneg h' hq.le; linarith
        · intro h; exact mul_neg_of_neg_of_pos h hq
      by_cases h1 : 1 / 2 < r
      · have := c1 h1
        rw [if_pos (hm.mpr (.inl h1)), if_neg (fun h => by have := hneg.mp h; linarith), show min (max n (-1)) 1 = 1 by omega]; rfl
      · by_cases h2 : r < -(1 / 2)
        · have := c2 h2
          rw [if_pos (hm.mpr (.inr h2)), if_pos (hneg.mpr (by linarith)), show min (max n (-1)) 1 = -1 by omega]; rfl
        · have := c3 (by linarith) (by linarith)
          rw [if_neg (fun h => by rcases hm.mp h with h | h <;> contradiction), this]; rfl

/-! ## Four codes in a byte -/

/-- Four codes, each increased by one, in the four two-bit fields of a byte. -/
def packed (a b c d : BitVec 32) : BitVec 8 :=
  (IntOp.ori (IntOp.ori (IntOp.ori (IntOp.addi a 1#32) (IntOp.shli .host (IntOp.addi b 1#32) 2#32))
    (IntOp.shli .host (IntOp.addi c 1#32) 4#32)) (IntOp.shli .host (IntOp.addi d 1#32) 6#32)).setWidth 8

/-- The kernel's packing of one word of four bytes: the word joined with itself shifted by 6, 12 and 18, its low byte kept. -/
def squeeze (b : BitVec 32) : BitVec 8 :=
  (IntOp.andi (IntOp.ori (IntOp.ori (IntOp.ori b (IntOp.shrsi .vector b 6#32)) (IntOp.shrsi .vector b 12#32)) (IntOp.shrsi .vector b 18#32))
    255#32).setWidth 8

/-- Over the three words a code can be, the two packings agree. -/
theorem squeeze_words : ∀ p q r t : Fin 3,
    let f : Fin 3 → BitVec 32 := fun x => ![4294967295#32, 0#32, 1#32] x
    let g : Fin 3 → BitVec 8 := fun x => (IntOp.addi (f x) 1#32).setWidth 8
    squeeze ((g p).setWidth 32 ||| ((g q).setWidth 32 <<< 8) ||| ((g r).setWidth 32 <<< 16) ||| ((g t).setWidth 32 <<< 24))
      = packed (f p) (f q) (f r) (f t) := by decide

/-- A word whose four bytes are four codes increased by one packs to those codes. -/
theorem squeeze_eq (b : BitVec 32) (f : Fin 4 → BitVec 32)
    (hf : ∀ k, f k = 4294967295#32 ∨ f k = 0#32 ∨ f k = 1#32)
    (hb : ∀ (q : Nat) (hq : q < 32), b.getLsbD q = ((IntOp.addi (f ⟨q / 8, by omega⟩) 1#32).setWidth 8).getLsbD (q % 8)) :
    squeeze b = packed (f 0) (f 1) (f 2) (f 3) := by
  have e : b = ((IntOp.addi (f 0) 1#32).setWidth 8).setWidth 32 ||| (((IntOp.addi (f 1) 1#32).setWidth 8).setWidth 32 <<< 8)
      ||| (((IntOp.addi (f 2) 1#32).setWidth 8).setWidth 32 <<< 16) ||| (((IntOp.addi (f 3) 1#32).setWidth 8).setWidth 32 <<< 24) :=
    BitVec.eq_of_getLsbD_eq fun q hq => (hb q hq).trans
      (four_bytes_getLsbD (fun k => (IntOp.addi (f k) 1#32).setWidth 8) q hq).symm
  have hw : ∀ k, ∃ p : Fin 3, f k = ![4294967295#32, 0#32, 1#32] p := fun k => by
    rcases hf k with h | h | h
    · exact ⟨0, h⟩
    · exact ⟨1, h⟩
    · exact ⟨2, h⟩
  obtain ⟨p, hp⟩ := hw 0
  obtain ⟨q, hq⟩ := hw 1
  obtain ⟨r, hr⟩ := hw 2
  obtain ⟨t, ht⟩ := hw 3
  rw [e, hp, hq, hr, ht]
  exact squeeze_words p q r t

/-- The kernel's packing of a block of codes: row `a` of the packed block holds rows `4a` to `4a + 3`. -/
theorem pack_rows {R r n : Nat} (v : (⟨2, ![R, n]⟩ : Shape).Idx → BitVec 32)
    (h : (⟨2, ![R, n]⟩ : Shape).Bitcasts 8 ⟨2, ![r, n]⟩ 32) (hv : ∀ j, v j = 4294967295#32 ∨ v j = 0#32 ∨ v j = 1#32)
    (a : Fin r) (l : Fin n) (hR : 4 * r = R) :
    squeeze (bitcast ⟨2, ![r, n]⟩ 32 (fun j => (IntOp.addi (v j) 1#32).setWidth 8) h (ix2 a l))
      = packed (v (ix2 ⟨4 * a.val, by omega⟩ l)) (v (ix2 ⟨4 * a.val + 1, by omega⟩ l)) (v (ix2 ⟨4 * a.val + 2, by omega⟩ l))
          (v (ix2 ⟨4 * a.val + 3, by omega⟩ l)) := by
  refine squeeze_eq _ (fun k => v (ix2 ⟨4 * a.val + k.val, by omega⟩ l)) (fun k => hv _) fun q hq => ?_
  rw [bitcast_8_32_getLsbD_ix2 _ h a l q hq ⟨4 * a.val + q / 8, by omega⟩ rfl]

end Cert.WeightCodes

end
-- ==== Proof.Wquant.Value.lean ====
/- The six arrays the weight quantiser leaves, element by element: at each of its 16 grid points it takes a band of rows of
   each weight, and a code depends on its own weight and the weight's scale alone; a packed row joins four rows of a band. -/
module

public import proofs.«01_k».proof.Proof.Wquant.Codes
public import proofs.«01_k».proof.Proof.Gen.WquantIdeal.Value
public import Idealize.ShloMosaic.Lib.Pipeline.Value
public import Idealize.ShloMosaic.Lib.Pipeline.ValueKit.Tiles
public import Idealize.ShloMosaic.Lib.Tactic

@[expose] public section

set_option maxRecDepth 16384

noncomputable section

namespace Cert.WeightCodes

open Idealize.ShloMosaic Idealize.ShloMosaic.ValueIdx Cert.Common

/-- The 8-bit code of the weight at row `a`, column `l`. -/
def byteAt {R n : Nat} [NeZero R] [NeZero n] (w : (⟨2, ![R, n]⟩ : Shape).Idx → EReal) (s : EReal) (a l : Nat) : BitVec 8 :=
  (code (at2 w a l) s).setWidth 8

/-- The packed codes of the weights at rows `4a` to `4a + 3`, column `l`. -/
def packedAt {R n : Nat} [NeZero R] [NeZero n] (w : (⟨2, ![R, n]⟩ : Shape).Idx → EReal) (s : EReal) (a l : Nat) : BitVec 8 :=
  packed (code (at2 w (4 * a) l) s) (code (at2 w (4 * a + 1) l) s) (code (at2 w (4 * a + 2) l) s) (code (at2 w (4 * a + 3) l) s)

end Cert.WeightCodes

namespace Cert.WquantIdeal.Results

open Idealize.ShloMosaic Idealize.ShloMosaic.TcCoe Idealize.SL.Sem Idealize.ShloMosaic.ValueIdx
open Cert.WquantIdeal Cert.WquantIdeal.Gen Cert.WquantIdeal.Value Cert.Common Cert.WeightCodes

theorem hz : (![0, 0] : Fin 2 → Nat) = fun _ => 0 := funext fun a => by fin_cases a <;> rfl

/-- A scalar's load reads its only element. -/
theorem ld_scalar (X : Vec Ideal S1x1 .f32) (r : Rect S1x1) (x : r.shape.Idx) : View.ld X r x = X (ix2 0 0) := by
  rw [View.ld_apply]
  refine congrArg X (funext fun a => Fin.ext ?_)
  match a with
  | ⟨0, _⟩ => have h : (r.idx x 0).val < 1 := (r.idx x 0).isLt
              show (r.idx x 0).val = 0; omega
  | ⟨1, _⟩ => have h : (r.idx x 1).val < 1 := (r.idx x 1).isLt
              show (r.idx x 1).val = 0; omega

/-! ## The body's stores -/

section Body
variable (c : Dev nD) (i : grid0.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S128x5632 .bf16) (harg4 : arg4.IsWhole) (arg5 : Memref sig .tc .vmem S128x5632 .bf16) (harg5 : arg5.IsWhole) (arg6 : Memref sig .tc .vmem S352x2048 .bf16) (harg6 : arg6.IsWhole) (arg7 : Memref sig .tc .vmem S128x5632 .i8) (harg7 : arg7.IsWhole) (arg8 : Memref sig .tc .vmem S128x5632 .i8) (harg8 : arg8.IsWhole) (arg9 : Memref sig .tc .vmem S352x2048 .i8) (harg9 : arg9.IsWhole) (arg10 : Memref sig .tc .vmem S32x5632 .i8) (harg10 : arg10.IsWhole) (arg11 : Memref sig .tc .vmem S32x5632 .i8) (harg11 : arg11.IsWhole) (arg12 : Memref sig .tc .vmem S88x2048 .i8) (harg12 : arg12.IsWhole)
variable (x0 : Vec Ideal S1x1 .f32) (x1 : Vec Ideal S1x1 .f32) (x2 : Vec Ideal S1x1 .f32) (x3 : Vec Ideal S128x5632 .bf16) (x4 : Vec Ideal S128x5632 .bf16) (x5 : Vec Ideal S352x2048 .bf16)

/-- A point stores the gate weight's codes. -/
theorem out_A_6 : out0_A_6 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 = k0_pay5 x3 (x0 (ix2 0 0)) := by
  unfold out0_A_6
  rw [View.read_writes_junk_eq_canon]
  unfold kernelRun0_A
  dsimp only
  sl_unfold_words
  rw [View.canon_unit_zero hz]
  simp only [View.readAt_eq_ld, harg1.read_unread, harg2.read_unread, harg3.read_unread, harg4.read_unread, harg5.read_unread, harg6.read_unread, View.ld_unit_zero (S := S128x5632) hz, View.ld_unit_zero (S := S352x2048) hz]
  exact congrArg (fun s => k0_pay5 x3 s) (ld_scalar x0 _ _)

/-- A point stores the up weight's codes. -/
theorem out_A_7 : out0_A_7 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 = k0_pay8 x4 (x1 (ix2 0 0)) := by
  unfold out0_A_7
  rw [View.read_writes_junk_eq_canon]
  unfold kernelRun0_A
  dsimp only
  sl_unfold_words
  rw [View.canon_unit_zero hz]
  simp only [View.readAt_eq_ld, harg1.read_unread, harg2.read_unread, harg3.read_unread, harg4.read_unread, harg5.read_unread, harg6.read_unread, View.ld_unit_zero (S := S128x5632) hz, View.ld_unit_zero (S := S352x2048) hz]
  exact congrArg (fun s => k0_pay8 x4 s) (ld_scalar x1 _ _)

/-- A point stores the down weight's codes. -/
theorem out_A_8 : out0_A_8 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 = k0_pay2 (k0_pay10 (x2 (ix2 0 0))) (k0_pay11 x5) (k0_pay12 x5) 4294967295#32 := by
  unfold out0_A_8
  rw [View.read_writes_junk_eq_canon]
  unfold kernelRun0_A
  dsimp only
  sl_unfold_words
  rw [View.canon_unit_zero hz]
  simp only [View.readAt_eq_ld, harg1.read_unread, harg2.read_unread, harg3.read_unread, harg4.read_unread, harg5.read_unread, harg6.read_unread, View.ld_unit_zero (S := S128x5632) hz, View.ld_unit_zero (S := S352x2048) hz]
  exact congrArg (fun s => k0_pay2 (k0_pay10 s) (k0_pay11 x5) (k0_pay12 x5) 4294967295#32) (ld_scalar x2 _ _)

/-- A point stores the gate weight's packed codes. -/
theorem out_A_9 : out0_A_9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 = k0_pay6 x3 (x0 (ix2 0 0)) := by
  unfold out0_A_9
  rw [View.read_writes_junk_eq_canon]
  unfold kernelRun0_A
  dsimp only
  sl_unfold_words
  rw [View.canon_unit_zero hz]
  simp only [View.readAt_eq_ld, harg1.read_unread, harg2.read_unread, harg3.read_unread, harg4.read_unread, harg5.read_unread, harg6.read_unread, View.ld_unit_zero (S := S128x5632) hz, View.ld_unit_zero (S := S352x2048) hz]
  exact congrArg (fun s => k0_pay6 x3 s) (ld_scalar x0 _ _)

/-- A point stores the up weight's packed codes. -/
theorem out_A_10 : out0_A_10 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 = k0_pay9 x4 (x1 (ix2 0 0)) := by
  unfold out0_A_10
  rw [View.read_writes_junk_eq_canon]
  unfold kernelRun0_A
  dsimp only
  sl_unfold_words
  rw [View.canon_unit_zero hz]
  simp only [View.readAt_eq_ld, harg1.read_unread, harg2.read_unread, harg3.read_unread, harg4.read_unread, harg5.read_unread, harg6.read_unread, View.ld_unit_zero (S := S128x5632) hz, View.ld_unit_zero (S := S352x2048) hz]
  exact congrArg (fun s => k0_pay9 x4 s) (ld_scalar x1 _ _)

/-- A point stores the down weight's packed codes. -/
theorem out_A_11 : out0_A_11 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 = k0_pay3 (k0_pay10 (x2 (ix2 0 0))) (k0_pay11 x5) (k0_pay12 x5) 4294967295#32 := by
  unfold out0_A_11
  rw [View.read_writes_junk_eq_canon]
  unfold kernelRun0_A
  dsimp only
  sl_unfold_words
  rw [View.canon_unit_zero hz]
  simp only [View.readAt_eq_ld, harg1.read_unread, harg2.read_unread, harg3.read_unread, harg4.read_unread, harg5.read_unread, harg6.read_unread, View.ld_unit_zero (S := S128x5632) hz, View.ld_unit_zero (S := S352x2048) hz]
  exact congrArg (fun s => k0_pay3 (k0_pay10 s) (k0_pay11 x5) (k0_pay12 x5) 4294967295#32) (ld_scalar x2 _ _)

end Body

/-! ## A block's codes -/

section Block
variable {R n b : Nat} [NeZero R] [NeZero n] (W : (⟨2, ![R, n]⟩ : Shape).Idx → EReal) (o : Nat) (s : EReal)

/-- The gate and up blocks' codes, from where the block lies in its weight. -/
theorem codes_wide (x : Vec Ideal S128x5632 .bf16) (hx : ∀ y, x y = at2 W (o + (y 0).val) (y 1).val) (y : S128x5632.Idx) :
    k0_pay5 x s y = byteAt W s (o + (y 0).val) (y 1).val := by
  show (code (x y) s).setWidth 8 = _
  rw [hx]; rfl

/-- The down block's codes. -/
theorem codes_tall (x : Vec Ideal S352x2048 .bf16) (hx : ∀ y, x y = at2 W (o + (y 0).val) (y 1).val) (y : S352x2048.Idx) :
    k0_pay2 (k0_pay10 s) (k0_pay11 x) (k0_pay12 x) 4294967295#32 y = byteAt W s (o + (y 0).val) (y 1).val := by
  show (code (x y) s).setWidth 8 = _
  rw [hx]; rfl

/-- A block's four rows, packed, from where the block lies in its weight. -/
theorem packed_block {B q : Nat} (h : (⟨2, ![B, n]⟩ : Shape).Bitcasts 8 ⟨2, ![q, n]⟩ 32) (hB : 4 * q = B) (o' : Nat) (ho : 4 * o' = o)
    (x : (⟨2, ![B, n]⟩ : Shape).Idx → EReal) (hx : ∀ y, x y = at2 W (o + (y 0).val) (y 1).val) (y : (⟨2, ![q, n]⟩ : Shape).Idx) :
    squeeze (bitcast ⟨2, ![q, n]⟩ 32 (fun j => (IntOp.addi (code (x j) s) 1#32).setWidth 8) h y) = packedAt W s (o' + (y 0).val) (y 1).val := by
  have hy : y = ix2 (y 0) (y 1) := funext fun a => match a with | ⟨0, _⟩ => rfl | ⟨1, _⟩ => rfl
  have b0 : (y 0).val < q := (y 0).isLt
  rw [hy]
  refine (pack_rows (fun j => code (x j) s) h (fun j => code_cases _ _) (y 0) (y 1) hB).trans ?_
  have e : ∀ (k : Nat) (hk : k < B) (k' : Nat), o + k = k' → x (ix2 ⟨k, hk⟩ (y 1)) = at2 W k' (y 1).val :=
    fun k hk k' h => by rw [hx]; subst h; rfl
  unfold packedAt
  rw [e _ _ (4 * (o' + (y 0).val)) (by omega), e _ _ (4 * (o' + (y 0).val) + 1) (by omega), e _ _ (4 * (o' + (y 0).val) + 2) (by omega),
    e _ _ (4 * (o' + (y 0).val) + 3) (by omega)]
  rfl

end Block

/-! ## The blocks the kernel reads -/

variable (m : (ℓ : Loc nD τ sig) → Buf (Elt Ideal) ℓ)

abbrev A0 (c : Dev nD) : S1x1.Idx → EReal := m ((c : Thread nD τ).loc main_arg0)
abbrev A1 (c : Dev nD) : S1x1.Idx → EReal := m ((c : Thread nD τ).loc main_arg1)
abbrev A2 (c : Dev nD) : S1x1.Idx → EReal := m ((c : Thread nD τ).loc main_arg2)
abbrev A3 (c : Dev nD) : S2048x5632.Idx → EReal := m ((c : Thread nD τ).loc main_arg3)
abbrev A4 (c : Dev nD) : S2048x5632.Idx → EReal := m ((c : Thread nD τ).loc main_arg4)
abbrev A5 (c : Dev nD) : S5632x2048.Idx → EReal := m ((c : Thread nD τ).loc main_arg5)

/-- Where each block lies at a point. -/
theorem idx_win : ∀ t : Fin cfg0.N,
    (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-- The gate weight's scale. -/
theorem iblk0 (c : Dev nD) (t : Fin cfg0.N) (y : S1x1.Idx) : (iblk m c 0 t : Vec Ideal S1x1 .f32) y = A0 m c (ix2 0 0) := by
  unfold iblk
  rw [View.read_apply]
  show V m c main_arg0 _ = _
  rw [V_main_arg0]
  exact congrArg (A0 m c) (funext fun a => match a with
    | ⟨0, _⟩ => Subsingleton.elim (α := Fin 1) _ _
    | ⟨1, _⟩ => Subsingleton.elim (α := Fin 1) _ _)

/-- The up weight's scale. -/
theorem iblk1 (c : Dev nD) (t : Fin cfg0.N) (y : S1x1.Idx) : (iblk m c 1 t : Vec Ideal S1x1 .f32) y = A1 m c (ix2 0 0) := by
  unfold iblk
  rw [View.read_apply]
  show V m c main_arg1 _ = _
  rw [V_main_arg1]
  exact congrArg (A1 m c) (funext fun a => match a with
    | ⟨0, _⟩ => Subsingleton.elim (α := Fin 1) _ _
    | ⟨1, _⟩ => Subsingleton.elim (α := Fin 1) _ _)

/-- The down weight's scale. -/
theorem iblk2 (c : Dev nD) (t : Fin cfg0.N) (y : S1x1.Idx) : (iblk m c 2 t : Vec Ideal S1x1 .f32) y = A2 m c (ix2 0 0) := by
  unfold iblk
  rw [View.read_apply]
  show V m c main_arg2 _ = _
  rw [V_main_arg2]
  exact congrArg (A2 m c) (funext fun a => match a with
    | ⟨0, _⟩ => Subsingleton.elim (α := Fin 1) _ _
    | ⟨1, _⟩ => Subsingleton.elim (α := Fin 1) _ _)

/-- A point's band of the gate weight. -/
theorem iblk3 (c : Dev nD) (t : Fin cfg0.N) (y : S128x5632.Idx) : (iblk m c 3 t : Vec Ideal S128x5632 .bf16) y = at2 (A3 m c) (128 * t.val + (y 0).val) (y 1).val := by
  obtain ⟨⟨h, h'⟩, -⟩ := idx_win t
  unfold iblk
  rw [View.read_apply]
  show V m c main_arg3 _ = _
  rw [V_main_arg3]
  refine eq_at2 _ _ _ _ ?_ ?_
  · show win0_3.index t 0 * 128 + 1 * (y 0).val = _; rw [h]; omega
  · show win0_3.index t 1 * 5632 + 1 * (y 1).val = _; rw [h']; omega

/-- A point's band of the up weight. -/
theorem iblk4 (c : Dev nD) (t : Fin cfg0.N) (y : S128x5632.Idx) : (iblk m c 4 t : Vec Ideal S128x5632 .bf16) y = at2 (A4 m c) (128 * t.val + (y 0).val) (y 1).val := by
  obtain ⟨-, ⟨h, h'⟩, -⟩ := idx_win t
  unfold iblk
  rw [View.read_apply]
  show V m c main_arg4 _ = _
  rw [V_main_arg4]
  refine eq_at2 _ _ _ _ ?_ ?_
  · show win0_4.index t 0 * 128 + 1 * (y 0).val = _; rw [h]; omega
  · show win0_4.index t 1 * 5632 + 1 * (y 1).val = _; rw [h']; omega

/-- A point's band of the down weight. -/
theorem iblk5 (c : Dev nD) (t : Fin cfg0.N) (y : S352x2048.Idx) : (iblk m c 5 t : Vec Ideal S352x2048 .bf16) y = at2 (A5 m c) (352 * t.val + (y 0).val) (y 1).val := by
  obtain ⟨-, -, ⟨h, h'⟩, -⟩ := idx_win t
  unfold iblk
  rw [View.read_apply]
  show V m c main_arg5 _ = _
  rw [V_main_arg5]
  refine eq_at2 _ _ _ _ ?_ ?_
  · show win0_5.index t 0 * 352 + 1 * (y 0).val = _; rw [h]; omega
  · show win0_5.index t 1 * 2048 + 1 * (y 1).val = _; rw [h']; omega

/-! ## The six arrays -/

/-- What a point leaves of the gate weight's codes. -/
theorem stored6 (c : Dev nD) (t : Fin cfg0.N) (y : S128x5632.Idx) :
    (outsAt0 m c t).1 y = byteAt (A3 m c) (A0 m c (ix2 0 0)) (128 * t.val + (y 0).val) (y 1).val := by
  unfold outsAt0
  dsimp only
  rw [out_A_6, iblk0]
  exact codes_wide (A3 m c) (128 * t.val) (A0 m c (ix2 0 0)) (iblk m c 3 t) (iblk3 m c t) y

/-- The array of the gate weight's codes. -/
theorem arr6 (c : Dev nD) (i : S2048x5632.Idx) : (dats m 0 c).arrAt 6 cfg0.N i = byteAt (A3 m c) (A0 m c (ix2 0 0)) (i 0).val (i 1).val := by
  have b0 : (i 0).val < 2048 := (i 0).isLt
  let t : Fin cfg0.N := ⟨(i 0).val / 128, by rw [show cfg0.N = 16 from N_0]; omega⟩
  let y : S128x5632.Idx := ix2 ⟨(i 0).val % 128, Nat.mod_lt _ (by decide)⟩ (i 1)
  have ht : t.val = (i 0).val / 128 := rfl
  obtain ⟨-, -, -, ⟨h, h'⟩, -⟩ := idx_win t
  have e := congrFun (blocks6 m c t (flush0_6 t)) y
  rw [flushed6, View.read_apply] at e
  have hi : ((cfg0.win 6).blk t).view.emb y = i := funext fun a => Fin.ext (match a with
    | ⟨0, _⟩ => by show win0_6.index t 0 * 128 + 1 * ((i 0).val % 128) = (i 0).val; rw [h]; omega
    | ⟨1, _⟩ => by show win0_6.index t 1 * 5632 + 1 * (i 1).val = (i 1).val; rw [h']; omega)
  rw [hi] at e
  refine e.trans (Eq.trans (congrArg (outsAt0 m c t).1 (funext fun a => Fin.ext (match a with | ⟨0, _⟩ => rfl | ⟨1, _⟩ => rfl) : _ = y)) ?_)
  rw [stored6]
  show byteAt (A3 m c) (A0 m c (ix2 0 0)) (128 * t.val + (i 0).val % 128) (i 1).val = _
  congr 1; omega

/-- What a point leaves of the up weight's codes. -/
theorem stored7 (c : Dev nD) (t : Fin cfg0.N) (y : S128x5632.Idx) :
    (outsAt0 m c t).2.1 y = byteAt (A4 m c) (A1 m c (ix2 0 0)) (128 * t.val + (y 0).val) (y 1).val := by
  unfold outsAt0
  dsimp only
  rw [out_A_7, iblk1]
  exact codes_wide (A4 m c) (128 * t.val) (A1 m c (ix2 0 0)) (iblk m c 4 t) (iblk4 m c t) y

/-- The array of the up weight's codes. -/
theorem arr7 (c : Dev nD) (i : S2048x5632.Idx) : (dats m 0 c).arrAt 7 cfg0.N i = byteAt (A4 m c) (A1 m c (ix2 0 0)) (i 0).val (i 1).val := by
  have b0 : (i 0).val < 2048 := (i 0).isLt
  let t : Fin cfg0.N := ⟨(i 0).val / 128, by rw [show cfg0.N = 16 from N_0]; omega⟩
  let y : S128x5632.Idx := ix2 ⟨(i 0).val % 128, Nat.mod_lt _ (by decide)⟩ (i 1)
  have ht : t.val = (i 0).val / 128 := rfl
  obtain ⟨-, -, -, -, ⟨h, h'⟩, -⟩ := idx_win t
  have e := congrFun (blocks7 m c t (flush0_7 t)) y
  rw [flushed7, View.read_apply] at e
  have hi : ((cfg0.win 7).blk t).view.emb y = i := funext fun a => Fin.ext (match a with
    | ⟨0, _⟩ => by show win0_7.index t 0 * 128 + 1 * ((i 0).val % 128) = (i 0).val; rw [h]; omega
    | ⟨1, _⟩ => by show win0_7.index t 1 * 5632 + 1 * (i 1).val = (i 1).val; rw [h']; omega)
  rw [hi] at e
  refine e.trans (Eq.trans (congrArg (outsAt0 m c t).2.1 (funext fun a => Fin.ext (match a with | ⟨0, _⟩ => rfl | ⟨1, _⟩ => rfl) : _ = y)) ?_)
  rw [stored7]
  show byteAt (A4 m c) (A1 m c (ix2 0 0)) (128 * t.val + (i 0).val % 128) (i 1).val = _
  congr 1; omega

/-- What a point leaves of the down weight's codes. -/
theorem stored8 (c : Dev nD) (t : Fin cfg0.N) (y : S352x2048.Idx) :
    (outsAt0 m c t).2.2.1 y = byteAt (A5 m c) (A2 m c (ix2 0 0)) (352 * t.val + (y 0).val) (y 1).val := by
  unfold outsAt0
  dsimp only
  rw [out_A_8, iblk2]
  exact codes_tall (A5 m c) (352 * t.val) (A2 m c (ix2 0 0)) (iblk m c 5 t) (iblk5 m c t) y

/-- The array of the down weight's codes. -/
theorem arr8 (c : Dev nD) (i : S5632x2048.Idx) : (dats m 0 c).arrAt 8 cfg0.N i = byteAt (A5 m c) (A2 m c (ix2 0 0)) (i 0).val (i 1).val := by
  have b0 : (i 0).val < 5632 := (i 0).isLt
  let t : Fin cfg0.N := ⟨(i 0).val / 352, by rw [show cfg0.N = 16 from N_0]; omega⟩
  let y : S352x2048.Idx := ix2 ⟨(i 0).val % 352, Nat.mod_lt _ (by decide)⟩ (i 1)
  have ht : t.val = (i 0).val / 352 := rfl
  obtain ⟨-, -, -, -, -, ⟨h, h'⟩, -⟩ := idx_win t
  have e := congrFun (blocks8 m c t (flush0_8 t)) y
  rw [flushed8, View.read_apply] at e
  have hi : ((cfg0.win 8).blk t).view.emb y = i := funext fun a => Fin.ext (match a with
    | ⟨0, _⟩ => by show win0_8.index t 0 * 352 + 1 * ((i 0).val % 352) = (i 0).val; rw [h]; omega
    | ⟨1, _⟩ => by show win0_8.index t 1 * 2048 + 1 * (i 1).val = (i 1).val; rw [h']; omega)
  rw [hi] at e
  refine e.trans (Eq.trans (congrArg (outsAt0 m c t).2.2.1 (funext fun a => Fin.ext (match a with | ⟨0, _⟩ => rfl | ⟨1, _⟩ => rfl) : _ = y)) ?_)
  rw [stored8]
  show byteAt (A5 m c) (A2 m c (ix2 0 0)) (352 * t.val + (i 0).val % 352) (i 1).val = _
  congr 1; omega

/-- What a point leaves of the gate weight's packed codes. -/
theorem stored9 (c : Dev nD) (t : Fin cfg0.N) (y : S32x5632.Idx) :
    (outsAt0 m c t).2.2.2.1 y = packedAt (A3 m c) (A0 m c (ix2 0 0)) (32 * t.val + (y 0).val) (y 1).val := by
  unfold outsAt0
  dsimp only
  rw [out_A_9, iblk0]
  exact packed_block (A3 m c) (128 * t.val) (A0 m c (ix2 0 0)) bitcasts_S128x5632_w8_S32x5632_w32 (by decide) (32 * t.val) (by omega) (iblk m c 3 t) (iblk3 m c t) y

/-- The array of the gate weight's packed codes. -/
theorem arr9 (c : Dev nD) (i : S512x5632.Idx) : (dats m 0 c).arrAt 9 cfg0.N i = packedAt (A3 m c) (A0 m c (ix2 0 0)) (i 0).val (i 1).val := by
  have b0 : (i 0).val < 512 := (i 0).isLt
  let t : Fin cfg0.N := ⟨(i 0).val / 32, by rw [show cfg0.N = 16 from N_0]; omega⟩
  let y : S32x5632.Idx := ix2 ⟨(i 0).val % 32, Nat.mod_lt _ (by decide)⟩ (i 1)
  have ht : t.val = (i 0).val / 32 := rfl
  obtain ⟨-, -, -, -, -, -, ⟨h, h'⟩, -⟩ := idx_win t
  have e := congrFun (blocks9 m c t (flush0_9 t)) y
  rw [flushed9, View.read_apply] at e
  have hi : ((cfg0.win 9).blk t).view.emb y = i := funext fun a => Fin.ext (match a with
    | ⟨0, _⟩ => by show win0_9.index t 0 * 32 + 1 * ((i 0).val % 32) = (i 0).val; rw [h]; omega
    | ⟨1, _⟩ => by show win0_9.index t 1 * 5632 + 1 * (i 1).val = (i 1).val; rw [h']; omega)
  rw [hi] at e
  refine e.trans (Eq.trans (congrArg (outsAt0 m c t).2.2.2.1 (funext fun a => Fin.ext (match a with | ⟨0, _⟩ => rfl | ⟨1, _⟩ => rfl) : _ = y)) ?_)
  rw [stored9]
  show packedAt (A3 m c) (A0 m c (ix2 0 0)) (32 * t.val + (i 0).val % 32) (i 1).val = _
  congr 1; omega

/-- What a point leaves of the up weight's packed codes. -/
theorem stored10 (c : Dev nD) (t : Fin cfg0.N) (y : S32x5632.Idx) :
    (outsAt0 m c t).2.2.2.2.1 y = packedAt (A4 m c) (A1 m c (ix2 0 0)) (32 * t.val + (y 0).val) (y 1).val := by
  unfold outsAt0
  dsimp only
  rw [out_A_10, iblk1]
  exact packed_block (A4 m c) (128 * t.val) (A1 m c (ix2 0 0)) bitcasts_S128x5632_w8_S32x5632_w32 (by decide) (32 * t.val) (by omega) (iblk m c 4 t) (iblk4 m c t) y

/-- The array of the up weight's packed codes. -/
theorem arr10 (c : Dev nD) (i : S512x5632.Idx) : (dats m 0 c).arrAt 10 cfg0.N i = packedAt (A4 m c) (A1 m c (ix2 0 0)) (i 0).val (i 1).val := by
  have b0 : (i 0).val < 512 := (i 0).isLt
  let t : Fin cfg0.N := ⟨(i 0).val / 32, by rw [show cfg0.N = 16 from N_0]; omega⟩
  let y : S32x5632.Idx := ix2 ⟨(i 0).val % 32, Nat.mod_lt _ (by decide)⟩ (i 1)
  have ht : t.val = (i 0).val / 32 := rfl
  obtain ⟨-, -, -, -, -, -, -, ⟨h, h'⟩, -⟩ := idx_win t
  have e := congrFun (blocks10 m c t (flush0_10 t)) y
  rw [flushed10, View.read_apply] at e
  have hi : ((cfg0.win 10).blk t).view.emb y = i := funext fun a => Fin.ext (match a with
    | ⟨0, _⟩ => by show win0_10.index t 0 * 32 + 1 * ((i 0).val % 32) = (i 0).val; rw [h]; omega
    | ⟨1, _⟩ => by show win0_10.index t 1 * 5632 + 1 * (i 1).val = (i 1).val; rw [h']; omega)
  rw [hi] at e
  refine e.trans (Eq.trans (congrArg (outsAt0 m c t).2.2.2.2.1 (funext fun a => Fin.ext (match a with | ⟨0, _⟩ => rfl | ⟨1, _⟩ => rfl) : _ = y)) ?_)
  rw [stored10]
  show packedAt (A4 m c) (A1 m c (ix2 0 0)) (32 * t.val + (i 0).val % 32) (i 1).val = _
  congr 1; omega

/-- What a point leaves of the down weight's packed codes. -/
theorem stored11 (c : Dev nD) (t : Fin cfg0.N) (y : S88x2048.Idx) :
    (outsAt0 m c t).2.2.2.2.2 y = packedAt (A5 m c) (A2 m c (ix2 0 0)) (88 * t.val + (y 0).val) (y 1).val := by
  unfold outsAt0
  dsimp only
  rw [out_A_11, iblk2]
  exact packed_block (A5 m c) (352 * t.val) (A2 m c (ix2 0 0)) bitcasts_S352x2048_w8_S88x2048_w32 (by decide) (88 * t.val) (by omega) (iblk m c 5 t) (iblk5 m c t) y

/-- The array of the down weight's packed codes. -/
theorem arr11 (c : Dev nD) (i : S1408x2048.Idx) : (dats m 0 c).arrAt 11 cfg0.N i = packedAt (A5 m c) (A2 m c (ix2 0 0)) (i 0).val (i 1).val := by
  have b0 : (i 0).val < 1408 := (i 0).isLt
  let t : Fin cfg0.N := ⟨(i 0).val / 88, by rw [show cfg0.N = 16 from N_0]; omega⟩
  let y : S88x2048.Idx := ix2 ⟨(i 0).val % 88, Nat.mod_lt _ (by decide)⟩ (i 1)
  have ht : t.val = (i 0).val / 88 := rfl
  obtain ⟨-, -, -, -, -, -, -, -, ⟨h, h'⟩⟩ := idx_win t
  have e := congrFun (blocks11 m c t (flush0_11 t)) y
  rw [flushed11, View.read_apply] at e
  have hi : ((cfg0.win 11).blk t).view.emb y = i := funext fun a => Fin.ext (match a with
    | ⟨0, _⟩ => by show win0_11.index t 0 * 88 + 1 * ((i 0).val % 88) = (i 0).val; rw [h]; omega
    | ⟨1, _⟩ => by show win0_11.index t 1 * 2048 + 1 * (i 1).val = (i 1).val; rw [h']; omega)
  rw [hi] at e
  refine e.trans (Eq.trans (congrArg (outsAt0 m c t).2.2.2.2.2 (funext fun a => Fin.ext (match a with | ⟨0, _⟩ => rfl | ⟨1, _⟩ => rfl) : _ = y)) ?_)
  rw [stored11]
  show packedAt (A5 m c) (A2 m c (ix2 0 0)) (88 * t.val + (i 0).val % 88) (i 1).val = _
  congr 1; omega

end Cert.WquantIdeal.Results

end
-- ==== Proof.Wquant.Claims.lean ====
/- The claims about the weight quantiser `Wquant`, its idealization and the host reference. -/
module

public import proofs.«01_k».proof.Defs
public import proofs.«01_k».proof.Proof.Wquant.Value
public import proofs.«01_k».proof.Proof.Gen.WquantRefIdeal.Read
public import proofs.«01_k».proof.Proof.Gen.WquantRefIdeal.Run
public import proofs.«01_k».proof.Proof.Gen.Wquant.Frame
public import Idealize.ShloMosaic.Lib.Quiescent

@[expose] public section

set_option maxRecDepth 16384

noncomputable section

namespace Cert.WquantRefIdeal.Results

open Idealize.ShloMosaic Idealize.ShloMosaic.TcCoe Idealize.SL.Sem Idealize.ShloMosaic.ValueIdx
open Cert.WquantRefIdeal Cert.WquantRefIdeal.Gen Cert.WquantRefIdeal.Read Cert.Common Cert.WeightCodes

/-- A scale reshaped to a scalar. -/
theorem scalar_apply (x : (⟨S1x1, .f32⟩ : BufTy).Contents (Elt Ideal)) (i : S_.Idx) : val_main_v1 (F := Ideal) x i = x (ix2 0 0) :=
  congrArg x (funext fun a => match a with
    | ⟨0, _⟩ => Subsingleton.elim (α := Fin 1) _ _
    | ⟨1, _⟩ => Subsingleton.elim (α := Fin 1) _ _)

/-! ## The gate weight; the up weight is treated by the same terms -/

section
variable (s : (⟨S1x1, .f32⟩ : BufTy).Contents (Elt Ideal)) (w : (⟨S2048x5632, .bf16⟩ : BufTy).Contents (Elt Ideal)) (hs : (0 : EReal) < s (ix2 0 0))

include hs in
/-- The codes, as 32-bit integers. -/
theorem code_wide (i : S2048x5632.Idx) : val_main_v9 (F := Ideal) s w i = code (w i) (s (ix2 0 0)) := by
  rw [val_main_v9_apply, val_main_v8_apply, val_main_v6_apply, val_main_v4_apply, val_main_v3_apply, val_main_v0_apply, val_main_v2_apply, val_main_v5_apply, val_main_cst_apply, val_main_v7_apply, val_main_cst_0_apply, scalar_apply]
  exact rounded_eq _ _ hs

include hs in
/-- The codes. -/
theorem byte_wide (i : S2048x5632.Idx) : val_main_v30 (F := Ideal) s w i = byteAt w (s (ix2 0 0)) (i 0).val (i 1).val := by
  rw [val_main_v30_apply, code_wide s w hs, eq_at2 w i (i 0).val (i 1).val rfl rfl]
  rfl

include hs in
/-- The codes plus one, grouped by four rows. -/
theorem rows_wide (j : S512x4x5632.Idx) (a k l : Nat) (h0 : (j 0).val = a) (h1 : (j 1).val = k) (h2 : (j 2).val = l) :
    val_main_v35 (F := Ideal) s w j = IntOp.addi (code (at2 w (4 * a + k) l) (s (ix2 0 0))) 1#32 := by
  have b2 : (j 2).val < 5632 := (j 2).isLt
  rw [val_main_v35_apply, val_main_v34_apply, val_main_v33_apply, val_main_c_apply, code_wide s w hs,
    eq_at2 w _ (4 * a + k) l (by show (((j 0).val * 4 + (j 1).val) * 5632 + (j 2).val) / 5632 = _; omega)
      (by show (((j 0).val * 4 + (j 1).val) * 5632 + (j 2).val) % 5632 = _; omega)]

include hs in
/-- The packed codes. -/
theorem packed_wide (i : S512x5632.Idx) : val_main_v53 (F := Ideal) s w i = packedAt w (s (ix2 0 0)) (i 0).val (i 1).val := by
  have b1 : (i 1).val < 5632 := (i 1).isLt
  have e0 : ((i 0).val * 5632 + (i 1).val) / 5632 = (i 0).val := by omega
  have e1 : ((i 0).val * 5632 + (i 1).val) % 5632 = (i 1).val := by omega
  rw [val_main_v53_apply, val_main_v52_apply, val_main_v47_apply, val_main_v42_apply, val_main_v37_apply, val_main_v36_apply, val_main_v41_apply, val_main_v39_apply, val_main_v38_apply, val_main_v40_apply, val_main_c_5_apply, val_main_v46_apply, val_main_v44_apply, val_main_v43_apply, val_main_v45_apply, val_main_c_6_apply,
    val_main_v51_apply, val_main_v49_apply, val_main_v48_apply, val_main_v50_apply, val_main_c_7_apply,
    rows_wide s w hs _ (i 0).val 0 (i 1).val e0 rfl e1, rows_wide s w hs (idx_main_v38 (idx_main_v39 i)) (i 0).val 1 (i 1).val e0 rfl e1,
    rows_wide s w hs (idx_main_v43 (idx_main_v44 i)) (i 0).val 2 (i 1).val e0 rfl e1, rows_wide s w hs (idx_main_v48 (idx_main_v49 i)) (i 0).val 3 (i 1).val e0 rfl e1]
  rfl

end

/-! ## The down weight -/

section
variable (s : (⟨S1x1, .f32⟩ : BufTy).Contents (Elt Ideal)) (w : (⟨S5632x2048, .bf16⟩ : BufTy).Contents (Elt Ideal)) (hs : (0 : EReal) < s (ix2 0 0))

include hs in
/-- The codes, as 32-bit integers. -/
theorem code_tall (i : S5632x2048.Idx) : val_main_v29 (F := Ideal) s w i = code (w i) (s (ix2 0 0)) := by
  rw [val_main_v29_apply, val_main_v28_apply, val_main_v26_apply, val_main_v24_apply, val_main_v23_apply, val_main_v20_apply, val_main_v22_apply, val_main_v25_apply, val_main_cst_3_apply, val_main_v27_apply, val_main_cst_4_apply, show val_main_v21 (F := Ideal) s = val_main_v1 (F := Ideal) s from rfl, scalar_apply]
  exact rounded_eq _ _ hs

include hs in
/-- The codes. -/
theorem byte_tall (i : S5632x2048.Idx) : val_main_v32 (F := Ideal) s w i = byteAt w (s (ix2 0 0)) (i 0).val (i 1).val := by
  rw [val_main_v32_apply, code_tall s w hs, eq_at2 w i (i 0).val (i 1).val rfl rfl]
  rfl

include hs in
/-- The codes plus one, grouped by four rows. -/
theorem rows_tall (j : S1408x4x2048.Idx) (a k l : Nat) (h0 : (j 0).val = a) (h1 : (j 1).val = k) (h2 : (j 2).val = l) :
    val_main_v77 (F := Ideal) s w j = IntOp.addi (code (at2 w (4 * a + k) l) (s (ix2 0 0))) 1#32 := by
  have b2 : (j 2).val < 2048 := (j 2).isLt
  rw [val_main_v77_apply, val_main_v76_apply, val_main_v75_apply, val_main_c_12_apply, code_tall s w hs,
    eq_at2 w _ (4 * a + k) l (by show (((j 0).val * 4 + (j 1).val) * 2048 + (j 2).val) / 2048 = _; omega)
      (by show (((j 0).val * 4 + (j 1).val) * 2048 + (j 2).val) % 2048 = _; omega)]

include hs in
/-- The packed codes. -/
theorem packed_tall (i : S1408x2048.Idx) : val_main_v95 (F := Ideal) s w i = packedAt w (s (ix2 0 0)) (i 0).val (i 1).val := by
  have b1 : (i 1).val < 2048 := (i 1).isLt
  have e0 : ((i 0).val * 2048 + (i 1).val) / 2048 = (i 0).val := by omega
  have e1 : ((i 0).val * 2048 + (i 1).val) % 2048 = (i 1).val := by omega
  rw [val_main_v95_apply, val_main_v94_apply, val_main_v89_apply, val_main_v84_apply, val_main_v79_apply, val_main_v78_apply, val_main_v83_apply, val_main_v81_apply, val_main_v80_apply, val_main_v82_apply, val_main_c_13_apply, val_main_v88_apply, val_main_v86_apply, val_main_v85_apply, val_main_v87_apply, val_main_c_14_apply,
    val_main_v93_apply, val_main_v91_apply, val_main_v90_apply, val_main_v92_apply, val_main_c_15_apply,
    rows_tall s w hs _ (i 0).val 0 (i 1).val e0 rfl e1, rows_tall s w hs (idx_main_v80 (idx_main_v81 i)) (i 0).val 1 (i 1).val e0 rfl e1,
    rows_tall s w hs (idx_main_v85 (idx_main_v86 i)) (i 0).val 2 (i 1).val e0 rfl e1, rows_tall s w hs (idx_main_v90 (idx_main_v91 i)) (i 0).val 3 (i 1).val e0 rfl e1]
  rfl

end

end Cert.WquantRefIdeal.Results

namespace Cert.Proof.WquantClaims

open Idealize.ShloMosaic Idealize.ShloMosaic.TcCoe Idealize.SL.Sem Idealize.ShloMosaic.ValueIdx Cert.Common
open Cert.WquantRefIdeal.Read Cert.WquantRefIdeal.Results

/-- The side condition the precondition's function states. -/
instance facts : Cert.Pre_positive_scales.Facts := ⟨by decide⟩

/-- Every execution of the kernel ends, leaving its arguments as they were. -/
theorem frame : Cert.quiescent_Wquant := fun m ρ _ => Cert.Wquant.Gen.frame m ρ
/-- … and of its idealization. -/
theorem frame_i : Cert.quiescent_WquantIdeal := fun m ρ _ => Cert.WquantIdeal.Gen.frame m ρ
/-- … also from positive scales. -/
theorem frame_i_pos : Cert.quiescent_WquantIdeal_pre_positive_scales := fun m ρ _ => Cert.WquantIdeal.Gen.frame m ρ
/-- … and of the idealized reference. -/
theorem frame_ri : Cert.quiescent_WquantRefIdeal := fun m ρ _ =>
  (θ_run Cert.WquantRefIdeal.defs _ _).mono (fun r h => ⟨fun c => (h c).2.2.2.2.2.2, sem_eq_zero_of_no_sems (by decide) r.2⟩)
    (Cert.WquantRefIdeal.Value.run (F := Ideal) m ρ)
/-- … also from positive scales. -/
theorem frame_ri_pos : Cert.quiescent_WquantRefIdeal_pre_positive_scales := fun m ρ _ => frame_ri m ρ trivial

/-- The idealization changes nothing but the instance of the float operations. -/
theorem preserves : Cert.preserves_Wquant_WquantIdeal := trivial

/-- The precondition's words say that each of the three scales is positive. -/
theorem pos_of_fn (x0 x1 x2 : FVec Ideal ⟨2, ![1, 1]⟩ .f32) (x3 x4 x5) (h : Cert.Pre_positive_scales.fn (F := Ideal) x0 x1 x2 x3 x4 x5 = fun _ => 1#1) :
    (0 : EReal) < x0 (ix2 0 0) ∧ (0 : EReal) < x1 (ix2 0 0) ∧ (0 : EReal) < x2 (ix2 0 0) := by
  have e := congrFun h (ix2 0 0)
  have key : ∀ a b c : EReal, IntOp.andi (IntOp.andi (Ideal.cmp .ogt a 0) (Ideal.cmp .ogt b 0)) (Ideal.cmp .ogt c 0) = 1#1 → 0 < a ∧ 0 < b ∧ 0 < c := by
    intro a b c
    unfold Ideal.cmp
    by_cases ha : a > 0 <;> by_cases hb : b > 0 <;> by_cases hc : c > 0 <;> simp [ha, hb, hc, IntOp.andi] <;> tauto
  refine key _ _ _ (Eq.trans ?_ e)
  rw [← Ideal.ofBits_zero_f32]
  rfl

/-- At exact arithmetic and positive scales the quantiser's six results are the reference's. -/
theorem algebraic : Cert.algebraic_WquantIdeal_WquantRefIdeal_pre_positive_scales := by
  intro m ρ m' ρ' hpre hagree
  refine ⟨fun c => (Cert.WquantIdeal.Gen.dats m 0 c).arrAt 6 Cert.WquantIdeal.cfg0.N, fun c => (Cert.WquantIdeal.Gen.dats m 0 c).arrAt 7 Cert.WquantIdeal.cfg0.N,
    fun c => (Cert.WquantIdeal.Gen.dats m 0 c).arrAt 8 Cert.WquantIdeal.cfg0.N, fun c => (Cert.WquantIdeal.Gen.dats m 0 c).arrAt 9 Cert.WquantIdeal.cfg0.N,
    fun c => (Cert.WquantIdeal.Gen.dats m 0 c).arrAt 10 Cert.WquantIdeal.cfg0.N, fun c => (Cert.WquantIdeal.Gen.dats m 0 c).arrAt 11 Cert.WquantIdeal.cfg0.N,
    Cert.WquantIdeal.Value.run_blocks (F := Ideal) m ρ, ?_⟩
  refine (θ_run Cert.WquantRefIdeal.defs _ _).mono (fun _ h c => ?_) (Cert.WquantRefIdeal.Value.run (F := Ideal) m' ρ')
  obtain ⟨h0, h1, h2, h3, h4, h5, hr⟩ := h c
  obtain ⟨a0, a1, a2, a3, a4, a5⟩ := hagree c
  obtain ⟨s0, s1, s2⟩ := pos_of_fn _ _ _ _ _ _ (hpre c)
  refine ⟨(h0.trans (val_main_v30_eq _ _)).trans ?_, (h1.trans (val_main_v31_eq _ _)).trans ?_, (h2.trans (val_main_v32_eq _ _)).trans ?_,
    (h3.trans (val_main_v53_eq _ _)).trans ?_, (h4.trans (val_main_v74_eq _ _)).trans ?_, (h5.trans (val_main_v95_eq _ _)).trans ?_, hr⟩
  · rw [a0, a3]
    exact funext fun i => (byte_wide _ _ s0 i).trans (Cert.WquantIdeal.Results.arr6 m c i).symm
  · rw [a1, a4]
    exact funext fun i => (byte_wide _ _ s1 i).trans (Cert.WquantIdeal.Results.arr7 m c i).symm
  · rw [a2, a5]
    exact funext fun i => (byte_tall _ _ s2 i).trans (Cert.WquantIdeal.Results.arr8 m c i).symm
  · rw [a0, a3]
    exact funext fun i => (packed_wide _ _ s0 i).trans (Cert.WquantIdeal.Results.arr9 m c i).symm
  · rw [a1, a4]
    exact funext fun i => (packed_wide _ _ s1 i).trans (Cert.WquantIdeal.Results.arr10 m c i).symm
  · rw [a2, a5]
    exact funext fun i => (packed_tall _ _ s2 i).trans (Cert.WquantIdeal.Results.arr11 m c i).symm

end Cert.Proof.WquantClaims

end
-- ==== Proof.Wscale.Points.lean ====
/- What one grid point of the weight-scale kernel does to the buffers it is given: it adds its rows' magnitudes into three
   accumulators, starting them at the first point, and at the last point turns each accumulator into a scale. -/
module

public import proofs.«01_k».proof.Proof.Gen.WscaleIdeal.Frame
public import proofs.«01_k».proof.Proof.Gen.WscaleIdeal.Skeleton
public import Idealize.ShloMosaic.Lib.Pipeline.FrameBody
public import Idealize.ShloMosaic.Lib.Pipeline.Value
public import Idealize.ShloMosaic.Lib.Pipeline.ValueKit.Tiles
public import Idealize.ShloMosaic.Lib.Ring
public import Idealize.ShloMosaic.Lib.Tactic
public import Idealize.ShloMosaic.Lib.WordCmp

@[expose] public section

set_option maxRecDepth 16384

noncomputable section

namespace Cert.WscaleIdeal.Points

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WscaleIdeal Cert.WscaleIdeal.Gen

variable {F : FTy → Type} [FloatOps F]

/-- The condition of the body's branch: the point is the last one. -/
abbrev isLast (i : grid0.Coords) : Prop := k0_cond1 i = 1#1

section Body
variable (c : Dev nD) (i : grid0.Coords)
  (arg1 : Memref sig .tc .vmem S256x5632 .bf16) (harg1 : arg1.IsWhole)
  (arg2 : Memref sig .tc .vmem S256x5632 .bf16) (harg2 : arg2.IsWhole)
  (arg3 : Memref sig .tc .vmem S704x2048 .bf16) (harg3 : arg3.IsWhole)
  (arg4 : Memref sig .tc .smem S1x1 .f32) (harg4 : arg4.IsWhole)
  (arg5 : Memref sig .tc .smem S1x1 .f32) (harg5 : arg5.IsWhole)
  (arg6 : Memref sig .tc .smem S1x1 .f32) (harg6 : arg6.IsWhole)
  (arg7 : Memref sig .tc .vmem S8x5632 .f32) (harg7 : arg7.IsWhole)
  (arg8 : Memref sig .tc .vmem S8x5632 .f32) (harg8 : arg8.IsWhole)
  (arg9 : Memref sig .tc .vmem S8x2048 .f32) (harg9 : arg9.IsWhole)
  (x0 : Vec F S256x5632 .bf16) (x1 : Vec F S256x5632 .bf16) (x2 : Vec F S704x2048 .bf16)
  (s0 : Vec F S8x5632 .f32) (s1 : Vec F S8x5632 .f32) (s2 : Vec F S8x2048 .f32)

set_option maxHeartbeats 1000000 in
/-- The body at a point that is not the last: what it writes into the accumulators, found by running it. -/
def runMid (hc : ¬isLast i) :
    Σ' (LS0 : List (View.Piece (Elt F) S8x5632 .f32)), Σ' (LS1 : List (View.Piece (Elt F) S8x5632 .f32)), { LS2 : List (View.Piece (Elt F) S8x2048 .f32) //
      ∀ (xi3 : Vec F S1x1 .f32) (xi4 : Vec F S1x1 .f32) (xi5 : Vec F S1x1 .f32) (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xi5 ∗ owns (c : Thread nD τ) arg7 fullShare s0 ∗ owns (c : Thread nD τ) arg8 fullShare s1 ∗ owns (c : Thread nD τ) arg9 fullShare s2
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__wscale_kernel i arg1 harg1 arg2 harg2 arg3 harg3 arg4 harg4 arg5 harg5 arg6 harg6 arg7 harg7 arg8 harg8 arg9 harg9) K } := by
  refine ⟨?_, ?_, ?_, fun xi3 xi4 xi5 E K => ?run⟩
  case run =>
    simp only [cc0__wscale_kernel_eq_skeleton]; unfold cc0__wscale_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg7.eq_unread hfs0; obtain rfl := harg8.eq_unread hfs1; obtain rfl := harg9.eq_unread hfs2
    sl_exec (disch := sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    isplitl [HS1]; · iexists _; iexact HS1
    iexists _; iexact HS2

set_option maxHeartbeats 1000000 in
/-- The body at the last point: what it writes into the scales and the accumulators, found by running it. -/
def runLast (hc : isLast i) :
    Σ' (L3 : List (View.Piece (Elt F) S1x1 .f32)), Σ' (L4 : List (View.Piece (Elt F) S1x1 .f32)), Σ' (L5 : List (View.Piece (Elt F) S1x1 .f32)), Σ' (LS0 : List (View.Piece (Elt F) S8x5632 .f32)), Σ' (LS1 : List (View.Piece (Elt F) S8x5632 .f32)), { LS2 : List (View.Piece (Elt F) S8x2048 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare s0 ∗ owns (c : Thread nD τ) arg8 fullShare s1 ∗ owns (c : Thread nD τ) arg9 fullShare s2
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__wscale_kernel i arg1 harg1 arg2 harg2 arg3 harg3 arg4 harg4 arg5 harg5 arg6 harg6 arg7 harg7 arg8 harg8 arg9 harg9) K } := by
  refine ⟨?_, ?_, ?_, ?_, ?_, ?_, fun E K => ?run⟩
  case run =>
    simp only [cc0__wscale_kernel_eq_skeleton]; unfold cc0__wscale_kernel_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2
    obtain rfl := harg7.eq_unread hfs0; obtain rfl := harg8.eq_unread hfs1; obtain rfl := harg9.eq_unread hfs2
    sl_exec (disch := sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    isplitl [HS1]; · iexists _; iexact HS1
    iexists _; iexact HS2

end Body

end Cert.WscaleIdeal.Points

end
-- ==== Proof.Wscale.Contents.lean ====
/- The contents one grid point of the weight-scale kernel leaves, as values: each accumulator takes its rows, and at the
   last point each scale is computed from its accumulator. -/
module

public import proofs.«01_k».proof.Proof.Wscale.Points

@[expose] public section

set_option maxRecDepth 16384

noncomputable section

namespace Cert.WscaleIdeal.Points

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WscaleIdeal Cert.WscaleIdeal.Gen

variable {F : FTy → Type} [FloatOps F]

theorem hz : (![0, 0] : Fin 2 → Nat) = fun _ => 0 := funext fun a => by fin_cases a <;> rfl

/-- The three accumulators after a point, from the point's blocks and what they held before. -/
abbrev Accs (F : FTy → Type) := Vec F S8x5632 .f32 × Vec F S8x5632 .f32 × Vec F S8x2048 .f32

section Body
variable (c : Dev nD) (i : grid0.Coords)
  (arg1 : Memref sig .tc .vmem S256x5632 .bf16) (harg1 : arg1.IsWhole)
  (arg2 : Memref sig .tc .vmem S256x5632 .bf16) (harg2 : arg2.IsWhole)
  (arg3 : Memref sig .tc .vmem S704x2048 .bf16) (harg3 : arg3.IsWhole)
  (arg4 : Memref sig .tc .smem S1x1 .f32) (harg4 : arg4.IsWhole)
  (arg5 : Memref sig .tc .smem S1x1 .f32) (harg5 : arg5.IsWhole)
  (arg6 : Memref sig .tc .smem S1x1 .f32) (harg6 : arg6.IsWhole)
  (arg7 : Memref sig .tc .vmem S8x5632 .f32) (harg7 : arg7.IsWhole)
  (arg8 : Memref sig .tc .vmem S8x5632 .f32) (harg8 : arg8.IsWhole)
  (arg9 : Memref sig .tc .vmem S8x2048 .f32) (harg9 : arg9.IsWhole)
  (x0 : Vec F S256x5632 .bf16) (x1 : Vec F S256x5632 .bf16) (x2 : Vec F S704x2048 .bf16)
  (s0 : Vec F S8x5632 .f32) (s1 : Vec F S8x5632 .f32) (s2 : Vec F S8x2048 .f32)

/-- What is left in the first accumulator. -/
theorem runMid_acc0 (hc : ¬isLast i) (f : arg7.view.ty.Contents (Elt F)) :
    arg7.view.read (Elt F) (arg7.view.writes (Elt F) f (runMid c i arg1 harg1 arg2 harg2 arg3 harg3 arg4 harg4 arg5 harg5 arg6 harg6 arg7 harg7 arg8 harg8 arg9 harg9 x0 x1 x2 s0 s1 s2 hc).1) = k0_pay6 i x0 s0 := by
  rw [View.read_writes_eq_canon _ _ _ (View.cover_of_tiledL (runMid c i arg1 harg1 arg2 harg2 arg3 harg3 arg4 harg4 arg5 harg5 arg6 harg6 arg7 harg7 arg8 harg8 arg9 harg9 x0 x1 x2 s0 s1 s2 hc).1 S8x5632.size (by sl_kernel_rfl))]
  unfold runMid
  dsimp only
  sl_unfold_words
  rw [View.canon_unit_zero (S := S8x5632) hz]
  simp only [View.readAt_eq_ld, harg1.read_unread, harg2.read_unread, harg3.read_unread, harg7.read_unread, harg8.read_unread, harg9.read_unread, View.ld_unit_zero (S := S256x5632) hz, View.ld_unit_zero (S := S704x2048) hz, View.ld_unit_zero (S := S8x5632) hz, View.ld_unit_zero (S := S8x2048) hz]

/-- What is left in the second accumulator. -/
theorem runMid_acc1 (hc : ¬isLast i) (f : arg8.view.ty.Contents (Elt F)) :
    arg8.view.read (Elt F) (arg8.view.writes (Elt F) f (runMid c i arg1 harg1 arg2 harg2 arg3 harg3 arg4 harg4 arg5 harg5 arg6 harg6 arg7 harg7 arg8 harg8 arg9 harg9 x0 x1 x2 s0 s1 s2 hc).2.1) = k0_pay7 i x1 s1 := by
  rw [View.read_writes_eq_canon _ _ _ (View.cover_of_tiledL (runMid c i arg1 harg1 arg2 harg2 arg3 harg3 arg4 harg4 arg5 harg5 arg6 harg6 arg7 harg7 arg8 harg8 arg9 harg9 x0 x1 x2 s0 s1 s2 hc).2.1 S8x5632.size (by sl_kernel_rfl))]
  unfold runMid
  dsimp only
  sl_unfold_words
  rw [View.canon_unit_zero (S := S8x5632) hz]
  simp only [View.readAt_eq_ld, harg1.read_unread, harg2.read_unread, harg3.read_unread, harg7.read_unread, harg8.read_unread, harg9.read_unread, View.ld_unit_zero (S := S256x5632) hz, View.ld_unit_zero (S := S704x2048) hz, View.ld_unit_zero (S := S8x5632) hz, View.ld_unit_zero (S := S8x2048) hz]

/-- What is left in the third accumulator. -/
theorem runMid_acc2 (hc : ¬isLast i) (f : arg9.view.ty.Contents (Elt F)) :
    arg9.view.read (Elt F) (arg9.view.writes (Elt F) f (runMid c i arg1 harg1 arg2 harg2 arg3 harg3 arg4 harg4 arg5 harg5 arg6 harg6 arg7 harg7 arg8 harg8 arg9 harg9 x0 x1 x2 s0 s1 s2 hc).2.2.1) = k0_pay1 (k0_pay8 i x2 s2) := by
  rw [View.read_writes_eq_canon _ _ _ (View.cover_of_tiledL (runMid c i arg1 harg1 arg2 harg2 arg3 harg3 arg4 harg4 arg5 harg5 arg6 harg6 arg7 harg7 arg8 harg8 arg9 harg9 x0 x1 x2 s0 s1 s2 hc).2.2.1 S8x2048.size (by sl_kernel_rfl))]
  unfold runMid
  dsimp only
  sl_unfold_words
  rw [View.canon_unit_zero (S := S8x2048) hz]
  simp only [View.readAt_eq_ld, harg1.read_unread, harg2.read_unread, harg3.read_unread, harg7.read_unread, harg8.read_unread, harg9.read_unread, View.ld_unit_zero (S := S256x5632) hz, View.ld_unit_zero (S := S704x2048) hz, View.ld_unit_zero (S := S8x5632) hz, View.ld_unit_zero (S := S8x2048) hz]

/-- What is left in the first accumulator. -/
theorem runLast_acc0 (hc : isLast i) (f : arg7.view.ty.Contents (Elt F)) :
    arg7.view.read (Elt F) (arg7.view.writes (Elt F) f (runLast c i arg1 harg1 arg2 harg2 arg3 harg3 arg4 harg4 arg5 harg5 arg6 harg6 arg7 harg7 arg8 harg8 arg9 harg9 x0 x1 x2 s0 s1 s2 hc).2.2.2.1) = k0_pay6 i x0 s0 := by
  rw [View.read_writes_eq_canon _ _ _ (View.cover_of_tiledL (runLast c i arg1 harg1 arg2 harg2 arg3 harg3 arg4 harg4 arg5 harg5 arg6 harg6 arg7 harg7 arg8 harg8 arg9 harg9 x0 x1 x2 s0 s1 s2 hc).2.2.2.1 S8x5632.size (by sl_kernel_rfl))]
  unfold runLast
  dsimp only
  sl_unfold_words
  rw [View.canon_unit_zero (S := S8x5632) hz]
  simp only [View.readAt_eq_ld, harg1.read_unread, harg2.read_unread, harg3.read_unread, harg7.read_unread, harg8.read_unread, harg9.read_unread, View.ld_unit_zero (S := S256x5632) hz, View.ld_unit_zero (S := S704x2048) hz, View.ld_unit_zero (S := S8x5632) hz, View.ld_unit_zero (S := S8x2048) hz]

/-- What is left in the second accumulator. -/
theorem runLast_acc1 (hc : isLast i) (f : arg8.view.ty.Contents (Elt F)) :
    arg8.view.read (Elt F) (arg8.view.writes (Elt F) f (runLast c i arg1 harg1 arg2 harg2 arg3 harg3 arg4 harg4 arg5 harg5 arg6 harg6 arg7 harg7 arg8 harg8 arg9 harg9 x0 x1 x2 s0 s1 s2 hc).2.2.2.2.1) = k0_pay7 i x1 s1 := by
  rw [View.read_writes_eq_canon _ _ _ (View.cover_of_tiledL (runLast c i arg1 harg1 arg2 harg2 arg3 harg3 arg4 harg4 arg5 harg5 arg6 harg6 arg7 harg7 arg8 harg8 arg9 harg9 x0 x1 x2 s0 s1 s2 hc).2.2.2.2.1 S8x5632.size (by sl_kernel_rfl))]
  unfold runLast
  dsimp only
  sl_unfold_words
  rw [View.canon_unit_zero (S := S8x5632) hz]
  simp only [View.readAt_eq_ld, harg1.read_unread, harg2.read_unread, harg3.read_unread, harg7.read_unread, harg8.read_unread, harg9.read_unread, View.ld_unit_zero (S := S256x5632) hz, View.ld_unit_zero (S := S704x2048) hz, View.ld_unit_zero (S := S8x5632) hz, View.ld_unit_zero (S := S8x2048) hz]

/-- What is left in the third accumulator. -/
theorem runLast_acc2 (hc : isLast i) (f : arg9.view.ty.Contents (Elt F)) :
    arg9.view.read (Elt F) (arg9.view.writes (Elt F) f (runLast c i arg1 harg1 arg2 harg2 arg3 harg3 arg4 harg4 arg5 harg5 arg6 harg6 arg7 harg7 arg8 harg8 arg9 harg9 x0 x1 x2 s0 s1 s2 hc).2.2.2.2.2.1) = k0_pay1 (k0_pay8 i x2 s2) := by
  rw [View.read_writes_eq_canon _ _ _ (View.cover_of_tiledL (runLast c i arg1 harg1 arg2 harg2 arg3 harg3 arg4 harg4 arg5 harg5 arg6 harg6 arg7 harg7 arg8 harg8 arg9 harg9 x0 x1 x2 s0 s1 s2 hc).2.2.2.2.2.1 S8x2048.size (by sl_kernel_rfl))]
  unfold runLast
  dsimp only
  sl_unfold_words
  rw [View.canon_unit_zero (S := S8x2048) hz]
  simp only [View.readAt_eq_ld, harg1.read_unread, harg2.read_unread, harg3.read_unread, harg7.read_unread, harg8.read_unread, harg9.read_unread, View.ld_unit_zero (S := S256x5632) hz, View.ld_unit_zero (S := S704x2048) hz, View.ld_unit_zero (S := S8x5632) hz, View.ld_unit_zero (S := S8x2048) hz]

/-- The first scale, from its accumulator. -/
theorem runLast_out0 (hc : isLast i) (f : arg4.view.ty.Contents (Elt F)) :
    arg4.view.read (Elt F) (arg4.view.writes (Elt F) f (runLast c i arg1 harg1 arg2 harg2 arg3 harg3 arg4 harg4 arg5 harg5 arg6 harg6 arg7 harg7 arg8 harg8 arg9 harg9 x0 x1 x2 s0 s1 s2 hc).1) = fun _ => k0_pay3 (k0_pay6 i x0 s0) := by
  rw [View.read_writes_eq_canon _ _ _ (View.cover_of_tiledL (runLast c i arg1 harg1 arg2 harg2 arg3 harg3 arg4 harg4 arg5 harg5 arg6 harg6 arg7 harg7 arg8 harg8 arg9 harg9 x0 x1 x2 s0 s1 s2 hc).1 S1x1.size (by sl_kernel_rfl))]
  unfold runLast
  dsimp only
  sl_unfold_words
  rw [View.canon_unit_zero (S := S1x1) hz]
  first
    | (rw [View.readCov_unit_zero (S := S8x5632) _ hz]; simp only [View.readAt_eq_ld, harg1.read_unread, harg2.read_unread, harg3.read_unread, harg7.read_unread, harg8.read_unread, harg9.read_unread, View.ld_unit_zero (S := S256x5632) hz, View.ld_unit_zero (S := S704x2048) hz, View.ld_unit_zero (S := S8x5632) hz, View.ld_unit_zero (S := S8x2048) hz])
    | simp only [View.readAt_eq_ld, harg1.read_unread, harg2.read_unread, harg3.read_unread, harg7.read_unread, harg8.read_unread, harg9.read_unread, View.ld_unit_zero (S := S256x5632) hz, View.ld_unit_zero (S := S704x2048) hz, View.ld_unit_zero (S := S8x5632) hz, View.ld_unit_zero (S := S8x2048) hz]
  rfl

/-- The second scale, from its accumulator. -/
theorem runLast_out1 (hc : isLast i) (f : arg5.view.ty.Contents (Elt F)) :
    arg5.view.read (Elt F) (arg5.view.writes (Elt F) f (runLast c i arg1 harg1 arg2 harg2 arg3 harg3 arg4 harg4 arg5 harg5 arg6 harg6 arg7 harg7 arg8 harg8 arg9 harg9 x0 x1 x2 s0 s1 s2 hc).2.1) = fun _ => k0_pay4 (k0_pay7 i x1 s1) := by
  rw [View.read_writes_eq_canon _ _ _ (View.cover_of_tiledL (runLast c i arg1 harg1 arg2 harg2 arg3 harg3 arg4 harg4 arg5 harg5 arg6 harg6 arg7 harg7 arg8 harg8 arg9 harg9 x0 x1 x2 s0 s1 s2 hc).2.1 S1x1.size (by sl_kernel_rfl))]
  unfold runLast
  dsimp only
  sl_unfold_words
  rw [View.canon_unit_zero (S := S1x1) hz]
  first
    | (rw [View.readCov_unit_zero (S := S8x5632) _ hz]; simp only [View.readAt_eq_ld, harg1.read_unread, harg2.read_unread, harg3.read_unread, harg7.read_unread, harg8.read_unread, harg9.read_unread, View.ld_unit_zero (S := S256x5632) hz, View.ld_unit_zero (S := S704x2048) hz, View.ld_unit_zero (S := S8x5632) hz, View.ld_unit_zero (S := S8x2048) hz])
    | simp only [View.readAt_eq_ld, harg1.read_unread, harg2.read_unread, harg3.read_unread, harg7.read_unread, harg8.read_unread, harg9.read_unread, View.ld_unit_zero (S := S256x5632) hz, View.ld_unit_zero (S := S704x2048) hz, View.ld_unit_zero (S := S8x5632) hz, View.ld_unit_zero (S := S8x2048) hz]
  rfl

/-- The third scale, from its accumulator. -/
theorem runLast_out2 (hc : isLast i) (f : arg6.view.ty.Contents (Elt F)) :
    arg6.view.read (Elt F) (arg6.view.writes (Elt F) f (runLast c i arg1 harg1 arg2 harg2 arg3 harg3 arg4 harg4 arg5 harg5 arg6 harg6 arg7 harg7 arg8 harg8 arg9 harg9 x0 x1 x2 s0 s1 s2 hc).2.2.1) = fun _ => k0_pay2 (k0_pay5 (k0_pay1 (k0_pay8 i x2 s2))) := by
  rw [View.read_writes_eq_canon _ _ _ (View.cover_of_tiledL (runLast c i arg1 harg1 arg2 harg2 arg3 harg3 arg4 harg4 arg5 harg5 arg6 harg6 arg7 harg7 arg8 harg8 arg9 harg9 x0 x1 x2 s0 s1 s2 hc).2.2.1 S1x1.size (by sl_kernel_rfl))]
  unfold runLast
  dsimp only
  sl_unfold_words
  rw [View.canon_unit_zero (S := S1x1) hz]
  first
    | (rw [View.readCov_unit_zero (S := S8x2048) _ hz]; simp only [View.readAt_eq_ld, harg1.read_unread, harg2.read_unread, harg3.read_unread, harg7.read_unread, harg8.read_unread, harg9.read_unread, View.ld_unit_zero (S := S256x5632) hz, View.ld_unit_zero (S := S704x2048) hz, View.ld_unit_zero (S := S8x5632) hz, View.ld_unit_zero (S := S8x2048) hz])
    | simp only [View.readAt_eq_ld, harg1.read_unread, harg2.read_unread, harg3.read_unread, harg7.read_unread, harg8.read_unread, harg9.read_unread, View.ld_unit_zero (S := S256x5632) hz, View.ld_unit_zero (S := S704x2048) hz, View.ld_unit_zero (S := S8x5632) hz, View.ld_unit_zero (S := S8x2048) hz]
  rfl

/-- The body at a point that is not the last, with the contents it leaves named. -/
theorem mid (hc : ¬isLast i) (xi3 : Vec F S1x1 .f32) (xi4 : Vec F S1x1 .f32) (xi5 : Vec F S1x1 .f32) (E : Set ℕ) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xi5 ∗ owns (c : Thread nD τ) arg7 fullShare s0 ∗ owns (c : Thread nD τ) arg8 fullShare s1 ∗ owns (c : Thread nD τ) arg9 fullShare s2
        ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xi5 ∗ owns (c : Thread nD τ) arg7 fullShare (k0_pay6 i x0 s0) ∗ owns (c : Thread nD τ) arg8 fullShare (k0_pay7 i x1 s1) ∗ owns (c : Thread nD τ) arg9 fullShare (k0_pay1 (k0_pay8 i x2 s2))) -∗ K ⟨⟩))
      ⊢ wp frame (wpE (defs₀ (F := F)) Variants.none c none) E (cc0__wscale_kernel i arg1 harg1 arg2 harg2 arg3 harg3 arg4 harg4 arg5 harg5 arg6 harg6 arg7 harg7 arg8 harg8 arg9 harg9) K := by
  iintro ⟨H0, H1, H2, H3, H4, H5, HS0, HS1, HS2, Hk⟩
  iapply ((runMid c i arg1 harg1 arg2 harg2 arg3 harg3 arg4 harg4 arg5 harg5 arg6 harg6 arg7 harg7 arg8 harg8 arg9 harg9 x0 x1 x2 s0 s1 s2 hc).2.2.2 xi3 xi4 xi5 E K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, ⟨%e6, HS0⟩, ⟨%e7, HS1⟩, ⟨%e8, HS2⟩⟩
  iapply Hk
  isplitl [H0]
  · iexact H0
  isplitl [H1]
  · iexact H1
  isplitl [H2]
  · iexact H2
  isplitl [H3]
  · iexact H3
  isplitl [H4]
  · iexact H4
  isplitl [H5]
  · iexact H5
  isplitl [HS0]
  · unfold owns; iexists _; isplitr
    swap; · iexact HS0
    ipureintro; exact runMid_acc0 c i arg1 harg1 arg2 harg2 arg3 harg3 arg4 harg4 arg5 harg5 arg6 harg6 arg7 harg7 arg8 harg8 arg9 harg9 x0 x1 x2 s0 s1 s2 hc _
  isplitl [HS1]
  · unfold owns; iexists _; isplitr
    swap; · iexact HS1
    ipureintro; exact runMid_acc1 c i arg1 harg1 arg2 harg2 arg3 harg3 arg4 harg4 arg5 harg5 arg6 harg6 arg7 harg7 arg8 harg8 arg9 harg9 x0 x1 x2 s0 s1 s2 hc _
  unfold owns; iexists _; isplitr
  swap; · iexact HS2
  ipureintro; exact runMid_acc2 c i arg1 harg1 arg2 harg2 arg3 harg3 arg4 harg4 arg5 harg5 arg6 harg6 arg7 harg7 arg8 harg8 arg9 harg9 x0 x1 x2 s0 s1 s2 hc _

/-- The body at a point that is the last, with the contents it leaves named. -/
theorem last (hc : isLast i) (E : Set ℕ) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare s0 ∗ owns (c : Thread nD τ) arg8 fullShare s1 ∗ owns (c : Thread nD τ) arg9 fullShare s2
        ∗ (iprop(owns (c : Thread nD τ) arg1 fullShare x0 ∗ owns (c : Thread nD τ) arg2 fullShare x1 ∗ owns (c : Thread nD τ) arg3 fullShare x2 ∗ owns (c : Thread nD τ) arg4 fullShare (fun _ => k0_pay3 (k0_pay6 i x0 s0)) ∗ owns (c : Thread nD τ) arg5 fullShare (fun _ => k0_pay4 (k0_pay7 i x1 s1)) ∗ owns (c : Thread nD τ) arg6 fullShare (fun _ => k0_pay2 (k0_pay5 (k0_pay1 (k0_pay8 i x2 s2)))) ∗ owns (c : Thread nD τ) arg7 fullShare (k0_pay6 i x0 s0) ∗ owns (c : Thread nD τ) arg8 fullShare (k0_pay7 i x1 s1) ∗ owns (c : Thread nD τ) arg9 fullShare (k0_pay1 (k0_pay8 i x2 s2))) -∗ K ⟨⟩))
      ⊢ wp frame (wpE (defs₀ (F := F)) Variants.none c none) E (cc0__wscale_kernel i arg1 harg1 arg2 harg2 arg3 harg3 arg4 harg4 arg5 harg5 arg6 harg6 arg7 harg7 arg8 harg8 arg9 harg9) K := by
  iintro ⟨H0, H1, H2, H3, H4, H5, HS0, HS1, HS2, Hk⟩
  iapply ((runLast c i arg1 harg1 arg2 harg2 arg3 harg3 arg4 harg4 arg5 harg5 arg6 harg6 arg7 harg7 arg8 harg8 arg9 harg9 x0 x1 x2 s0 s1 s2 hc).2.2.2.2.2.2 E K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, ⟨%e3, H3⟩, ⟨%e4, H4⟩, ⟨%e5, H5⟩, ⟨%e6, HS0⟩, ⟨%e7, HS1⟩, ⟨%e8, HS2⟩⟩
  iapply Hk
  isplitl [H0]
  · iexact H0
  isplitl [H1]
  · iexact H1
  isplitl [H2]
  · iexact H2
  isplitl [H3]
  · unfold owns; iexists _; isplitr
    swap; · iexact H3
    ipureintro; exact runLast_out0 c i arg1 harg1 arg2 harg2 arg3 harg3 arg4 harg4 arg5 harg5 arg6 harg6 arg7 harg7 arg8 harg8 arg9 harg9 x0 x1 x2 s0 s1 s2 hc _
  isplitl [H4]
  · unfold owns; iexists _; isplitr
    swap; · iexact H4
    ipureintro; exact runLast_out1 c i arg1 harg1 arg2 harg2 arg3 harg3 arg4 harg4 arg5 harg5 arg6 harg6 arg7 harg7 arg8 harg8 arg9 harg9 x0 x1 x2 s0 s1 s2 hc _
  isplitl [H5]
  · unfold owns; iexists _; isplitr
    swap; · iexact H5
    ipureintro; exact runLast_out2 c i arg1 harg1 arg2 harg2 arg3 harg3 arg4 harg4 arg5 harg5 arg6 harg6 arg7 harg7 arg8 harg8 arg9 harg9 x0 x1 x2 s0 s1 s2 hc _
  isplitl [HS0]
  · unfold owns; iexists _; isplitr
    swap; · iexact HS0
    ipureintro; exact runLast_acc0 c i arg1 harg1 arg2 harg2 arg3 harg3 arg4 harg4 arg5 harg5 arg6 harg6 arg7 harg7 arg8 harg8 arg9 harg9 x0 x1 x2 s0 s1 s2 hc _
  isplitl [HS1]
  · unfold owns; iexists _; isplitr
    swap; · iexact HS1
    ipureintro; exact runLast_acc1 c i arg1 harg1 arg2 harg2 arg3 harg3 arg4 harg4 arg5 harg5 arg6 harg6 arg7 harg7 arg8 harg8 arg9 harg9 x0 x1 x2 s0 s1 s2 hc _
  unfold owns; iexists _; isplitr
  swap; · iexact HS2
  ipureintro; exact runLast_acc2 c i arg1 harg1 arg2 harg2 arg3 harg3 arg4 harg4 arg5 harg5 arg6 harg6 arg7 harg7 arg8 harg8 arg9 harg9 x0 x1 x2 s0 s1 s2 hc _

end Body

end Cert.WscaleIdeal.Points

end
-- ==== Proof.Wscale.Frame.lean ====
/- The weight-scale kernel's run over its eight grid points: what each point finds and leaves, the launch, and the frame
   (the argument arrays end unchanged and every semaphore is at zero). -/
module

public import proofs.«01_k».proof.Proof.Wscale.Contents
public import Idealize.ShloMosaic.Lib.Claim

@[expose] public section

set_option maxRecDepth 16384

noncomputable section

namespace Cert.WscaleIdeal.Points

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WscaleIdeal Cert.WscaleIdeal.Gen

variable {F : FTy → Type} [FloatOps F]

theorem isLast_iff : ∀ t : Fin cfg0.N, isLast (grid0.coords t) ↔ t.val % 8 = 7 :=
  (by decide +kernel : ∀ t : Fin grid0.N, isLast (grid0.coords t) ↔ t.val % 8 = 7)
theorem idle3 : ∀ t : Fin cfg0.N, ¬isLast (grid0.coords t) → cfg0.idle 3 (grid0.coords t) = true := by decide +kernel
theorem noFlush3 : ∀ t : Fin cfg0.N, ¬isLast (grid0.coords t) → (cfg0.win 3).flush t = false := by decide +kernel
theorem live3 : ∀ t : Fin cfg0.N, isLast (grid0.coords t) → cfg0.idle 3 (grid0.coords t) = false := by decide +kernel
theorem idle4 : ∀ t : Fin cfg0.N, ¬isLast (grid0.coords t) → cfg0.idle 4 (grid0.coords t) = true := by decide +kernel
theorem noFlush4 : ∀ t : Fin cfg0.N, ¬isLast (grid0.coords t) → (cfg0.win 4).flush t = false := by decide +kernel
theorem live4 : ∀ t : Fin cfg0.N, isLast (grid0.coords t) → cfg0.idle 4 (grid0.coords t) = false := by decide +kernel
theorem idle5 : ∀ t : Fin cfg0.N, ¬isLast (grid0.coords t) → cfg0.idle 5 (grid0.coords t) = true := by decide +kernel
theorem noFlush5 : ∀ t : Fin cfg0.N, ¬isLast (grid0.coords t) → (cfg0.win 5).flush t = false := by decide +kernel
theorem live5 : ∀ t : Fin cfg0.N, isLast (grid0.coords t) → cfg0.idle 5 (grid0.coords t) = false := by decide +kernel
abbrev ms0 (t : Fin cfg0.N) : Memref sig .tc .vmem S256x5632 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x5632 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S704x2048 .bf16 := win0_2.stage (cfg0.slots t 2)
abbrev hs2 (t : Fin cfg0.N) : (ms2 t).IsWhole := hstage0_2 ((cfg0.slots t 2).cast nbuf0_2)
abbrev ms3 (t : Fin cfg0.N) : Memref sig .tc .smem S1x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .smem S1x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .smem S1x1 .f32 := win0_5.stage (cfg0.slots t 5)
abbrev hs5 (t : Fin cfg0.N) : (ms5 t).IsWhole := hstage0_5 ((cfg0.slots t 5).cast nbuf0_5)
abbrev scM0 : Memref sig .tc .vmem S8x5632 .f32 := Memref.whole cc0_scratch0
abbrev scM1 : Memref sig .tc .vmem S8x5632 .f32 := Memref.whole cc0_scratch1
abbrev scM2 : Memref sig .tc .vmem S8x2048 .f32 := Memref.whole cc0_scratch2

theorem PhiA_eq (c : Dev nD) :
    (Pipeline.ΦA spec0 c : sProp (MT nD τ sig Unit (Elt F) ℕ (UR sig nD τ) ℕ)) = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-- One point's step of the accumulators. -/
def step (i : grid0.Coords) (x0 : Vec F S256x5632 .bf16) (x1 : Vec F S256x5632 .bf16) (x2 : Vec F S704x2048 .bf16) (s : Accs F) : Accs F :=
  (k0_pay6 i x0 s.1, k0_pay7 i x1 s.2.1, k0_pay1 (k0_pay8 i x2 s.2.2))

/-- The first point's step does not depend on what the accumulators held. -/
theorem step_first (i : grid0.Coords) (h : (i 0).val = 0) (x0 : Vec F S256x5632 .bf16) (x1 : Vec F S256x5632 .bf16) (x2 : Vec F S704x2048 .bf16) (s s' : Accs F) :
    step i x0 x1 x2 s = step i x0 x1 x2 s' := by
  unfold step k0_pay6 k0_pay7 k0_pay8
  simp only [h]
  rfl

theorem coords0 (t : Fin cfg0.N) : (grid0.coords t 0).val = t.val := by
  have ht : t.val < 8 := Nat.lt_of_lt_of_eq t.isLt N_0
  have e0 : (grid0.coords t 0).val = t.val / 1 % 8 := Pipeline.Grid.coords_val t 0 (by decide) rfl
  rw [e0]; omega

variable (m : (ℓ : Loc nD τ sig) → Buf (Elt F) ℓ) (ρ : Dev nD → PrngReg)

/-- A point's step on its own blocks. -/
abbrev stepAt (c : Dev nD) (t : Fin cfg0.N) (s : Accs F) : Accs F :=
  step (grid0.coords t) (iblk m c 0 t) (iblk m c 1 t) (iblk m c 2 t) s

/-- The accumulators after each point. -/
def accAt (c : Dev nD) : (n : ℕ) → n < cfg0.N → Accs F
  | 0, hn => stepAt m c ⟨0, hn⟩ (fun _ => Scalar.ofBits .f32 0#32, fun _ => Scalar.ofBits .f32 0#32, fun _ => Scalar.ofBits .f32 0#32)
  | n + 1, hn => stepAt m c ⟨n + 1, hn⟩ (accAt c n (Nat.lt_of_succ_lt hn))

theorem accAt_first (c : Dev nD) (t : Fin cfg0.N) (h : t.val = 0) (s : Accs F) : accAt m c t.val t.isLt = stepAt m c t s := by
  obtain ⟨n, hn⟩ := t
  cases n with
  | zero => exact step_first _ (coords0 _) _ _ _ _ _
  | succ n => exact absurd h (Nat.succ_ne_zero n)

theorem accAt_next (c : Dev nD) (t : Fin cfg0.N) (h : t.val ≠ 0) :
    accAt m c t.val t.isLt = stepAt m c t (accAt m c (t.val - 1) (by omega)) := by
  obtain ⟨n, hn⟩ := t
  cases n with
  | zero => exact absurd rfl h
  | succ n => rfl

/-- What holds between points: before the first, the scratch at anything; afterwards, the accumulators' contents. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0 fullShare (accAt m c n hn).1 ∗ owns (c : Thread nD τ) scM1 fullShare (accAt m c n hn).2.1 ∗ owns (c : Thread nD τ) scM2 fullShare (accAt m c n hn).2.2) ∗ (∃ r, prngReg c r))
theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0 fullShare (accAt m c n hn).1 ∗ owns (c : Thread nD τ) scM1 fullShare (accAt m c n hn).2.1 ∗ owns (c : Thread nD τ) scM2 fullShare (accAt m c n hn).2.2) ∗ (∃ r, prngReg c r)) := rfl
theorem PhiS_pos (c : Dev nD) (n : ℕ) (h : n ≤ cfg0.N) (hz : n ≠ 0) :
    PhiS m c n h = iprop(iprop(owns (c : Thread nD τ) scM0 fullShare (accAt m c (n - 1) (by omega)).1 ∗ owns (c : Thread nD τ) scM1 fullShare (accAt m c (n - 1) (by omega)).2.1 ∗ owns (c : Thread nD τ) scM2 fullShare (accAt m c (n - 1) (by omega)).2.2) ∗ (∃ r, prngReg c r)) := by
  cases n with
  | zero => exact absurd rfl hz
  | succ n => rfl

/-- The pipeline's proof data: inputs stay at their blocks, the three results are the scales of the accumulators. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (fun _ => k0_pay3 (accAt m c t.val t.isLt).1 : Vec F S1x1 .f32)
    | ⟨4, _⟩ => (fun _ => k0_pay4 (accAt m c t.val t.isLt).2.1 : Vec F S1x1 .f32)
    | ⟨5, _⟩ => (fun _ => k0_pay2 (k0_pay5 (accAt m c t.val t.isLt).2.2) : Vec F S1x1 .f32)
  Φ t := PhiS m c t.val (Nat.le_of_lt_succ t.isLt)
  q _ := fullShare
  owed _ := 0
theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (fun _ => k0_pay3 (accAt m c t.val t.isLt).1 : Vec F S1x1 .f32) := by dsimp only [dats]
theorem after4 (c : Dev nD) (t : Fin cfg0.N) : (dats m 0 c).after 4 t = (fun _ => k0_pay4 (accAt m c t.val t.isLt).2.1 : Vec F S1x1 .f32) := by dsimp only [dats]
theorem after5 (c : Dev nD) (t : Fin cfg0.N) : (dats m 0 c).after 5 t = (fun _ => k0_pay2 (k0_pay5 (accAt m c t.val t.isLt).2.2) : Vec F S1x1 .f32) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- What the body is called with at a point, -/
def bodyPre (c : Dev nD) (t : Fin cfg0.N) : sProp (MT nD τ sig Unit (Elt F) ℕ (UR sig nD τ) ℕ) :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)))
/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t)

theorem leaves0 (c : Dev nD) (t : Fin cfg0.N) : (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [show cfg0.idle 0 (grid0.coords t) = false from rfl], after0]
theorem leaves1 (c : Dev nD) (t : Fin cfg0.N) : (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [show cfg0.idle 1 (grid0.coords t) = false from rfl], after1]
theorem leaves2 (c : Dev nD) (t : Fin cfg0.N) : (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [show cfg0.idle 2 (grid0.coords t) = false from rfl], after2]
theorem leaves3 (c : Dev nD) (t : Fin cfg0.N) (h : isLast (grid0.coords t)) :
    (dats m 0 c).leavesExact 3 t = owns (c : Thread nD τ) (ms3 t) fullShare (fun _ => k0_pay3 (accAt m c t.val t.isLt).1 : Vec F S1x1 .f32) := by
  rw [show (dats m 0 c).leavesExact 3 t = owns (c : Thread nD τ) (ms3 t) fullShare ((dats m 0 c).after 3 t) from by
    unfold Dat.leavesExact; rw [live3 t h], after3]
theorem leaves4 (c : Dev nD) (t : Fin cfg0.N) (h : isLast (grid0.coords t)) :
    (dats m 0 c).leavesExact 4 t = owns (c : Thread nD τ) (ms4 t) fullShare (fun _ => k0_pay4 (accAt m c t.val t.isLt).2.1 : Vec F S1x1 .f32) := by
  rw [show (dats m 0 c).leavesExact 4 t = owns (c : Thread nD τ) (ms4 t) fullShare ((dats m 0 c).after 4 t) from by
    unfold Dat.leavesExact; rw [live4 t h], after4]
theorem leaves5 (c : Dev nD) (t : Fin cfg0.N) (h : isLast (grid0.coords t)) :
    (dats m 0 c).leavesExact 5 t = owns (c : Thread nD τ) (ms5 t) fullShare (fun _ => k0_pay2 (k0_pay5 (accAt m c t.val t.isLt).2.2) : Vec F S1x1 .f32) := by
  rw [show (dats m 0 c).leavesExact 5 t = owns (c : Thread nD τ) (ms5 t) fullShare ((dats m 0 c).after 5 t) from by
    unfold Dat.leavesExact; rw [live5 t h], after5]

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ, leaves0, leaves1, leaves2]
  by_cases hl : isLast (grid0.coords t)
  · have hz : t.val ≠ 0 := by have := (isLast_iff t).mp hl; omega
    rw [leaves3 m c t hl, leaves4 m c t hl, leaves5 m c t hl, PhiS_castSucc m c t, PhiS_pos m c _ _ hz, accAt_next m c t hz]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply (last c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) (iblk m c 0 t) (iblk m c 1 t) (iblk m c 2 t) (accAt m c (t.val - 1) (by omega)).1 (accAt m c (t.val - 1) (by omega)).2.1 (accAt m c (t.val - 1) (by omega)).2.2 hl Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dats m 0 c) 3 t (idle3 t hl) (noFlush3 t hl), Dat.leavesExact_idle (dats m 0 c) 4 t (idle4 t hl) (noFlush4 t hl),
      Dat.leavesExact_idle (dats m 0 c) 5 t (idle5 t hl) (noFlush5 t hl)]
    by_cases hz : t.val = 0
    · rw [PhiS_castSucc m c t, PhiS_zero m c _ _ hz, PhiA_eq]
      iintro ⟨⟨⟨⟨%s0, HS0⟩, ⟨%s1, HS1⟩, ⟨%s2, HS2⟩⟩, Hg⟩, Ho, ⟨%d0, H0⟩, ⟨%d1, H1⟩, ⟨%d2, H2⟩, ⟨%d3, H3⟩, ⟨%d4, H4⟩, ⟨%d5, H5⟩⟩
      rw [accAt_first m c t hz (s0, s1, s2)]
      iapply (mid c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) (iblk m c 0 t) (iblk m c 1 t) (iblk m c 2 t) s0 s1 s2 hl _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
    · rw [PhiS_castSucc m c t, PhiS_pos m c _ _ hz, accAt_next m c t hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply (mid c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) (iblk m c 0 t) (iblk m c 1 t) (iblk m c 2 t) (accAt m c (t.val - 1) (by omega)).1 (accAt m c (t.val - 1) (by omega)).2.1 (accAt m c (t.val - 1) (by omega)).2.2 hl _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5

theorem defs₀_row (t : Fin cfg0.N) :
    defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg
theorem hout (c : Dev nD) : (dats m 0 c).Φ (Fin.last cfg0.N) ⊢ Pipeline.ΦA spec0 c :=
  Phi_out m c _ (by rw [Fin.val_last]; have : cfg0.N = 8 := N_0; omega)

set_option backward.isDefEq.respectTransparency.types false in
/-- The launch, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.WscaleIdeal.Points

end
-- ==== Proof.Wscale.Mean.lean ====
/- A weight matrix's scale: the mean over its columns of each column's mean magnitude, at least 1e-5. And the same number
   gathered the kernel's way: magnitudes summed by row modulo eight, eight blocks of rows after one another. -/
module

public import proofs.«01_k».proof.Proof.Common
public import Idealize.ShloMosaic.Lib.Pipeline.Value

@[expose] public section

noncomputable section

namespace Cert.MeanMagnitude

open Idealize.ShloMosaic Idealize.ShloMosaic.ValueIdx Cert.Common
open scoped BigOperators

/-- A magnitude. -/
def mag (x : EReal) : EReal := max x (-x)

/-- An entry's magnitude. -/
def magAt {n C : Nat} [NeZero n] [NeZero C] (w : (⟨2, ![n, C]⟩ : Shape).Idx → EReal) (k l : Nat) : EReal := mag (at2 w k l)

/-- Of columns whose sums are given: each divided by the number of rows, added up and divided by the number of columns,
    and at least 1e-5. `rows` and `cols` are the two numbers in binary32. -/
def scaleOf {C : Nat} (f : Fin C → EReal) (rows cols : BitVec 32) : EReal :=
  FloatOps.maximumf (F := Ideal) (φ := .f32) (FloatOps.divf (F := Ideal) (φ := .f32) (∑ l : Fin C, FloatOps.divf (F := Ideal) (φ := .f32) (f l) (FloatOps.ofBits .f32 rows) : EReal)
    (FloatOps.ofBits .f32 cols)) (FloatOps.ofBits .f32 0x3727C5AC#32)

/-- The scale of an `R × C` matrix of magnitudes. -/
def scale (R C : Nat) (f : Nat → Nat → EReal) (rows cols : BitVec 32) : EReal :=
  scaleOf (fun l : Fin C => ∑ k : Fin R, f k.val l.val) rows cols

/-- A sequence that starts at `g 0` and adds `g n` at its `n`-th step is the sum of what was added. -/
theorem partial_sums {N : Nat} (a : (n : Nat) → n < N → EReal) (g : Nat → EReal) (h0 : ∀ h, a 0 h = g 0)
    (hs : ∀ n (h : n + 1 < N), a (n + 1) h = a n (Nat.lt_of_succ_lt h) + g (n + 1)) :
    ∀ n (h : n < N), a n h = ∑ s ∈ Finset.range (n + 1), g s
  | 0, h => by rw [h0, Finset.sum_range_one]
  | n + 1, h => by rw [hs, partial_sums a g h0 hs n, Finset.sum_range_succ (fun s => g s) (n + 1)]

/-- Rows by block, by group of eight, and by place in the group are all the rows. -/
theorem rows_total (G B R : Nat) (hB : 8 * G = B) (hR : B * 8 = R) (f : Nat → EReal) :
    (∑ r : Fin 8, ∑ s ∈ Finset.range 8, ∑ q : Fin G, f (B * s + (8 * q.val + r.val))) = ∑ k : Fin R, f k.val := by
  rw [sum_fin_blocks B 8 R hR f, Finset.sum_comm]
  refine Finset.sum_congr rfl fun s _ => ?_
  rw [sum_fin_blocks 8 G B hB (fun k => f (B * s + k)), Finset.sum_comm, ← Fin.sum_univ_eq_sum_range (fun q => ∑ r : Fin 8, f (B * s + (8 * q + r.val)))]

section Kernel
variable (n G C : Nat) [NeZero n] [NeZero C]

/-- A block's rows summed by their place in the groups of eight. -/
theorem group_sum (v : FVec Ideal ⟨2, ![n, C]⟩ .f32) (h1 : (⟨2, ![n, C]⟩ : Shape).ShapeCasts ⟨3, ![G, 8, C]⟩)
    (h2 : (⟨3, ![G, 8, C]⟩ : Shape).Reduces [0] ⟨2, ![8, C]⟩) (acc : BitVec 32) (hφ : FKind.Formats .f32) (hacc : acc = FKind.add.neutral .f32 hφ)
    (r : Fin 8) (l : Fin C) (hn : 8 * G = n) :
    multiReduction (F := Ideal) .add [0] ⟨2, ![8, C]⟩ (shapeCast ⟨3, ![G, 8, C]⟩ v h1) acc h2 hφ hacc (ix2 r l)
      = (∑ q : Fin G, at2 v (8 * q.val + r.val) l.val : EReal) := by
  refine (Ideal.multiReduction_add_single _ _ _ _ _ _).trans (Finset.sum_congr rfl fun (q : Fin G) _ => ?_)
  have hl : 8 * q.val + r.val < n := by have := q.isLt; have := r.isLt; omega
  refine (shapeCast_apply v h1 _ (ix2 ⟨8 * q.val + r.val, hl⟩ l) ?_).trans (eq_at2 v _ _ _ rfl rfl)
  rw [Shape.rowMajor_val_two, Shape.rowMajor_val_three]
  show (8 * q.val + r.val) * C + l.val = (q.val * 8 + r.val) * C + l.val
  rw [Nat.mul_comm 8]

/-- The sum of eight rows. -/
theorem column_sum (a : FVec Ideal ⟨2, ![8, C]⟩ .f32) (h : (⟨2, ![8, C]⟩ : Shape).Reduces [0] ⟨1, ![C]⟩) (acc : BitVec 32) (hφ : FKind.Formats .f32)
    (hacc : acc = FKind.add.neutral .f32 hφ) (l : Fin C) :
    multiReduction (F := Ideal) .add [0] ⟨1, ![C]⟩ a acc h hφ hacc (ix1 l) = (∑ r : Fin 8, a (ix2 r l) : EReal) :=
  (Ideal.multiReduction_add_single _ _ _ _ _ _).trans (Finset.sum_congr rfl fun (r : Fin 8) _ =>
    congrArg a (funext fun d => Fin.ext (match d with | ⟨0, _⟩ => rfl | ⟨1, _⟩ => rfl)))

/-- The columns' sums divided by the number of rows, and added up. -/
theorem mean_sum (a : FVec Ideal ⟨2, ![8, C]⟩ .f32) (rows : Ideal .f32) (h : (⟨2, ![8, C]⟩ : Shape).Reduces [0] ⟨1, ![C]⟩) (acc : BitVec 32)
    (hφ : FKind.Formats .f32) (hacc : acc = FKind.add.neutral .f32 hφ) (h1 : (⟨1, ![C]⟩ : Shape).ShapeCasts ⟨2, ![1, C]⟩)
    (h3 : (⟨2, ![1, C]⟩ : Shape).ShapeCasts ⟨3, ![1, 1, C]⟩) (h4 : (⟨3, ![1, 1, C]⟩ : Shape).Reduces [1, 2] ⟨1, ![1]⟩) (j : (⟨1, ![1]⟩ : Shape).Idx) :
    multiReduction (F := Ideal) .add [1, 2] ⟨1, ![1]⟩ (shapeCast ⟨3, ![1, 1, C]⟩ (divf (shapeCast ⟨2, ![1, C]⟩
        (multiReduction (F := Ideal) .add [0] ⟨1, ![C]⟩ a acc h hφ hacc) h1) (broadcast ⟨2, ![1, C]⟩ rows)) h3) acc h4 hφ hacc j
      = (∑ l : Fin C, FloatOps.divf (F := Ideal) (φ := .f32) (∑ r : Fin 8, a (ix2 r l) : EReal) rows : EReal) := by
  refine (Ideal.multiReduction_add_total _ _ _ (fun b => match b with | ⟨0, _⟩ => rfl) _ _ _).trans ?_
  refine (Fintype.sum_bijective (fun l : Fin C => (ix3 (0 : Fin 1) (0 : Fin 1) l : (⟨3, ![1, 1, C]⟩ : Shape).Idx)) ⟨?_, ?_⟩ _ _ fun l => ?_).symm
  · intro x y e; exact congrFun e 2
  · intro i
    refine ⟨i 2, funext fun d => ?_⟩
    match d with
    | ⟨0, _⟩ => exact Subsingleton.elim (α := Fin 1) _ _
    | ⟨1, _⟩ => exact Subsingleton.elim (α := Fin 1) _ _
    | ⟨2, _⟩ => rfl
  · refine Eq.trans ?_ (shapeCast_apply _ h3 (ix3 (0 : Fin 1) (0 : Fin 1) l) (ix2 (0 : Fin 1) l) ?_).symm
    · show _ = FloatOps.divf (F := Ideal) (φ := .f32) (shapeCast ⟨2, ![1, C]⟩ (multiReduction (F := Ideal) .add [0] ⟨1, ![C]⟩ a acc h hφ hacc) h1 (ix2 (0 : Fin 1) l)) rows
      refine congrArg (fun z : EReal => FloatOps.divf (F := Ideal) (φ := .f32) z rows) ?_
      refine (column_sum C a h acc hφ hacc l).symm.trans (shapeCast_apply _ h1 (ix2 (0 : Fin 1) l) (ix1 l) ?_).symm
      rw [Shape.rowMajor_val_one, Shape.rowMajor_val_two]
      show l.val = 0 * C + l.val; omega
    · rw [Shape.rowMajor_val_two, Shape.rowMajor_val_three]
      show 0 * C + l.val = (0 * 1 + 0) * C + l.val; omega

end Kernel

/-- A sum over the places of a vector. -/
theorem sum_vec (C : Nat) (f : (⟨1, ![C]⟩ : Shape).Idx → EReal) : ∑ j, f j = ∑ l : Fin C, f (ix1 l) :=
  (Fintype.sum_bijective (fun l : Fin C => (ix1 l : (⟨1, ![C]⟩ : Shape).Idx)) ⟨fun x y e => congrFun e 0, fun i => ⟨i 0, funext fun d => match d with
    | ⟨0, _⟩ => rfl⟩⟩ _ _ fun _ => rfl).symm

end Cert.MeanMagnitude

end
-- ==== Proof.Wscale.Value.lean ====
/- The three weight scales the kernel ends with: each accumulator after a point is the sum of the magnitudes of the rows
   read so far, by row modulo eight, and each result is the scale of its matrix. -/
module

public import proofs.«01_k».proof.Proof.Wscale.Frame
public import proofs.«01_k».proof.Proof.Wscale.Mean

@[expose] public section

set_option maxRecDepth 16384

noncomputable section

namespace Cert.WscaleIdeal.Results

open Idealize.ShloMosaic Idealize.ShloMosaic.TcCoe Idealize.SL.Sem Idealize.ShloMosaic.ValueIdx
open Cert.WscaleIdeal Cert.WscaleIdeal.Gen Cert.WscaleIdeal.Points Cert.Common Cert.MeanMagnitude
open scoped BigOperators

/-! ## One point, at exact arithmetic -/

theorem not_first : ∀ k : Fin 8, k.val ≠ 0 → Scalar.cmpi .eq (BitVec.ofNat 32 k.val) 0#32 = 0#1 := by decide

section Step
variable (i : grid0.Coords) (r : Fin 8)

/-- What a point adds to an accumulator of the first two matrices. -/
theorem step_wide (x : Vec Ideal S256x5632 .bf16) (s : Vec Ideal S8x5632 .f32) (l : Fin 5632) :
    k0_pay6 i x s (ix2 r l) = (if (i 0).val = 0 then (∑ q : Fin 32, magAt x (8 * q.val + r.val) l.val : EReal)
      else (s (ix2 r l) : EReal) + ∑ q : Fin 32, magAt x (8 * q.val + r.val) l.val) := by
  have e := group_sum 256 32 5632 (absf (extf .f32 x bitsLt_bf16_f32)) shapeCasts_S256x5632_S32x8x5632 reduces_S32x8x5632_S8x5632 0x00000000#32 (.inl rfl) rfl r l rfl
  unfold k0_pay6
  rw [shapeCast_self]
  split_ifs with h
  · simp only [h]; exact e
  · simp only [not_first (i 0) h]
    exact congrArg (fun z : EReal => (s (ix2 r l) : EReal) + z) e

/-- … and of the third. -/
theorem step_tall (x : Vec Ideal S704x2048 .bf16) (s : Vec Ideal S8x2048 .f32) (l : Fin 2048) :
    k0_pay1 (k0_pay8 i x s) (ix2 r l) = (if (i 0).val = 0 then (∑ q : Fin 88, magAt x (8 * q.val + r.val) l.val : EReal)
      else (s (ix2 r l) : EReal) + ∑ q : Fin 88, magAt x (8 * q.val + r.val) l.val) := by
  have e := group_sum 704 88 2048 (absf (extf .f32 x bitsLt_bf16_f32)) shapeCasts_S704x2048_S88x8x2048 reduces_S88x8x2048_S8x2048 0x00000000#32 (.inl rfl) rfl r l rfl
  unfold k0_pay1 k0_pay8
  rw [shapeCast_self]
  split_ifs with h
  · simp only [h]; exact e
  · simp only [not_first (i 0) h]
    exact congrArg (fun z : EReal => (s (ix2 r l) : EReal) + z) e

end Step

/-- The scale computed from an accumulator of the first two matrices. -/
theorem scale_wide (a : Vec Ideal S8x5632 .f32) :
    k0_pay3 a = scaleOf (fun l : Fin 5632 => (∑ r : Fin 8, a (ix2 r l) : EReal)) 0x45000000#32 0x45B00000#32 :=
  congrArg (fun z : EReal => FloatOps.maximumf (F := Ideal) (φ := .f32) (FloatOps.divf (F := Ideal) (φ := .f32) z (FloatOps.ofBits .f32 0x45B00000#32)) (FloatOps.ofBits .f32 0x3727C5AC#32))
    (mean_sum 5632 a (Scalar.ofBits .f32 0x45000000#32) reduces_S8x5632_S5632 0x00000000#32 (.inl rfl) rfl shapeCasts_S5632_S1x5632 shapeCasts_S1x5632_S1x1x5632 reduces_S1x1x5632_S1 _)

/-- … and of the third. -/
theorem scale_tall (a : Vec Ideal S8x2048 .f32) :
    k0_pay2 (k0_pay5 a) = scaleOf (fun l : Fin 2048 => (∑ r : Fin 8, a (ix2 r l) : EReal)) 0x45B00000#32 0x45000000#32 :=
  congrArg (fun z : EReal => FloatOps.maximumf (F := Ideal) (φ := .f32) (FloatOps.divf (F := Ideal) (φ := .f32) z (FloatOps.ofBits .f32 0x45000000#32)) (FloatOps.ofBits .f32 0x3727C5AC#32))
    (mean_sum 2048 a (Scalar.ofBits .f32 0x45B00000#32) reduces_S8x2048_S2048 0x00000000#32 (.inl rfl) rfl shapeCasts_S2048_S1x2048 shapeCasts_S1x2048_S1x1x2048 reduces_S1x1x2048_S1 _)

/-! ## All the points -/

variable (m : (ℓ : Loc nD τ sig) → Buf (Elt Ideal) ℓ)

/-- The matrices as launched. -/
abbrev W0 (c : Dev nD) : S2048x5632.Idx → EReal := m ((c : Thread nD τ).loc main_arg0)
abbrev W1 (c : Dev nD) : S2048x5632.Idx → EReal := m ((c : Thread nD τ).loc main_arg1)
abbrev W2 (c : Dev nD) : S5632x2048.Idx → EReal := m ((c : Thread nD τ).loc main_arg2)

/-- Each input's block at a point is the point's block of rows. -/
theorem idx_in : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0) :=
  (by decide +kernel : ∀ t : Fin grid0.N, _)

theorem iblk0 (c : Dev nD) (t : Fin cfg0.N) (p : Nat) (hp : p < 256) (l : Fin 5632) :
    magAt (iblk m c 0 t : Vec Ideal S256x5632 .bf16) p l.val = magAt (W0 m c) (256 * t.val + p) l.val := by
  obtain ⟨⟨h, h'⟩, -⟩ := idx_in t
  unfold magAt
  refine congrArg mag ?_
  show (iblk m c 0 t : Vec Ideal S256x5632 .bf16) (ix2 (Fin.ofNat 256 p) (Fin.ofNat 5632 l.val)) = _
  unfold iblk
  rw [View.read_apply]
  show V m c main_arg0 _ = _
  rw [V_main_arg0]
  refine eq_at2 _ _ _ _ ?_ ?_
  · show win0_0.index t 0 * 256 + 1 * (p % 256) = _; rw [h, Nat.mod_eq_of_lt hp]; omega
  · show win0_0.index t 1 * 5632 + 1 * (l.val % 5632) = _; rw [h', Nat.mod_eq_of_lt l.isLt]; omega
theorem iblk1 (c : Dev nD) (t : Fin cfg0.N) (p : Nat) (hp : p < 256) (l : Fin 5632) :
    magAt (iblk m c 1 t : Vec Ideal S256x5632 .bf16) p l.val = magAt (W1 m c) (256 * t.val + p) l.val := by
  obtain ⟨-, ⟨h, h'⟩, -⟩ := idx_in t
  unfold magAt
  refine congrArg mag ?_
  show (iblk m c 1 t : Vec Ideal S256x5632 .bf16) (ix2 (Fin.ofNat 256 p) (Fin.ofNat 5632 l.val)) = _
  unfold iblk
  rw [View.read_apply]
  show V m c main_arg1 _ = _
  rw [V_main_arg1]
  refine eq_at2 _ _ _ _ ?_ ?_
  · show win0_1.index t 0 * 256 + 1 * (p % 256) = _; rw [h, Nat.mod_eq_of_lt hp]; omega
  · show win0_1.index t 1 * 5632 + 1 * (l.val % 5632) = _; rw [h', Nat.mod_eq_of_lt l.isLt]; omega
theorem iblk2 (c : Dev nD) (t : Fin cfg0.N) (p : Nat) (hp : p < 704) (l : Fin 2048) :
    magAt (iblk m c 2 t : Vec Ideal S704x2048 .bf16) p l.val = magAt (W2 m c) (704 * t.val + p) l.val := by
  obtain ⟨-, -, ⟨h, h'⟩⟩ := idx_in t
  unfold magAt
  refine congrArg mag ?_
  show (iblk m c 2 t : Vec Ideal S704x2048 .bf16) (ix2 (Fin.ofNat 704 p) (Fin.ofNat 2048 l.val)) = _
  unfold iblk
  rw [View.read_apply]
  show V m c main_arg2 _ = _
  rw [V_main_arg2]
  refine eq_at2 _ _ _ _ ?_ ?_
  · show win0_2.index t 0 * 704 + 1 * (p % 704) = _; rw [h, Nat.mod_eq_of_lt hp]; omega
  · show win0_2.index t 1 * 2048 + 1 * (l.val % 2048) = _; rw [h', Nat.mod_eq_of_lt l.isLt]; omega

/-- What point `s` adds to the first accumulator. -/
abbrev part0 (c : Dev nD) (r : Fin 8) (l : Fin 5632) (s : Nat) : EReal := ∑ q : Fin 32, magAt (W0 m c) (256 * s + (8 * q.val + r.val)) l.val

theorem block0 (c : Dev nD) (t : Fin cfg0.N) (r : Fin 8) (l : Fin 5632) :
    (∑ q : Fin 32, magAt (iblk m c 0 t : Vec Ideal S256x5632 .bf16) (8 * q.val + r.val) l.val : EReal) = part0 m c r l t.val :=
  Finset.sum_congr rfl fun q _ => iblk0 m c t _ (by have := q.isLt; have := r.isLt; omega) l

/-- The first accumulator after a point. -/
theorem acc0 (c : Dev nD) (r : Fin 8) (l : Fin 5632) (n : Nat) (h : n < cfg0.N) :
    ((accAt m c n h).1 (ix2 r l) : EReal) = ∑ s ∈ Finset.range (n + 1), part0 m c r l s := by
  refine partial_sums (fun n h => ((accAt m c n h).1 (ix2 r l) : EReal)) (part0 m c r l) (fun h => ?_) (fun n h => ?_) n h
  · refine (step_wide (grid0.coords ⟨0, h⟩) r (iblk m c 0 ⟨0, h⟩) _ l).trans ?_
    rw [if_pos (coords0 _)]
    exact block0 m c ⟨0, h⟩ r l
  · refine (step_wide (grid0.coords ⟨n + 1, h⟩) r (iblk m c 0 ⟨n + 1, h⟩) _ l).trans ?_
    rw [if_neg (by rw [coords0]; exact Nat.succ_ne_zero n)]
    exact congrArg (fun z : EReal => ((accAt m c n (Nat.lt_of_succ_lt h)).1 (ix2 r l) : EReal) + z) (block0 m c ⟨n + 1, h⟩ r l)

/-- The first result's value. -/
theorem value0 (c : Dev nD) (n : Nat) (hn : n = 7) (h : n < cfg0.N) :
    k0_pay3 (accAt m c n h).1 = scale 2048 5632 (magAt (W0 m c)) 0x45000000#32 0x45B00000#32 := by
  subst hn
  refine (scale_wide _).trans ?_
  unfold scale
  refine congrArg (fun f => scaleOf f 0x45000000#32 0x45B00000#32) (funext fun l => ?_)
  exact (Finset.sum_congr rfl fun r _ => acc0 m c r l 7 h).trans (rows_total 32 256 2048 rfl rfl fun p => magAt (W0 m c) p l.val)

/-- What point `s` adds to the second accumulator. -/
abbrev part1 (c : Dev nD) (r : Fin 8) (l : Fin 5632) (s : Nat) : EReal := ∑ q : Fin 32, magAt (W1 m c) (256 * s + (8 * q.val + r.val)) l.val

theorem block1 (c : Dev nD) (t : Fin cfg0.N) (r : Fin 8) (l : Fin 5632) :
    (∑ q : Fin 32, magAt (iblk m c 1 t : Vec Ideal S256x5632 .bf16) (8 * q.val + r.val) l.val : EReal) = part1 m c r l t.val :=
  Finset.sum_congr rfl fun q _ => iblk1 m c t _ (by have := q.isLt; have := r.isLt; omega) l

/-- The second accumulator after a point. -/
theorem acc1 (c : Dev nD) (r : Fin 8) (l : Fin 5632) (n : Nat) (h : n < cfg0.N) :
    ((accAt m c n h).2.1 (ix2 r l) : EReal) = ∑ s ∈ Finset.range (n + 1), part1 m c r l s := by
  refine partial_sums (fun n h => ((accAt m c n h).2.1 (ix2 r l) : EReal)) (part1 m c r l) (fun h => ?_) (fun n h => ?_) n h
  · refine (step_wide (grid0.coords ⟨0, h⟩) r (iblk m c 1 ⟨0, h⟩) _ l).trans ?_
    rw [if_pos (coords0 _)]
    exact block1 m c ⟨0, h⟩ r l
  · refine (step_wide (grid0.coords ⟨n + 1, h⟩) r (iblk m c 1 ⟨n + 1, h⟩) _ l).trans ?_
    rw [if_neg (by rw [coords0]; exact Nat.succ_ne_zero n)]
    exact congrArg (fun z : EReal => ((accAt m c n (Nat.lt_of_succ_lt h)).2.1 (ix2 r l) : EReal) + z) (block1 m c ⟨n + 1, h⟩ r l)

/-- The second result's value. -/
theorem value1 (c : Dev nD) (n : Nat) (hn : n = 7) (h : n < cfg0.N) :
    k0_pay4 (accAt m c n h).2.1 = scale 2048 5632 (magAt (W1 m c)) 0x45000000#32 0x45B00000#32 := by
  subst hn
  refine (scale_wide _).trans ?_
  unfold scale
  refine congrArg (fun f => scaleOf f 0x45000000#32 0x45B00000#32) (funext fun l => ?_)
  exact (Finset.sum_congr rfl fun r _ => acc1 m c r l 7 h).trans (rows_total 32 256 2048 rfl rfl fun p => magAt (W1 m c) p l.val)

/-- What point `s` adds to the third accumulator. -/
abbrev part2 (c : Dev nD) (r : Fin 8) (l : Fin 2048) (s : Nat) : EReal := ∑ q : Fin 88, magAt (W2 m c) (704 * s + (8 * q.val + r.val)) l.val

theorem block2 (c : Dev nD) (t : Fin cfg0.N) (r : Fin 8) (l : Fin 2048) :
    (∑ q : Fin 88, magAt (iblk m c 2 t : Vec Ideal S704x2048 .bf16) (8 * q.val + r.val) l.val : EReal) = part2 m c r l t.val :=
  Finset.sum_congr rfl fun q _ => iblk2 m c t _ (by have := q.isLt; have := r.isLt; omega) l

/-- The third accumulator after a point. -/
theorem acc2 (c : Dev nD) (r : Fin 8) (l : Fin 2048) (n : Nat) (h : n < cfg0.N) :
    ((accAt m c n h).2.2 (ix2 r l) : EReal) = ∑ s ∈ Finset.range (n + 1), part2 m c r l s := by
  refine partial_sums (fun n h => ((accAt m c n h).2.2 (ix2 r l) : EReal)) (part2 m c r l) (fun h => ?_) (fun n h => ?_) n h
  · refine (step_tall (grid0.coords ⟨0, h⟩) r (iblk m c 2 ⟨0, h⟩) _ l).trans ?_
    rw [if_pos (coords0 _)]
    exact block2 m c ⟨0, h⟩ r l
  · refine (step_tall (grid0.coords ⟨n + 1, h⟩) r (iblk m c 2 ⟨n + 1, h⟩) _ l).trans ?_
    rw [if_neg (by rw [coords0]; exact Nat.succ_ne_zero n)]
    exact congrArg (fun z : EReal => ((accAt m c n (Nat.lt_of_succ_lt h)).2.2 (ix2 r l) : EReal) + z) (block2 m c ⟨n + 1, h⟩ r l)

/-- The third result's value. -/
theorem value2 (c : Dev nD) (n : Nat) (hn : n = 7) (h : n < cfg0.N) :
    k0_pay2 (k0_pay5 (accAt m c n h).2.2) = scale 5632 2048 (magAt (W2 m c)) 0x45B00000#32 0x45000000#32 := by
  subst hn
  refine (scale_tall _).trans ?_
  unfold scale
  refine congrArg (fun f => scaleOf f 0x45B00000#32 0x45000000#32) (funext fun l => ?_)
  exact (Finset.sum_congr rfl fun r _ => acc2 m c r l 7 h).trans (rows_total 88 704 5632 rfl rfl fun p => magAt (W2 m c) p l.val)

/-! ## The three results -/

theorem last_lt : 7 < cfg0.N := by rw [show cfg0.N = 8 from N_0]; decide
/-- The last point. -/
abbrev lastPt : Fin cfg0.N := ⟨7, last_lt⟩

/-- Only the last point writes the first result. -/
theorem disjoint3 : ∀ t t' : Fin cfg0.N, (cfg0.win 3).flush t = true → (cfg0.win 3).flush t' = true → t ≠ t' →
    Disjoint ((cfg0.win 3).blk t).view.set ((cfg0.win 3).blk t').view.set := fun t t' h h' hne => absurd (Fin.ext (by
  have := (flush0_3 t).mp h; have := (flush0_3 t').mp h'
  have := Nat.lt_of_lt_of_eq t.isLt N_0; have := Nat.lt_of_lt_of_eq t'.isLt N_0; omega)) hne

theorem arr3 (c : Dev nD) (i : S1x1.Idx) : (dats m 0 c).arrAt 3 cfg0.N i = scale 2048 5632 (magAt (W0 m c)) 0x45000000#32 0x45B00000#32 := by
  have e := (dats m 0 c).read_blk_arrAt_eq_flushed 3 disjoint3 cfg0.N lastPt lastPt.isLt ((flush0_3 lastPt).mpr rfl)
  have f : (dats m 0 c).flushed 3 lastPt = (cfg0.win 3).cut (grid0.coords lastPt) (fun _ => k0_pay3 (accAt m c 7 last_lt).1 : Vec Ideal S1x1 .f32) := by
    show (cfg0.win 3).cut (grid0.coords lastPt) ((dats m 0 c).after 3 lastPt) = _
    rw [after3]
  have e' := congrFun (e.trans f) (ix2 0 0 : S1x1.Idx)
  rw [View.read_apply] at e'
  have hi : ((cfg0.win 3).blk lastPt).view.emb (ix2 0 0 : S1x1.Idx) = i := funext fun a => match a with
    | ⟨0, _⟩ => Subsingleton.elim (α := Fin 1) _ _
    | ⟨1, _⟩ => Subsingleton.elim (α := Fin 1) _ _
  rw [hi] at e'
  exact e'.trans (value0 m c 7 rfl last_lt)

/-- Only the last point writes the second result. -/
theorem disjoint4 : ∀ t t' : Fin cfg0.N, (cfg0.win 4).flush t = true → (cfg0.win 4).flush t' = true → t ≠ t' →
    Disjoint ((cfg0.win 4).blk t).view.set ((cfg0.win 4).blk t').view.set := fun t t' h h' hne => absurd (Fin.ext (by
  have := (flush0_4 t).mp h; have := (flush0_4 t').mp h'
  have := Nat.lt_of_lt_of_eq t.isLt N_0; have := Nat.lt_of_lt_of_eq t'.isLt N_0; omega)) hne

theorem arr4 (c : Dev nD) (i : S1x1.Idx) : (dats m 0 c).arrAt 4 cfg0.N i = scale 2048 5632 (magAt (W1 m c)) 0x45000000#32 0x45B00000#32 := by
  have e := (dats m 0 c).read_blk_arrAt_eq_flushed 4 disjoint4 cfg0.N lastPt lastPt.isLt ((flush0_4 lastPt).mpr rfl)
  have f : (dats m 0 c).flushed 4 lastPt = (cfg0.win 4).cut (grid0.coords lastPt) (fun _ => k0_pay4 (accAt m c 7 last_lt).2.1 : Vec Ideal S1x1 .f32) := by
    show (cfg0.win 4).cut (grid0.coords lastPt) ((dats m 0 c).after 4 lastPt) = _
    rw [after4]
  have e' := congrFun (e.trans f) (ix2 0 0 : S1x1.Idx)
  rw [View.read_apply] at e'
  have hi : ((cfg0.win 4).blk lastPt).view.emb (ix2 0 0 : S1x1.Idx) = i := funext fun a => match a with
    | ⟨0, _⟩ => Subsingleton.elim (α := Fin 1) _ _
    | ⟨1, _⟩ => Subsingleton.elim (α := Fin 1) _ _
  rw [hi] at e'
  exact e'.trans (value1 m c 7 rfl last_lt)

/-- Only the last point writes the third result. -/
theorem disjoint5 : ∀ t t' : Fin cfg0.N, (cfg0.win 5).flush t = true → (cfg0.win 5).flush t' = true → t ≠ t' →
    Disjoint ((cfg0.win 5).blk t).view.set ((cfg0.win 5).blk t').view.set := fun t t' h h' hne => absurd (Fin.ext (by
  have := (flush0_5 t).mp h; have := (flush0_5 t').mp h'
  have := Nat.lt_of_lt_of_eq t.isLt N_0; have := Nat.lt_of_lt_of_eq t'.isLt N_0; omega)) hne

theorem arr5 (c : Dev nD) (i : S1x1.Idx) : (dats m 0 c).arrAt 5 cfg0.N i = scale 5632 2048 (magAt (W2 m c)) 0x45B00000#32 0x45000000#32 := by
  have e := (dats m 0 c).read_blk_arrAt_eq_flushed 5 disjoint5 cfg0.N lastPt lastPt.isLt ((flush0_5 lastPt).mpr rfl)
  have f : (dats m 0 c).flushed 5 lastPt = (cfg0.win 5).cut (grid0.coords lastPt) (fun _ => k0_pay2 (k0_pay5 (accAt m c 7 last_lt).2.2) : Vec Ideal S1x1 .f32) := by
    show (cfg0.win 5).cut (grid0.coords lastPt) ((dats m 0 c).after 5 lastPt) = _
    rw [after5]
  have e' := congrFun (e.trans f) (ix2 0 0 : S1x1.Idx)
  rw [View.read_apply] at e'
  have hi : ((cfg0.win 5).blk lastPt).view.emb (ix2 0 0 : S1x1.Idx) = i := funext fun a => match a with
    | ⟨0, _⟩ => Subsingleton.elim (α := Fin 1) _ _
    | ⟨1, _⟩ => Subsingleton.elim (α := Fin 1) _ _
  rw [hi] at e'
  exact e'.trans (value2 m c 7 rfl last_lt)

/-- The run, with the three results named and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = (dats m 0 c).arrAt 3 cfg0.N
      ∧ r.2.mem ((c : Thread nD τ).loc main_v0_1) = (dats m 0 c).arrAt 4 cfg0.N
      ∧ r.2.mem ((c : Thread nD τ).loc main_v0_2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3, (h c).1 4, (h c).1 5,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.WscaleIdeal.Results

end
-- ==== Proof.Wscale.Claims.lean ====
/- The claims about the weight-scale kernel: the reference's three results element by element, the frames, `preserves`,
   and the equality of the kernel's results with the reference's at exact arithmetic. -/
module

public import proofs.«01_k».proof.Defs
public import proofs.«01_k».proof.Proof.Wscale.Value
public import proofs.«01_k».proof.Proof.Gen.Wscale
public import proofs.«01_k».proof.Proof.Gen.WscaleRefIdeal.Run
public import proofs.«01_k».proof.Proof.Gen.WscaleRefIdeal.Read

@[expose] public section

noncomputable section

namespace Cert.WscaleRefIdeal.Results

open Idealize.ShloMosaic Idealize.ShloMosaic.TcCoe Idealize.SL.Sem Idealize.ShloMosaic.ValueIdx
open Cert.WscaleRefIdeal Cert.WscaleRefIdeal.Gen Cert.WscaleRefIdeal.Read Cert.Common Cert.MeanMagnitude
open scoped BigOperators

theorem zero_word : (FloatOps.ofBits .f32 0x00000000#32 : Ideal .f32) = (0 : EReal) := (Ideal.ofBits_def _).trans Ideal.ofBits_zero_f32

/-- A scalar laid out as a 1×1 array. -/
theorem scalar_apply (x : (⟨S_, .f32⟩ : BufTy).Contents (Elt Ideal)) (i : S1x1.Idx) (j : S_.Idx) : shapeCast S1x1 x shapeCasts_S_S1x1 i = x j :=
  congrArg x (funext fun a => a.elim0)

/-- A column's mean magnitude. -/
theorem column_wide (x : (⟨S2048x5632, .bf16⟩ : BufTy).Contents (Elt Ideal)) (l : Fin 5632) :
    val_main_v4 (F := Ideal) x (ix1 l) = FloatOps.divf (F := Ideal) (φ := .f32) (∑ k : Fin 2048, magAt x k.val l.val : EReal) (FloatOps.ofBits .f32 0x45000000#32) := by
  rw [val_main_v4_apply, val_main_v2_apply, val_main_v3_apply, val_main_cst_apply, val_main_cst_0_apply, zero_word, zero_add]
  have e : (∑ k : Fin 2048, val_main_v1 (F := Ideal) x (idx_main_v2 (ix1 l) k) : EReal) = ∑ k : Fin 2048, magAt x k.val l.val := Finset.sum_congr rfl fun k _ => by
    rw [val_main_v1_apply, val_main_v0_apply]
    show mag (x _) = mag _
    rw [eq_at2 x _ k.val l.val rfl rfl]
  rw [← e]
  rfl

/-- The scale. -/
theorem scale_wide (x : (⟨S2048x5632, .bf16⟩ : BufTy).Contents (Elt Ideal)) (i : S1x1.Idx) :
    val_main_v8 (F := Ideal) x i = scale 2048 5632 (magAt x) 0x45000000#32 0x45B00000#32 := by
  unfold val_main_v8
  refine (scalar_apply _ i (fun a => a.elim0)).trans ?_
  rw [val_main_v7_apply, val_main_v6_apply, val_main_v5_apply, val_main_cst_1_apply, val_main_cst_2_apply, val_main_cst_3_apply, zero_word, zero_add]
  have e : (∑ j : S5632.Idx, val_main_v4 (F := Ideal) x j : EReal) = _ := (sum_vec 5632 _).trans (Finset.sum_congr rfl fun l _ => column_wide x l)
  unfold scale scaleOf
  rw [← e]
  rfl

/-- A column's mean magnitude in the third matrix. -/
theorem column_tall (x : (⟨S5632x2048, .bf16⟩ : BufTy).Contents (Elt Ideal)) (l : Fin 2048) :
    val_main_v22 (F := Ideal) x (ix1 l) = FloatOps.divf (F := Ideal) (φ := .f32) (∑ k : Fin 5632, magAt x k.val l.val : EReal) (FloatOps.ofBits .f32 0x45B00000#32) := by
  rw [val_main_v22_apply, val_main_v20_apply, val_main_v21_apply, val_main_cst_9_apply, val_main_cst_10_apply, zero_word, zero_add]
  have e : (∑ k : Fin 5632, val_main_v19 (F := Ideal) x (idx_main_v20 (ix1 l) k) : EReal) = ∑ k : Fin 5632, magAt x k.val l.val := Finset.sum_congr rfl fun k _ => by
    rw [val_main_v19_apply, val_main_v18_apply]
    show mag (x _) = mag _
    rw [eq_at2 x _ k.val l.val rfl rfl]
  rw [← e]
  rfl

/-- The scale of the third matrix. -/
theorem scale_tall (x : (⟨S5632x2048, .bf16⟩ : BufTy).Contents (Elt Ideal)) (i : S1x1.Idx) :
    val_main_v26 (F := Ideal) x i = scale 5632 2048 (magAt x) 0x45B00000#32 0x45000000#32 := by
  unfold val_main_v26
  refine (scalar_apply _ i (fun a => a.elim0)).trans ?_
  rw [val_main_v25_apply, val_main_v24_apply, val_main_v23_apply, val_main_cst_11_apply, val_main_cst_12_apply, val_main_cst_13_apply, zero_word, zero_add]
  have e : (∑ j : S2048.Idx, val_main_v22 (F := Ideal) x j : EReal) = _ := (sum_vec 2048 _).trans (Finset.sum_congr rfl fun l _ => column_tall x l)
  unfold scale scaleOf
  rw [← e]
  rfl

end Cert.WscaleRefIdeal.Results

namespace Cert.Proof.WscaleClaims

open Idealize.ShloMosaic Idealize.ShloMosaic.TcCoe Idealize.SL.Sem Idealize.ShloMosaic.ValueIdx Cert.Common
open Cert.WscaleRefIdeal.Read Cert.WscaleRefIdeal.Results
open scoped BigOperators

/-- The kernel and its idealization are one text, so the kernel's frame is the idealization's, read at bit patterns. -/
theorem same_text : Cert.quiescent_Wscale = (∀ (m : (ℓ : Loc Cert.WscaleIdeal.nD Cert.WscaleIdeal.τ Cert.WscaleIdeal.sig) → Buf (Elt Bits) ℓ) (g : Dev Cert.WscaleIdeal.nD → PrngReg), True →
    θ_run (Cert.WscaleIdeal.defs (F := Bits)) (onTc (τ := Cert.WscaleIdeal.τ) (Cert.WscaleIdeal.main (F := Bits))) ⟨m, fun _ => 0, g⟩ (fun r => (∀ c : Dev Cert.WscaleIdeal.nD,
r.2.mem ((c.tc : Thread Cert.WscaleIdeal.nD Cert.WscaleIdeal.τ).loc Cert.WscaleIdeal.main_arg0) = m ((c.tc : Thread Cert.WscaleIdeal.nD Cert.WscaleIdeal.τ).loc Cert.WscaleIdeal.main_arg0)
      ∧ r.2.mem ((c.tc : Thread Cert.WscaleIdeal.nD Cert.WscaleIdeal.τ).loc Cert.WscaleIdeal.main_arg1) = m ((c.tc : Thread Cert.WscaleIdeal.nD Cert.WscaleIdeal.τ).loc Cert.WscaleIdeal.main_arg1)
      ∧ r.2.mem ((c.tc : Thread Cert.WscaleIdeal.nD Cert.WscaleIdeal.τ).loc Cert.WscaleIdeal.main_arg2) = m ((c.tc : Thread Cert.WscaleIdeal.nD Cert.WscaleIdeal.τ).loc Cert.WscaleIdeal.main_arg2))
      ∧ r.2.sem = fun _ => 0)) := by
  sl_kernel_rfl

/-- Every execution of the kernel ends, leaving its arguments as they were. -/
theorem frame : Cert.quiescent_Wscale := same_text.mpr fun m ρ _ => Cert.WscaleIdeal.Points.frame (F := Bits) m ρ
/-- … and of its idealization. -/
theorem frame_i : Cert.quiescent_WscaleIdeal := fun m ρ _ => Cert.WscaleIdeal.Points.frame m ρ
/-- … and of the idealized reference. -/
theorem frame_ri : Cert.quiescent_WscaleRefIdeal := fun m ρ _ =>
  (θ_run Cert.WscaleRefIdeal.defs _ _).mono (fun r h => ⟨fun c => (h c).2.2.2, sem_eq_zero_of_no_sems (by decide) r.2⟩)
    (Cert.WscaleRefIdeal.Value.run (F := Ideal) m ρ)

/-- The idealization changes nothing but the instance of the float operations. -/
theorem preserves : Cert.preserves_Wscale_WscaleIdeal := trivial

/-- At exact arithmetic the kernel's three scales are the reference's. -/
theorem algebraic : Cert.algebraic_WscaleIdeal_WscaleRefIdeal := by
  intro m ρ m' ρ' _ hagree
  refine ⟨fun c => (Cert.WscaleIdeal.Points.dats m 0 c).arrAt 3 Cert.WscaleIdeal.cfg0.N, fun c => (Cert.WscaleIdeal.Points.dats m 0 c).arrAt 4 Cert.WscaleIdeal.cfg0.N,
    fun c => (Cert.WscaleIdeal.Points.dats m 0 c).arrAt 5 Cert.WscaleIdeal.cfg0.N, Cert.WscaleIdeal.Results.run m ρ, ?_⟩
  refine (θ_run Cert.WscaleRefIdeal.defs _ _).mono (fun _ h c => ?_) (Cert.WscaleRefIdeal.Value.run (F := Ideal) m' ρ')
  obtain ⟨h0, h1, h2, hr⟩ := h c
  obtain ⟨a0, a1, a2⟩ := hagree c
  refine ⟨(h0.trans (val_main_v8_eq _)).trans ?_, (h1.trans (val_main_v17_eq _)).trans ?_, (h2.trans (val_main_v26_eq _)).trans ?_, hr⟩
  · rw [a0]
    funext i
    exact (scale_wide _ i).trans (Cert.WscaleIdeal.Results.arr3 m c i).symm
  · rw [a1]
    funext i
    exact (scale_wide _ i).trans (Cert.WscaleIdeal.Results.arr4 m c i).symm
  · rw [a2]
    funext i
    exact (scale_tall _ i).trans (Cert.WscaleIdeal.Results.arr5 m c i).symm

end Cert.Proof.WscaleClaims

end
-- ==== Proof.lean ====
/- The claims about the calls of the training step's kernel that this directory takes, put together: for each call its
   frame, the frames of its idealization and of the reference, `preserves`, and the algebraic claim between the two.
   Each is proved in the module `Proof/<call>/Claims.lean` imported here. -/
module

public import proofs.«01_k».proof.Defs
public import proofs.«01_k».proof.Proof.Dw.Claims
public import proofs.«01_k».proof.Proof.Proj.Claims
public import proofs.«01_k».proof.Proof.Xquant.Claims
public import proofs.«01_k».proof.Proof.Wquant.Claims
public import proofs.«01_k».proof.Proof.Wscale.Claims
public import Idealize.ShloMosaic.Adequacy
public import Idealize.ShloMosaic.Init

@[expose] public section

noncomputable section

namespace Cert.Proof

open Idealize.ShloMosaic Idealize.SL.Sem

/-- Everything claimed, one conjunct after the other. -/
theorem claim : Cert.Claim := ⟨Cert.Dw.Gen.facts, Cert.DwIdeal.Gen.facts, Cert.DwRefIdeal.Gen.facts,
  Cert.Proj.Gen.facts, Cert.ProjIdeal.Gen.facts, Cert.ProjRefIdeal.Gen.facts,
  Cert.Xquant.Gen.facts, Cert.XquantIdeal.Gen.facts, Cert.XquantRefIdeal.Gen.facts,
  Cert.Wquant.Gen.facts, Cert.WquantIdeal.Gen.facts, Cert.WquantRefIdeal.Gen.facts,
  Cert.Wscale.Gen.facts, Cert.WscaleIdeal.Gen.facts, Cert.WscaleRefIdeal.Gen.facts, WquantClaims.facts,
  DwClaims.frame, DwClaims.frame_i, DwClaims.frame_ri,
  ProjClaims.frame, ProjClaims.frame_i, ProjClaims.frame_ri,
  XquantClaims.frame, XquantClaims.frame_i, XquantClaims.frame_ri,
  WquantClaims.frame, WquantClaims.frame_i, WquantClaims.frame_i_pos, WquantClaims.frame_ri, WquantClaims.frame_ri_pos,
  WscaleClaims.frame, WscaleClaims.frame_i, WscaleClaims.frame_ri,
  DwClaims.preserves, DwClaims.algebraic,
  ProjClaims.preserves, ProjClaims.algebraic,
  XquantClaims.preserves, XquantClaims.algebraic,
  WquantClaims.preserves, WquantClaims.algebraic,
  WscaleClaims.preserves, WscaleClaims.algebraic⟩

end Cert.Proof

end
